-- ==== Defs.lean ====
def Pre_Dispatch [hPre_rows_nonneg_Dispatch : Cert.Pre_rows_nonneg_Dispatch.Facts] (m : (ℓ : Loc Cert.Dispatch.nD Cert.Dispatch.τ Cert.Dispatch.sig) → Buf (Elt Bits) ℓ) : Prop :=
  ∀ c : Dev Cert.Dispatch.nD,
    (Cert.Pre_rows_nonneg_Dispatch.fn (F := Bits) (m ((c.tc : Thread Cert.Dispatch.nD Cert.Dispatch.τ).loc Cert.Dispatch.main_arg0)) (m ((c.tc : Thread Cert.Dispatch.nD Cert.Dispatch.τ).loc Cert.Dispatch.main_arg1)) (m ((c.tc : Thread Cert.Dispatch.nD Cert.Dispatch.τ).loc Cert.Dispatch.main_arg2))) = (fun _ => 1#1)

def Pre_DispatchIdeal [hPre_rows_nonneg_Dispatch : Cert.Pre_rows_nonneg_Dispatch.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_rows_nonneg_Dispatch.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2))) = (fun _ => 1#1)

def Pre_DispatchRefIdeal (m : (ℓ : Loc Cert.DispatchRefIdeal.nD Cert.DispatchRefIdeal.τ Cert.DispatchRefIdeal.sig) → Buf (Elt Ideal) ℓ) : Prop :=
  True

def Pre_DispatchRefIdeal_rows_nonneg_DispatchRefIdeal [hPre_rows_nonneg_DispatchRefIdeal : Cert.Pre_rows_nonneg_DispatchRefIdeal.Facts] (m : (ℓ : Loc Cert.DispatchRefIdeal.nD Cert.DispatchRefIdeal.τ Cert.DispatchRefIdeal.sig) → Buf (Elt Ideal) ℓ) : Prop :=
  ∀ c : Dev Cert.DispatchRefIdeal.nD,
    (Cert.Pre_rows_nonneg_DispatchRefIdeal.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1)) (m ((c.tc : Thread Cert.DispatchRefIdeal.nD Cert.DispatchRefIdeal.τ).loc Cert.DispatchRefIdeal.main_arg2))) = (fun _ => 1#1)

def Pre_Combine [hPre_slots_nonneg_Combine : Cert.Pre_slots_nonneg_Combine.Facts] (m : (ℓ : Loc Cert.Combine.nD Cert.Combine.τ Cert.Combine.sig) → Buf (Elt Bits) ℓ) : Prop :=
  ∀ c : Dev Cert.Combine.nD,
    (Cert.Pre_slots_nonneg_Combine.fn (F := Bits) (m ((c.tc : Thread Cert.Combine.nD Cert.Combine.τ).loc Cert.Combine.main_arg0)) (m ((c.tc : Thread Cert.Combine.nD Cert.Combine.τ).loc Cert.Combine.main_arg1))) = (fun _ => 1#1)

def Pre_CombineIdeal [hPre_slots_nonneg_Combine : Cert.Pre_slots_nonneg_Combine.Facts] (m : (ℓ : Loc Cert.CombineIdeal.nD Cert.CombineIdeal.τ Cert.CombineIdeal.sig) → Buf (Elt Ideal) ℓ) : Prop :=
  ∀ c : Dev Cert.CombineIdeal.nD,
    (Cert.Pre_slots_nonneg_Combine.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_slots_nonneg_CombineRefIdeal [hPre_slots_nonneg_CombineRefIdeal : Cert.Pre_slots_nonneg_CombineRefIdeal.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_slots_nonneg_CombineRefIdeal.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_GatherIn [hPre_origins_nonneg : Cert.Pre_origins_nonneg.Facts] (m : (ℓ : Loc Cert.GatherIn.nD Cert.GatherIn.τ Cert.GatherIn.sig) → Buf (Elt Bits) ℓ) : Prop :=
  ∀ c : Dev Cert.GatherIn.nD,
    (Cert.Pre_origins_nonneg.fn (F := Bits) (m ((c.tc : Thread Cert.GatherIn.nD Cert.GatherIn.τ).loc Cert.GatherIn.main_arg0)) (m ((c.tc : Thread Cert.GatherIn.nD Cert.GatherIn.τ).loc Cert.GatherIn.main_arg1)) (m ((c.tc : Thread Cert.GatherIn.nD Cert.GatherIn.τ).loc Cert.GatherIn.main_arg2))) = (fun _ => 1#1)

def Pre_GatherInIdeal [hPre_origins_nonneg : Cert.Pre_origins_nonneg.Facts] (m : (ℓ : Loc Cert.GatherInIdeal.nD Cert.GatherInIdeal.τ Cert.GatherInIdeal.sig) → Buf (Elt Ideal) ℓ) : Prop :=
  ∀ c : Dev Cert.GatherInIdeal.nD,
    (Cert.Pre_origins_nonneg.fn (F := Ideal) (m ((c.tc : Thread Cert.GatherInIdeal.nD Cert.GatherInIdeal.τ).loc Cert.GatherInIdeal.main_arg0)) (m ((c.tc : Thread Cert.GatherInIdeal.nD Cert.GatherInIdeal.τ).loc Cert.GatherInIdeal.main_arg1)) (m ((c.tc : Thread Cert.GatherInIdeal.nD Cert.GatherInIdeal.τ).loc Cert.GatherInIdeal.main_arg2))) = (fun _ => 1#1)

def Pre_GatherInRefIdeal (m : (ℓ : Loc Cert.GatherInRefIdeal.nD Cert.GatherInRefIdeal.τ Cert.GatherInRefIdeal.sig) → Buf (Elt Ideal) ℓ) : Prop :=
  True

def Pre_GatherInRefIdeal_origins_nonneg [hPre_origins_nonneg : Cert.Pre_origins_nonneg.Facts] (m : (ℓ : Loc Cert.GatherInRefIdeal.nD Cert.GatherInRefIdeal.τ Cert.GatherInRefIdeal.sig) → Buf (Elt Ideal) ℓ) : Prop :=
  ∀ c : Dev Cert.GatherInRefIdeal.nD,
    (Cert.Pre_origins_nonneg.fn (F := Ideal) (m ((c.tc : Thread Cert.GatherInRefIdeal.nD Cert.GatherInRefIdeal.τ).loc Cert.GatherInRefIdeal.main_arg0)) (m ((c.tc : Thread Cert.GatherInRefIdeal.nD Cert.GatherInRefIdeal.τ).loc Cert.GatherInRefIdeal.main_arg1)) (m ((c.tc : Thread Cert.GatherInRefIdeal.nD Cert.GatherInRefIdeal.τ).loc Cert.GatherInRefIdeal.main_arg2))) = (fun _ => 1#1)

def Pre_GatherOut [hPre_places_nonneg : Cert.Pre_places_nonneg.Facts] (m : (ℓ : Loc Cert.GatherOut.nD Cert.GatherOut.τ Cert.GatherOut.sig) → Buf (Elt Bits) ℓ) : Prop :=
  ∀ c : Dev Cert.GatherOut.nD,
    (Cert.Pre_places_nonneg.fn (F := Bits) (m ((c.tc : Thread Cert.GatherOut.nD Cert.GatherOut.τ).loc Cert.GatherOut.main_arg0)) (m ((c.tc : Thread Cert.GatherOut.nD Cert.GatherOut.τ).loc Cert.GatherOut.main_arg1)) (m ((c.tc : Thread Cert.GatherOut.nD Cert.GatherOut.τ).loc Cert.GatherOut.main_arg2))) = (fun _ => 1#1)

def Pre_GatherOutIdeal [hPre_places_nonneg : Cert.Pre_places_nonneg.Facts] (m : (ℓ : Loc Cert.GatherOutIdeal.nD Cert.GatherOutIdeal.τ Cert.GatherOutIdeal.sig) → Buf (Elt Ideal) ℓ) : Prop :=
  ∀ c : Dev Cert.GatherOutIdeal.nD,
    (Cert.Pre_places_nonneg.fn (F := Ideal) (m ((c.tc : Thread Cert.GatherOutIdeal.nD Cert.GatherOutIdeal.τ).loc Cert.GatherOutIdeal.main_arg0)) (m ((c.tc : Thread Cert.GatherOutIdeal.nD Cert.GatherOutIdeal.τ).loc Cert.GatherOutIdeal.main_arg1)) (m ((c.tc : Thread Cert.GatherOutIdeal.nD Cert.GatherOutIdeal.τ).loc Cert.GatherOutIdeal.main_arg2))) = (fun _ => 1#1)

def Pre_GatherOutRefIdeal (m : (ℓ : Loc Cert.GatherOutRefIdeal.nD Cert.GatherOutRefIdeal.τ Cert.GatherOutRefIdeal.sig) → Buf (Elt Ideal) ℓ) : Prop :=
  True

def Pre_GatherOutRefIdeal_places_nonneg [hPre_places_nonneg : Cert.Pre_places_nonneg.Facts] (m : (ℓ : Loc Cert.GatherOutRefIdeal.nD Cert.GatherOutRefIdeal.τ Cert.GatherOutRefIdeal.sig) → Buf (Elt Ideal) ℓ) : Prop :=
  ∀ c : Dev Cert.GatherOutRefIdeal.nD,
    (Cert.Pre_places_nonneg.fn (F := Ideal) (m ((c.tc : Thread Cert.GatherOutRefIdeal.nD Cert.GatherOutRefIdeal.τ).loc Cert.GatherOutRefIdeal.main_arg0)) (m ((c.tc : Thread Cert.GatherOutRefIdeal.nD Cert.GatherOutRefIdeal.τ).loc Cert.GatherOutRefIdeal.main_arg1)) (m ((c.tc : Thread Cert.GatherOutRefIdeal.nD Cert.GatherOutRefIdeal.τ).loc Cert.GatherOutRefIdeal.main_arg2))) = (fun _ => 1#1)

def quiescent_Dispatch [hDispatch : Cert.Dispatch.Facts] [hPre_rows_nonneg_Dispatch : Cert.Pre_rows_nonneg_Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2))
      ∧ r.2.sem = fun _ => 0)

def quiescent_DispatchIdeal [hDispatchIdeal : Cert.DispatchIdeal.Facts] [hPre_rows_nonneg_Dispatch : Cert.Pre_rows_nonneg_Dispatch.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ r.2.sem = fun _ => 0)

def quiescent_DispatchRefIdeal [hDispatchRefIdeal : Cert.DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1)
      ∧ r.2.mem ((c.tc : Thread Cert.DispatchRefIdeal.nD Cert.DispatchRefIdeal.τ).loc Cert.DispatchRefIdeal.main_arg2) = m ((c.tc : Thread Cert.DispatchRefIdeal.nD Cert.DispatchRefIdeal.τ).loc Cert.DispatchRefIdeal.main_arg2))
      ∧ r.2.sem = fun _ => 0)

def quiescent_DispatchRefIdeal_pre_rows_nonneg_DispatchRefIdeal [hDispatchRefIdeal : Cert.DispatchRefIdeal.Facts] [hPre_rows_nonneg_DispatchRefIdeal : Cert.Pre_rows_nonneg_DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal_rows_nonneg_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1)
      ∧ r.2.mem ((c.tc : Thread Cert.DispatchRefIdeal.nD Cert.DispatchRefIdeal.τ).loc Cert.DispatchRefIdeal.main_arg2) = m ((c.tc : Thread Cert.DispatchRefIdeal.nD Cert.DispatchRefIdeal.τ).loc Cert.DispatchRefIdeal.main_arg2))
      ∧ r.2.sem = fun _ => 0)

def quiescent_Combine [hCombine : Cert.Combine.Facts] [hPre_slots_nonneg_Combine : Cert.Pre_slots_nonneg_Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] [hPre_slots_nonneg_Combine : Cert.Pre_slots_nonneg_Combine.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def quiescent_CombineRefIdeal_pre_slots_nonneg_CombineRefIdeal [hCombineRefIdeal : Cert.CombineRefIdeal.Facts] [hPre_slots_nonneg_CombineRefIdeal : Cert.Pre_slots_nonneg_CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_slots_nonneg_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2))
      ∧ r.2.sem = fun _ => 0)

def quiescent_GatherIn [hGatherIn : Cert.GatherIn.Facts] [hPre_origins_nonneg : Cert.Pre_origins_nonneg.Facts] : Prop :=
  ∀ (m : (ℓ : Loc Cert.GatherIn.nD Cert.GatherIn.τ Cert.GatherIn.sig) → Buf (Elt Bits) ℓ) (g : Dev Cert.GatherIn.nD → PrngReg), Pre_GatherIn m →
    θ_run (Cert.GatherIn.defs (F := Bits)) (onTc (τ := Cert.GatherIn.τ) (Cert.GatherIn.main (F := Bits))) ⟨m, fun _ => 0, g⟩ (fun r => (∀ c : Dev Cert.GatherIn.nD,
      r.2.mem ((c.tc : Thread Cert.GatherIn.nD Cert.GatherIn.τ).loc Cert.GatherIn.main_arg0) = m ((c.tc : Thread Cert.GatherIn.nD Cert.GatherIn.τ).loc Cert.GatherIn.main_arg0)
      ∧ r.2.mem ((c.tc : Thread Cert.GatherIn.nD Cert.GatherIn.τ).loc Cert.GatherIn.main_arg1) = m ((c.tc : Thread Cert.GatherIn.nD Cert.GatherIn.τ).loc Cert.GatherIn.main_arg1)
      ∧ r.2.mem ((c.tc : Thread Cert.GatherIn.nD Cert.GatherIn.τ).loc Cert.GatherIn.main_arg2) = m ((c.tc : Thread Cert.GatherIn.nD Cert.GatherIn.τ).loc Cert.GatherIn.main_arg2))
      ∧ r.2.sem = fun _ => 0)

def quiescent_GatherInIdeal [hGatherInIdeal : Cert.GatherInIdeal.Facts] [hPre_origins_nonneg : Cert.Pre_origins_nonneg.Facts] : Prop :=
  ∀ (m : (ℓ : Loc Cert.GatherInIdeal.nD Cert.GatherInIdeal.τ Cert.GatherInIdeal.sig) → Buf (Elt Ideal) ℓ) (g : Dev Cert.GatherInIdeal.nD → PrngReg), Pre_GatherInIdeal m →
    θ_run (Cert.GatherInIdeal.defs (F := Ideal)) (onTc (τ := Cert.GatherInIdeal.τ) (Cert.GatherInIdeal.main (F := Ideal))) ⟨m, fun _ => 0, g⟩ (fun r => (∀ c : Dev Cert.GatherInIdeal.nD,
      r.2.mem ((c.tc : Thread Cert.GatherInIdeal.nD Cert.GatherInIdeal.τ).loc Cert.GatherInIdeal.main_arg0) = m ((c.tc : Thread Cert.GatherInIdeal.nD Cert.GatherInIdeal.τ).loc Cert.GatherInIdeal.main_arg0)
      ∧ r.2.mem ((c.tc : Thread Cert.GatherInIdeal.nD Cert.GatherInIdeal.τ).loc Cert.GatherInIdeal.main_arg1) = m ((c.tc : Thread Cert.GatherInIdeal.nD Cert.GatherInIdeal.τ).loc Cert.GatherInIdeal.main_arg1)
      ∧ r.2.mem ((c.tc : Thread Cert.GatherInIdeal.nD Cert.GatherInIdeal.τ).loc Cert.GatherInIdeal.main_arg2) = m ((c.tc : Thread Cert.GatherInIdeal.nD Cert.GatherInIdeal.τ).loc Cert.GatherInIdeal.main_arg2))
      ∧ r.2.sem = fun _ => 0)

def quiescent_GatherInRefIdeal [hGatherInRefIdeal : Cert.GatherInRefIdeal.Facts] : Prop :=
  ∀ (m : (ℓ : Loc Cert.GatherInRefIdeal.nD Cert.GatherInRefIdeal.τ Cert.GatherInRefIdeal.sig) → Buf (Elt Ideal) ℓ) (g : Dev Cert.GatherInRefIdeal.nD → PrngReg), Pre_GatherInRefIdeal m →
    θ_run (Cert.GatherInRefIdeal.defs (F := Ideal)) (onTc (τ := Cert.GatherInRefIdeal.τ) (Cert.GatherInRefIdeal.main (F := Ideal))) ⟨m, fun _ => 0, g⟩ (fun r => (∀ c : Dev Cert.GatherInRefIdeal.nD,
      r.2.mem ((c.tc : Thread Cert.GatherInRefIdeal.nD Cert.GatherInRefIdeal.τ).loc Cert.GatherInRefIdeal.main_arg0) = m ((c.tc : Thread Cert.GatherInRefIdeal.nD Cert.GatherInRefIdeal.τ).loc Cert.GatherInRefIdeal.main_arg0)
      ∧ r.2.mem ((c.tc : Thread Cert.GatherInRefIdeal.nD Cert.GatherInRefIdeal.τ).loc Cert.GatherInRefIdeal.main_arg1) = m ((c.tc : Thread Cert.GatherInRefIdeal.nD Cert.GatherInRefIdeal.τ).loc Cert.GatherInRefIdeal.main_arg1)
      ∧ r.2.mem ((c.tc : Thread Cert.GatherInRefIdeal.nD Cert.GatherInRefIdeal.τ).loc Cert.GatherInRefIdeal.main_arg2) = m ((c.tc : Thread Cert.GatherInRefIdeal.nD Cert.GatherInRefIdeal.τ).loc Cert.GatherInRefIdeal.main_arg2))
      ∧ r.2.sem = fun _ => 0)

def quiescent_GatherInRefIdeal_pre_origins_nonneg [hGatherInRefIdeal : Cert.GatherInRefIdeal.Facts] [hPre_origins_nonneg : Cert.Pre_origins_nonneg.Facts] : Prop :=
  ∀ (m : (ℓ : Loc Cert.GatherInRefIdeal.nD Cert.GatherInRefIdeal.τ Cert.GatherInRefIdeal.sig) → Buf (Elt Ideal) ℓ) (g : Dev Cert.GatherInRefIdeal.nD → PrngReg), Pre_GatherInRefIdeal_origins_nonneg m →
    θ_run (Cert.GatherInRefIdeal.defs (F := Ideal)) (onTc (τ := Cert.GatherInRefIdeal.τ) (Cert.GatherInRefIdeal.main (F := Ideal))) ⟨m, fun _ => 0, g⟩ (fun r => (∀ c : Dev Cert.GatherInRefIdeal.nD,
      r.2.mem ((c.tc : Thread Cert.GatherInRefIdeal.nD Cert.GatherInRefIdeal.τ).loc Cert.GatherInRefIdeal.main_arg0) = m ((c.tc : Thread Cert.GatherInRefIdeal.nD Cert.GatherInRefIdeal.τ).loc Cert.GatherInRefIdeal.main_arg0)
      ∧ r.2.mem ((c.tc : Thread Cert.GatherInRefIdeal.nD Cert.GatherInRefIdeal.τ).loc Cert.GatherInRefIdeal.main_arg1) = m ((c.tc : Thread Cert.GatherInRefIdeal.nD Cert.GatherInRefIdeal.τ).loc Cert.GatherInRefIdeal.main_arg1)
      ∧ r.2.mem ((c.tc : Thread Cert.GatherInRefIdeal.nD Cert.GatherInRefIdeal.τ).loc Cert.GatherInRefIdeal.main_arg2) = m ((c.tc : Thread Cert.GatherInRefIdeal.nD Cert.GatherInRefIdeal.τ).loc Cert.GatherInRefIdeal.main_arg2))
      ∧ r.2.sem = fun _ => 0)

def quiescent_GatherOut [hGatherOut : Cert.GatherOut.Facts] [hPre_places_nonneg : Cert.Pre_places_nonneg.Facts] : Prop :=
  ∀ (m : (ℓ : Loc Cert.GatherOut.nD Cert.GatherOut.τ Cert.GatherOut.sig) → Buf (Elt Bits) ℓ) (g : Dev Cert.GatherOut.nD → PrngReg), Pre_GatherOut m →
    θ_run (Cert.GatherOut.defs (F := Bits)) (onTc (τ := Cert.GatherOut.τ) (Cert.GatherOut.main (F := Bits))) ⟨m, fun _ => 0, g⟩ (fun r => (∀ c : Dev Cert.GatherOut.nD,
      r.2.mem ((c.tc : Thread Cert.GatherOut.nD Cert.GatherOut.τ).loc Cert.GatherOut.main_arg0) = m ((c.tc : Thread Cert.GatherOut.nD Cert.GatherOut.τ).loc Cert.GatherOut.main_arg0)
      ∧ r.2.mem ((c.tc : Thread Cert.GatherOut.nD Cert.GatherOut.τ).loc Cert.GatherOut.main_arg1) = m ((c.tc : Thread Cert.GatherOut.nD Cert.GatherOut.τ).loc Cert.GatherOut.main_arg1)
      ∧ r.2.mem ((c.tc : Thread Cert.GatherOut.nD Cert.GatherOut.τ).loc Cert.GatherOut.main_arg2) = m ((c.tc : Thread Cert.GatherOut.nD Cert.GatherOut.τ).loc Cert.GatherOut.main_arg2))
      ∧ r.2.sem = fun _ => 0)

def quiescent_GatherOutIdeal [hGatherOutIdeal : Cert.GatherOutIdeal.Facts] [hPre_places_nonneg : Cert.Pre_places_nonneg.Facts] : Prop :=
  ∀ (m : (ℓ : Loc Cert.GatherOutIdeal.nD Cert.GatherOutIdeal.τ Cert.GatherOutIdeal.sig) → Buf (Elt Ideal) ℓ) (g : Dev Cert.GatherOutIdeal.nD → PrngReg), Pre_GatherOutIdeal m →
    θ_run (Cert.GatherOutIdeal.defs (F := Ideal)) (onTc (τ := Cert.GatherOutIdeal.τ) (Cert.GatherOutIdeal.main (F := Ideal))) ⟨m, fun _ => 0, g⟩ (fun r => (∀ c : Dev Cert.GatherOutIdeal.nD,
      r.2.mem ((c.tc : Thread Cert.GatherOutIdeal.nD Cert.GatherOutIdeal.τ).loc Cert.GatherOutIdeal.main_arg0) = m ((c.tc : Thread Cert.GatherOutIdeal.nD Cert.GatherOutIdeal.τ).loc Cert.GatherOutIdeal.main_arg0)
      ∧ r.2.mem ((c.tc : Thread Cert.GatherOutIdeal.nD Cert.GatherOutIdeal.τ).loc Cert.GatherOutIdeal.main_arg1) = m ((c.tc : Thread Cert.GatherOutIdeal.nD Cert.GatherOutIdeal.τ).loc Cert.GatherOutIdeal.main_arg1)
      ∧ r.2.mem ((c.tc : Thread Cert.GatherOutIdeal.nD Cert.GatherOutIdeal.τ).loc Cert.GatherOutIdeal.main_arg2) = m ((c.tc : Thread Cert.GatherOutIdeal.nD Cert.GatherOutIdeal.τ).loc Cert.GatherOutIdeal.main_arg2))
      ∧ r.2.sem = fun _ => 0)

def quiescent_GatherOutRefIdeal [hGatherOutRefIdeal : Cert.GatherOutRefIdeal.Facts] : Prop :=
  ∀ (m : (ℓ : Loc Cert.GatherOutRefIdeal.nD Cert.GatherOutRefIdeal.τ Cert.GatherOutRefIdeal.sig) → Buf (Elt Ideal) ℓ) (g : Dev Cert.GatherOutRefIdeal.nD → PrngReg), Pre_GatherOutRefIdeal m →
    θ_run (Cert.GatherOutRefIdeal.defs (F := Ideal)) (onTc (τ := Cert.GatherOutRefIdeal.τ) (Cert.GatherOutRefIdeal.main (F := Ideal))) ⟨m, fun _ => 0, g⟩ (fun r => (∀ c : Dev Cert.GatherOutRefIdeal.nD,
      r.2.mem ((c.tc : Thread Cert.GatherOutRefIdeal.nD Cert.GatherOutRefIdeal.τ).loc Cert.GatherOutRefIdeal.main_arg0) = m ((c.tc : Thread Cert.GatherOutRefIdeal.nD Cert.GatherOutRefIdeal.τ).loc Cert.GatherOutRefIdeal.main_arg0)
      ∧ r.2.mem ((c.tc : Thread Cert.GatherOutRefIdeal.nD Cert.GatherOutRefIdeal.τ).loc Cert.GatherOutRefIdeal.main_arg1) = m ((c.tc : Thread Cert.GatherOutRefIdeal.nD Cert.GatherOutRefIdeal.τ).loc Cert.GatherOutRefIdeal.main_arg1)
      ∧ r.2.mem ((c.tc : Thread Cert.GatherOutRefIdeal.nD Cert.GatherOutRefIdeal.τ).loc Cert.GatherOutRefIdeal.main_arg2) = m ((c.tc : Thread Cert.GatherOutRefIdeal.nD Cert.GatherOutRefIdeal.τ).loc Cert.GatherOutRefIdeal.main_arg2))
      ∧ r.2.sem = fun _ => 0)

def quiescent_GatherOutRefIdeal_pre_places_nonneg [hGatherOutRefIdeal : Cert.GatherOutRefIdeal.Facts] [hPre_places_nonneg : Cert.Pre_places_nonneg.Facts] : Prop :=
  ∀ (m : (ℓ : Loc Cert.GatherOutRefIdeal.nD Cert.GatherOutRefIdeal.τ Cert.GatherOutRefIdeal.sig) → Buf (Elt Ideal) ℓ) (g : Dev Cert.GatherOutRefIdeal.nD → PrngReg), Pre_GatherOutRefIdeal_places_nonneg m →
    θ_run (Cert.GatherOutRefIdeal.defs (F := Ideal)) (onTc (τ := Cert.GatherOutRefIdeal.τ) (Cert.GatherOutRefIdeal.main (F := Ideal))) ⟨m, fun _ => 0, g⟩ (fun r => (∀ c : Dev Cert.GatherOutRefIdeal.nD,
      r.2.mem ((c.tc : Thread Cert.GatherOutRefIdeal.nD Cert.GatherOutRefIdeal.τ).loc Cert.GatherOutRefIdeal.main_arg0) = m ((c.tc : Thread Cert.GatherOutRefIdeal.nD Cert.GatherOutRefIdeal.τ).loc Cert.GatherOutRefIdeal.main_arg0)
      ∧ r.2.mem ((c.tc : Thread Cert.GatherOutRefIdeal.nD Cert.GatherOutRefIdeal.τ).loc Cert.GatherOutRefIdeal.main_arg1) = m ((c.tc : Thread Cert.GatherOutRefIdeal.nD Cert.GatherOutRefIdeal.τ).loc Cert.GatherOutRefIdeal.main_arg1)
      ∧ r.2.mem ((c.tc : Thread Cert.GatherOutRefIdeal.nD Cert.GatherOutRefIdeal.τ).loc Cert.GatherOutRefIdeal.main_arg2) = m ((c.tc : Thread Cert.GatherOutRefIdeal.nD Cert.GatherOutRefIdeal.τ).loc Cert.GatherOutRefIdeal.main_arg2))
      ∧ r.2.sem = fun _ => 0)

def preserves_Dispatch_DispatchIdeal : Prop :=
  True

def algebraic_DispatchIdeal_DispatchRefIdeal [hDispatchIdeal : Cert.DispatchIdeal.Facts] [hDispatchRefIdeal : Cert.DispatchRefIdeal.Facts] [hPre_rows_nonneg_Dispatch : Cert.Pre_rows_nonneg_Dispatch.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchRefIdeal.nD Cert.DispatchRefIdeal.τ Cert.DispatchRefIdeal.sig) → Buf (Elt Ideal) ℓ) (g' : Dev Cert.DispatchRefIdeal.nD → PrngReg), Pre_DispatchIdeal m →
    (∀ c : Dev Cert.DispatchIdeal.nD,
      m ((c.tc : Thread Cert.DispatchIdeal.nD Cert.DispatchIdeal.τ).loc Cert.DispatchIdeal.main_arg0) = Layout.blockN ⟨2, ![4096, 2048]⟩ ⟨2, ![8192, 2048]⟩ (Layout.meshBlock [2, 2] ![[1], []] c) (m' (((0 : Dev Cert.DispatchRefIdeal.nD).tc : Thread Cert.DispatchRefIdeal.nD Cert.DispatchRefIdeal.τ).loc Cert.DispatchRefIdeal.main_arg0))
      ∧ m ((c.tc : Thread Cert.DispatchIdeal.nD Cert.DispatchIdeal.τ).loc Cert.DispatchIdeal.main_arg1) = Layout.blockN ⟨2, ![32, 128]⟩ ⟨2, ![64, 128]⟩ (Layout.meshBlock [2, 2] ![[1], []] c) (m' (((0 : Dev Cert.DispatchRefIdeal.nD).tc : Thread Cert.DispatchRefIdeal.nD Cert.DispatchRefIdeal.τ).loc Cert.DispatchRefIdeal.main_arg1))
      ∧ m ((c.tc : Thread Cert.DispatchIdeal.nD Cert.DispatchIdeal.τ).loc Cert.DispatchIdeal.main_arg2) = Layout.blockN ⟨1, ![2304]⟩ ⟨1, ![4608]⟩ (Layout.meshBlock [2, 2] ![[1]] c) (m' (((0 : Dev Cert.DispatchRefIdeal.nD).tc : Thread Cert.DispatchRefIdeal.nD Cert.DispatchRefIdeal.τ).loc Cert.DispatchRefIdeal.main_arg2))) →
    ∃ (v0 : Buf (Elt Ideal) (((0 : Dev Cert.DispatchRefIdeal.nD).tc : Thread Cert.DispatchRefIdeal.nD Cert.DispatchRefIdeal.τ).loc Cert.DispatchRefIdeal.main_v20)) (v1 : Buf (Elt Ideal) (((0 : Dev Cert.DispatchRefIdeal.nD).tc : Thread Cert.DispatchRefIdeal.nD Cert.DispatchRefIdeal.τ).loc Cert.DispatchRefIdeal.main_v21)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v1_0) = Layout.blockN ⟨2, ![2304, 2048]⟩ ⟨2, ![4608, 2048]⟩ (Layout.meshBlock [2, 2] ![[1], []] c) v0
          ∧ r.2.mem ((c.tc : Thread Cert.DispatchIdeal.nD Cert.DispatchIdeal.τ).loc Cert.DispatchIdeal.main_v1_1) = Layout.blockN ⟨2, ![64, 128]⟩ ⟨2, ![128, 128]⟩ (Layout.meshBlock [2, 2] ![[1], []] c) v1
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ θ_run (Cert.DispatchRefIdeal.defs (F := Ideal)) (onTc (τ := Cert.DispatchRefIdeal.τ) (Cert.DispatchRefIdeal.main (F := Ideal))) ⟨m', fun _ => 0, g'⟩ (fun r =>
          r.2.mem (((0 : Dev Cert.DispatchRefIdeal.nD).tc : Thread Cert.DispatchRefIdeal.nD Cert.DispatchRefIdeal.τ).loc Cert.DispatchRefIdeal.main_v20) = v0
          ∧ r.2.mem (((0 : Dev Cert.DispatchRefIdeal.nD).tc : Thread Cert.DispatchRefIdeal.nD Cert.DispatchRefIdeal.τ).loc Cert.DispatchRefIdeal.main_v21) = v1
          ∧ r.2.mem (((0 : Dev Cert.DispatchRefIdeal.nD).tc : Thread Cert.DispatchRefIdeal.nD Cert.DispatchRefIdeal.τ).loc Cert.DispatchRefIdeal.main_arg0) = m' (((0 : Dev Cert.DispatchRefIdeal.nD).tc : Thread Cert.DispatchRefIdeal.nD Cert.DispatchRefIdeal.τ).loc Cert.DispatchRefIdeal.main_arg0)
          ∧ r.2.mem (((0 : Dev Cert.DispatchRefIdeal.nD).tc : Thread Cert.DispatchRefIdeal.nD Cert.DispatchRefIdeal.τ).loc Cert.DispatchRefIdeal.main_arg1) = m' (((0 : Dev Cert.DispatchRefIdeal.nD).tc : Thread Cert.DispatchRefIdeal.nD Cert.DispatchRefIdeal.τ).loc Cert.DispatchRefIdeal.main_arg1)
          ∧ r.2.mem (((0 : Dev Cert.DispatchRefIdeal.nD).tc : Thread Cert.DispatchRefIdeal.nD Cert.DispatchRefIdeal.τ).loc Cert.DispatchRefIdeal.main_arg2) = m' (((0 : Dev Cert.DispatchRefIdeal.nD).tc : Thread Cert.DispatchRefIdeal.nD Cert.DispatchRefIdeal.τ).loc Cert.DispatchRefIdeal.main_arg2))

def preserves_Combine_CombineIdeal : Prop :=
  True

def algebraic_CombineIdeal_CombineRefIdeal [hCombineIdeal : Cert.CombineIdeal.Facts] [hCombineRefIdeal : Cert.CombineRefIdeal.Facts] [hPre_slots_nonneg_Combine : Cert.Pre_slots_nonneg_Combine.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m ((c.tc : Thread Cert.CombineIdeal.nD Cert.CombineIdeal.τ).loc Cert.CombineIdeal.main_arg0) = Layout.blockN ⟨2, ![5120, 2048]⟩ ⟨2, ![10240, 2048]⟩ (Layout.meshBlock [2, 2] ![[1], []] c) (m' (((0 : Dev Cert.CombineRefIdeal.nD).tc : Thread Cert.CombineRefIdeal.nD Cert.CombineRefIdeal.τ).loc Cert.CombineRefIdeal.main_arg0))
      ∧ m ((c.tc : Thread Cert.CombineIdeal.nD Cert.CombineIdeal.τ).loc Cert.CombineIdeal.main_arg1) = Layout.blockN ⟨1, ![2304]⟩ ⟨1, ![4608]⟩ (Layout.meshBlock [2, 2] ![[1]] c) (m' (((0 : Dev Cert.CombineRefIdeal.nD).tc : Thread Cert.CombineRefIdeal.nD Cert.CombineRefIdeal.τ).loc Cert.CombineRefIdeal.main_arg1))) →
    ∃ (v0 : Buf (Elt Ideal) (((0 : Dev Cert.CombineRefIdeal.nD).tc : Thread Cert.CombineRefIdeal.nD Cert.CombineRefIdeal.τ).loc Cert.CombineRefIdeal.main_v18)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = Layout.blockN ⟨2, ![2304, 2048]⟩ ⟨2, ![4608, 2048]⟩ (Layout.meshBlock [2, 2] ![[1], []] c) v0
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.CombineRefIdeal.defs (F := Ideal)) (onTc (τ := Cert.CombineRefIdeal.τ) (Cert.CombineRefIdeal.main (F := Ideal))) ⟨m', fun _ => 0, g'⟩ (fun r =>
          r.2.mem (((0 : Dev Cert.CombineRefIdeal.nD).tc : Thread Cert.CombineRefIdeal.nD Cert.CombineRefIdeal.τ).loc Cert.CombineRefIdeal.main_v18) = v0
          ∧ r.2.mem (((0 : Dev Cert.CombineRefIdeal.nD).tc : Thread Cert.CombineRefIdeal.nD Cert.CombineRefIdeal.τ).loc Cert.CombineRefIdeal.main_arg0) = m' (((0 : Dev Cert.CombineRefIdeal.nD).tc : Thread Cert.CombineRefIdeal.nD Cert.CombineRefIdeal.τ).loc Cert.CombineRefIdeal.main_arg0)
          ∧ r.2.mem (((0 : Dev Cert.CombineRefIdeal.nD).tc : Thread Cert.CombineRefIdeal.nD Cert.CombineRefIdeal.τ).loc Cert.CombineRefIdeal.main_arg1) = m' (((0 : Dev Cert.CombineRefIdeal.nD).tc : Thread Cert.CombineRefIdeal.nD Cert.CombineRefIdeal.τ).loc Cert.CombineRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v3) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2))

def preserves_GatherIn_GatherInIdeal : Prop :=
  True

def algebraic_GatherInIdeal_GatherInRefIdeal [hGatherInIdeal : Cert.GatherInIdeal.Facts] [hGatherInRefIdeal : Cert.GatherInRefIdeal.Facts] [hPre_origins_nonneg : Cert.Pre_origins_nonneg.Facts] : Prop :=
  ∀ (m : (ℓ : Loc Cert.GatherInIdeal.nD Cert.GatherInIdeal.τ Cert.GatherInIdeal.sig) → Buf (Elt Ideal) ℓ) (g : Dev Cert.GatherInIdeal.nD → PrngReg)
    (m' : (ℓ : Loc Cert.GatherInRefIdeal.nD Cert.GatherInRefIdeal.τ Cert.GatherInRefIdeal.sig) → Buf (Elt Ideal) ℓ) (g' : Dev Cert.GatherInRefIdeal.nD → PrngReg), Pre_GatherInIdeal m →
    (∀ c : Dev Cert.GatherInIdeal.nD,
      m' ((c.tc : Thread Cert.GatherInRefIdeal.nD Cert.GatherInRefIdeal.τ).loc Cert.GatherInRefIdeal.main_arg0) = m ((c.tc : Thread Cert.GatherInIdeal.nD Cert.GatherInIdeal.τ).loc Cert.GatherInIdeal.main_arg0)
      ∧ m' ((c.tc : Thread Cert.GatherInRefIdeal.nD Cert.GatherInRefIdeal.τ).loc Cert.GatherInRefIdeal.main_arg1) = m ((c.tc : Thread Cert.GatherInIdeal.nD Cert.GatherInIdeal.τ).loc Cert.GatherInIdeal.main_arg1)
      ∧ m' ((c.tc : Thread Cert.GatherInRefIdeal.nD Cert.GatherInRefIdeal.τ).loc Cert.GatherInRefIdeal.main_arg2) = m ((c.tc : Thread Cert.GatherInIdeal.nD Cert.GatherInIdeal.τ).loc Cert.GatherInIdeal.main_arg2)) →
    ∃ (v0 : (c : Dev Cert.GatherInIdeal.nD) → Buf (Elt Ideal) ((c.tc : Thread Cert.GatherInIdeal.nD Cert.GatherInIdeal.τ).loc Cert.GatherInIdeal.main_v0)),
      θ_run (Cert.GatherInIdeal.defs (F := Ideal)) (onTc (τ := Cert.GatherInIdeal.τ) (Cert.GatherInIdeal.main (F := Ideal))) ⟨m, fun _ => 0, g⟩ (fun r => ∀ c : Dev Cert.GatherInIdeal.nD,
          r.2.mem ((c.tc : Thread Cert.GatherInIdeal.nD Cert.GatherInIdeal.τ).loc Cert.GatherInIdeal.main_v0) = v0 c
          ∧ r.2.mem ((c.tc : Thread Cert.GatherInIdeal.nD Cert.GatherInIdeal.τ).loc Cert.GatherInIdeal.main_arg0) = m ((c.tc : Thread Cert.GatherInIdeal.nD Cert.GatherInIdeal.τ).loc Cert.GatherInIdeal.main_arg0)
          ∧ r.2.mem ((c.tc : Thread Cert.GatherInIdeal.nD Cert.GatherInIdeal.τ).loc Cert.GatherInIdeal.main_arg1) = m ((c.tc : Thread Cert.GatherInIdeal.nD Cert.GatherInIdeal.τ).loc Cert.GatherInIdeal.main_arg1)
          ∧ r.2.mem ((c.tc : Thread Cert.GatherInIdeal.nD Cert.GatherInIdeal.τ).loc Cert.GatherInIdeal.main_arg2) = m ((c.tc : Thread Cert.GatherInIdeal.nD Cert.GatherInIdeal.τ).loc Cert.GatherInIdeal.main_arg2))
      ∧ θ_run (Cert.GatherInRefIdeal.defs (F := Ideal)) (onTc (τ := Cert.GatherInRefIdeal.τ) (Cert.GatherInRefIdeal.main (F := Ideal))) ⟨m', fun _ => 0, g'⟩ (fun r => ∀ c : Dev Cert.GatherInRefIdeal.nD,
          r.2.mem ((c.tc : Thread Cert.GatherInRefIdeal.nD Cert.GatherInRefIdeal.τ).loc Cert.GatherInRefIdeal.main_v7) = v0 c
          ∧ r.2.mem ((c.tc : Thread Cert.GatherInRefIdeal.nD Cert.GatherInRefIdeal.τ).loc Cert.GatherInRefIdeal.main_arg0) = m' ((c.tc : Thread Cert.GatherInRefIdeal.nD Cert.GatherInRefIdeal.τ).loc Cert.GatherInRefIdeal.main_arg0)
          ∧ r.2.mem ((c.tc : Thread Cert.GatherInRefIdeal.nD Cert.GatherInRefIdeal.τ).loc Cert.GatherInRefIdeal.main_arg1) = m' ((c.tc : Thread Cert.GatherInRefIdeal.nD Cert.GatherInRefIdeal.τ).loc Cert.GatherInRefIdeal.main_arg1)
          ∧ r.2.mem ((c.tc : Thread Cert.GatherInRefIdeal.nD Cert.GatherInRefIdeal.τ).loc Cert.GatherInRefIdeal.main_arg2) = m' ((c.tc : Thread Cert.GatherInRefIdeal.nD Cert.GatherInRefIdeal.τ).loc Cert.GatherInRefIdeal.main_arg2))

def preserves_GatherOut_GatherOutIdeal : Prop :=
  True

def algebraic_GatherOutIdeal_GatherOutRefIdeal [hGatherOutIdeal : Cert.GatherOutIdeal.Facts] [hGatherOutRefIdeal : Cert.GatherOutRefIdeal.Facts] [hPre_places_nonneg : Cert.Pre_places_nonneg.Facts] : Prop :=
  ∀ (m : (ℓ : Loc Cert.GatherOutIdeal.nD Cert.GatherOutIdeal.τ Cert.GatherOutIdeal.sig) → Buf (Elt Ideal) ℓ) (g : Dev Cert.GatherOutIdeal.nD → PrngReg)
    (m' : (ℓ : Loc Cert.GatherOutRefIdeal.nD Cert.GatherOutRefIdeal.τ Cert.GatherOutRefIdeal.sig) → Buf (Elt Ideal) ℓ) (g' : Dev Cert.GatherOutRefIdeal.nD → PrngReg), Pre_GatherOutIdeal m →
    (∀ c : Dev Cert.GatherOutIdeal.nD,
      m' ((c.tc : Thread Cert.GatherOutRefIdeal.nD Cert.GatherOutRefIdeal.τ).loc Cert.GatherOutRefIdeal.main_arg0) = m ((c.tc : Thread Cert.GatherOutIdeal.nD Cert.GatherOutIdeal.τ).loc Cert.GatherOutIdeal.main_arg0)
      ∧ m' ((c.tc : Thread Cert.GatherOutRefIdeal.nD Cert.GatherOutRefIdeal.τ).loc Cert.GatherOutRefIdeal.main_arg1) = m ((c.tc : Thread Cert.GatherOutIdeal.nD Cert.GatherOutIdeal.τ).loc Cert.GatherOutIdeal.main_arg1)
      ∧ m' ((c.tc : Thread Cert.GatherOutRefIdeal.nD Cert.GatherOutRefIdeal.τ).loc Cert.GatherOutRefIdeal.main_arg2) = m ((c.tc : Thread Cert.GatherOutIdeal.nD Cert.GatherOutIdeal.τ).loc Cert.GatherOutIdeal.main_arg2)) →
    ∃ (v0 : (c : Dev Cert.GatherOutIdeal.nD) → Buf (Elt Ideal) ((c.tc : Thread Cert.GatherOutIdeal.nD Cert.GatherOutIdeal.τ).loc Cert.GatherOutIdeal.main_v0)),
      θ_run (Cert.GatherOutIdeal.defs (F := Ideal)) (onTc (τ := Cert.GatherOutIdeal.τ) (Cert.GatherOutIdeal.main (F := Ideal))) ⟨m, fun _ => 0, g⟩ (fun r => ∀ c : Dev Cert.GatherOutIdeal.nD,
          r.2.mem ((c.tc : Thread Cert.GatherOutIdeal.nD Cert.GatherOutIdeal.τ).loc Cert.GatherOutIdeal.main_v0) = v0 c
          ∧ r.2.mem ((c.tc : Thread Cert.GatherOutIdeal.nD Cert.GatherOutIdeal.τ).loc Cert.GatherOutIdeal.main_arg0) = m ((c.tc : Thread Cert.GatherOutIdeal.nD Cert.GatherOutIdeal.τ).loc Cert.GatherOutIdeal.main_arg0)
          ∧ r.2.mem ((c.tc : Thread Cert.GatherOutIdeal.nD Cert.GatherOutIdeal.τ).loc Cert.GatherOutIdeal.main_arg1) = m ((c.tc : Thread Cert.GatherOutIdeal.nD Cert.GatherOutIdeal.τ).loc Cert.GatherOutIdeal.main_arg1)
          ∧ r.2.mem ((c.tc : Thread Cert.GatherOutIdeal.nD Cert.GatherOutIdeal.τ).loc Cert.GatherOutIdeal.main_arg2) = m ((c.tc : Thread Cert.GatherOutIdeal.nD Cert.GatherOutIdeal.τ).loc Cert.GatherOutIdeal.main_arg2))
      ∧ θ_run (Cert.GatherOutRefIdeal.defs (F := Ideal)) (onTc (τ := Cert.GatherOutRefIdeal.τ) (Cert.GatherOutRefIdeal.main (F := Ideal))) ⟨m', fun _ => 0, g'⟩ (fun r => ∀ c : Dev Cert.GatherOutRefIdeal.nD,
          r.2.mem ((c.tc : Thread Cert.GatherOutRefIdeal.nD Cert.GatherOutRefIdeal.τ).loc Cert.GatherOutRefIdeal.main_v7) = v0 c
          ∧ r.2.mem ((c.tc : Thread Cert.GatherOutRefIdeal.nD Cert.GatherOutRefIdeal.τ).loc Cert.GatherOutRefIdeal.main_arg0) = m' ((c.tc : Thread Cert.GatherOutRefIdeal.nD Cert.GatherOutRefIdeal.τ).loc Cert.GatherOutRefIdeal.main_arg0)
          ∧ r.2.mem ((c.tc : Thread Cert.GatherOutRefIdeal.nD Cert.GatherOutRefIdeal.τ).loc Cert.GatherOutRefIdeal.main_arg1) = m' ((c.tc : Thread Cert.GatherOutRefIdeal.nD Cert.GatherOutRefIdeal.τ).loc Cert.GatherOutRefIdeal.main_arg1)
          ∧ r.2.mem ((c.tc : Thread Cert.GatherOutRefIdeal.nD Cert.GatherOutRefIdeal.τ).loc Cert.GatherOutRefIdeal.main_arg2) = m' ((c.tc : Thread Cert.GatherOutRefIdeal.nD Cert.GatherOutRefIdeal.τ).loc Cert.GatherOutRefIdeal.main_arg2))

def Claim : Prop :=
  ∃ (hDispatch : Cert.Dispatch.Facts) (hDispatchIdeal : Cert.DispatchIdeal.Facts) (hDispatchRefIdeal : Cert.DispatchRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hExpertsRefIdeal : Cert.ExpertsRefIdeal.Facts) (hGatherIn : Cert.GatherIn.Facts) (hGatherInIdeal : Cert.GatherInIdeal.Facts) (hGatherInRefIdeal : Cert.GatherInRefIdeal.Facts) (hGatherOut : Cert.GatherOut.Facts) (hGatherOutIdeal : Cert.GatherOutIdeal.Facts) (hGatherOutRefIdeal : Cert.GatherOutRefIdeal.Facts) (hPre_rows_nonneg_Dispatch : Cert.Pre_rows_nonneg_Dispatch.Facts) (hPre_rows_nonneg_DispatchRefIdeal : Cert.Pre_rows_nonneg_DispatchRefIdeal.Facts) (hPre_slots_nonneg_Combine : Cert.Pre_slots_nonneg_Combine.Facts) (hPre_slots_nonneg_CombineRefIdeal : Cert.Pre_slots_nonneg_CombineRefIdeal.Facts) (hPre_origins_nonneg : Cert.Pre_origins_nonneg.Facts) (hPre_places_nonneg : Cert.Pre_places_nonneg.Facts),
    quiescent_Dispatch (hDispatch := hDispatch) (hPre_rows_nonneg_Dispatch := hPre_rows_nonneg_Dispatch)
    ∧ quiescent_DispatchIdeal (hDispatchIdeal := hDispatchIdeal) (hPre_rows_nonneg_Dispatch := hPre_rows_nonneg_Dispatch)
    ∧ quiescent_DispatchRefIdeal (hDispatchRefIdeal := hDispatchRefIdeal)
    ∧ quiescent_DispatchRefIdeal_pre_rows_nonneg_DispatchRefIdeal (hDispatchRefIdeal := hDispatchRefIdeal) (hPre_rows_nonneg_DispatchRefIdeal := hPre_rows_nonneg_DispatchRefIdeal)
    ∧ quiescent_Combine (hCombine := hCombine) (hPre_slots_nonneg_Combine := hPre_slots_nonneg_Combine)
    ∧ quiescent_CombineIdeal (hCombineIdeal := hCombineIdeal) (hPre_slots_nonneg_Combine := hPre_slots_nonneg_Combine)
    ∧ quiescent_CombineRefIdeal (hCombineRefIdeal := hCombineRefIdeal)
    ∧ quiescent_CombineRefIdeal_pre_slots_nonneg_CombineRefIdeal (hCombineRefIdeal := hCombineRefIdeal) (hPre_slots_nonneg_CombineRefIdeal := hPre_slots_nonneg_CombineRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_GatherIn (hGatherIn := hGatherIn) (hPre_origins_nonneg := hPre_origins_nonneg)
    ∧ quiescent_GatherInIdeal (hGatherInIdeal := hGatherInIdeal) (hPre_origins_nonneg := hPre_origins_nonneg)
    ∧ quiescent_GatherInRefIdeal (hGatherInRefIdeal := hGatherInRefIdeal)
    ∧ quiescent_GatherInRefIdeal_pre_origins_nonneg (hGatherInRefIdeal := hGatherInRefIdeal) (hPre_origins_nonneg := hPre_origins_nonneg)
    ∧ quiescent_GatherOut (hGatherOut := hGatherOut) (hPre_places_nonneg := hPre_places_nonneg)
    ∧ quiescent_GatherOutIdeal (hGatherOutIdeal := hGatherOutIdeal) (hPre_places_nonneg := hPre_places_nonneg)
    ∧ quiescent_GatherOutRefIdeal (hGatherOutRefIdeal := hGatherOutRefIdeal)
    ∧ quiescent_GatherOutRefIdeal_pre_places_nonneg (hGatherOutRefIdeal := hGatherOutRefIdeal) (hPre_places_nonneg := hPre_places_nonneg)
    ∧ preserves_Dispatch_DispatchIdeal
    ∧ algebraic_DispatchIdeal_DispatchRefIdeal (hDispatchIdeal := hDispatchIdeal) (hDispatchRefIdeal := hDispatchRefIdeal) (hPre_rows_nonneg_Dispatch := hPre_rows_nonneg_Dispatch)
    ∧ preserves_Combine_CombineIdeal
    ∧ algebraic_CombineIdeal_CombineRefIdeal (hCombineIdeal := hCombineIdeal) (hCombineRefIdeal := hCombineRefIdeal) (hPre_slots_nonneg_Combine := hPre_slots_nonneg_Combine)
    ∧ preserves_Experts_ExpertsIdeal
    ∧ algebraic_ExpertsIdeal_ExpertsRefIdeal (hExpertsIdeal := hExpertsIdeal) (hExpertsRefIdeal := hExpertsRefIdeal)
    ∧ preserves_GatherIn_GatherInIdeal
    ∧ algebraic_GatherInIdeal_GatherInRefIdeal (hGatherInIdeal := hGatherInIdeal) (hGatherInRefIdeal := hGatherInRefIdeal) (hPre_origins_nonneg := hPre_origins_nonneg)
    ∧ preserves_GatherOut_GatherOutIdeal
    ∧ algebraic_GatherOutIdeal_GatherOutRefIdeal (hGatherOutIdeal := hGatherOutIdeal) (hGatherOutRefIdeal := hGatherOutRefIdeal) (hPre_places_nonneg := hPre_places_nonneg)
-- ==== Pre_origins_nonneg.lean ====
abbrev S4096x2048 : Shape := ⟨2, ![4096, 2048]⟩
abbrev S2304x2048 : Shape := ⟨2, ![2304, 2048]⟩
abbrev S5120 : Shape := ⟨1, ![5120]⟩
abbrev S_ : Shape := ⟨0, ![]⟩

class Facts : Prop where
  bcast_S_S5120 : S_.BroadcastsInDim S5120 (![] : Fin 0 → Fin S5120.rank)
  reducesTo_S5120_S_d0 : S5120.ReducesTo [0] S_
  h_S_ : 0 < S_.numel

variable [Facts]

def fn {F : FTy → Type} [FloatOps F] (main_arg0 : FVec F S4096x2048 .f32) (main_arg1 : FVec F S2304x2048 .f32) (main_arg2 : IVec S5120 32) : IVec S_ 1 :=
  let main_c : IVec S_ 32 := constantI S_ 32 0#32
  let main_v0 : IVec S5120 32 := broadcastInDim S5120 ![] bcast_S_S5120 main_c
  let main_v1 : IVec S5120 1 := cmpi .sge main_arg2 main_v0
  let main_c_0 : IVec S_ 1 := constantI S_ 1 1#1
  let main_v2 : IVec S_ 1 := (fun x v => Host.reduce IntOp.andi x v reducesTo_S5120_S_d0 h_S_) main_v1 main_c_0
  main_v2
-- ==== Pre_places_nonneg.lean ====
abbrev S5120x2048 : Shape := ⟨2, ![5120, 2048]⟩
abbrev S2304x2048 : Shape := ⟨2, ![2304, 2048]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S5120x2048 .f32) (main_arg1 : FVec F S2304x2048 .f32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 1 := constantI S_ 1 1#1
  let main_v2 : IVec S_ 1 := (fun x v => Host.reduce IntOp.andi x v reducesTo_S4096_S_d0 h_S_) main_v1 main_c_0
  main_v2
-- ==== Pre_rows_nonneg_Dispatch.lean ====
abbrev S4096x2048 : Shape := ⟨2, ![4096, 2048]⟩
abbrev S32x128 : Shape := ⟨2, ![32, 128]⟩
abbrev S2304 : Shape := ⟨1, ![2304]⟩
abbrev S_ : Shape := ⟨0, ![]⟩

class Facts : Prop where
  bcast_S_S2304 : S_.BroadcastsInDim S2304 (![] : Fin 0 → Fin S2304.rank)
  reducesTo_S2304_S_d0 : S2304.ReducesTo [0] S_
  h_S_ : 0 < S_.numel

variable [Facts]

def fn {F : FTy → Type} [FloatOps F] (main_arg0 : FVec F S4096x2048 .f32) (main_arg1 : IVec S32x128 32) (main_arg2 : IVec S2304 32) : IVec S_ 1 :=
  let main_c : IVec S_ 32 := constantI S_ 32 0#32
  let main_v0 : IVec S2304 32 := broadcastInDim S2304 ![] bcast_S_S2304 main_c
  let main_v1 : IVec S2304 1 := cmpi .sge main_arg2 main_v0
  let main_c_0 : IVec S_ 1 := constantI S_ 1 1#1
  let main_v2 : IVec S_ 1 := (fun x v => Host.reduce IntOp.andi x v reducesTo_S2304_S_d0 h_S_) main_v1 main_c_0
  main_v2
-- ==== Pre_rows_nonneg_DispatchRefIdeal.lean ====
abbrev S8192x2048 : Shape := ⟨2, ![8192, 2048]⟩
abbrev S64x128 : Shape := ⟨2, ![64, 128]⟩
abbrev S4608 : Shape := ⟨1, ![4608]⟩
abbrev S_ : Shape := ⟨0, ![]⟩

class Facts : Prop where
  bcast_S_S4608 : S_.BroadcastsInDim S4608 (![] : Fin 0 → Fin S4608.rank)
  reducesTo_S4608_S_d0 : S4608.ReducesTo [0] S_
  h_S_ : 0 < S_.numel

variable [Facts]

def fn {F : FTy → Type} [FloatOps F] (main_arg0 : FVec F S8192x2048 .f32) (main_arg1 : IVec S64x128 32) (main_arg2 : IVec S4608 32) : IVec S_ 1 :=
  let main_c : IVec S_ 32 := constantI S_ 32 0#32
  let main_v0 : IVec S4608 32 := broadcastInDim S4608 ![] bcast_S_S4608 main_c
  let main_v1 : IVec S4608 1 := cmpi .sge main_arg2 main_v0
  let main_c_0 : IVec S_ 1 := constantI S_ 1 1#1
  let main_v2 : IVec S_ 1 := (fun x v => Host.reduce IntOp.andi x v reducesTo_S4608_S_d0 h_S_) main_v1 main_c_0
  main_v2
-- ==== Pre_slots_nonneg_Combine.lean ====
abbrev S5120x2048 : Shape := ⟨2, ![5120, 2048]⟩
abbrev S2304 : Shape := ⟨1, ![2304]⟩
abbrev S_ : Shape := ⟨0, ![]⟩

class Facts : Prop where
  bcast_S_S2304 : S_.BroadcastsInDim S2304 (![] : Fin 0 → Fin S2304.rank)
  reducesTo_S2304_S_d0 : S2304.ReducesTo [0] S_
  h_S_ : 0 < S_.numel

variable [Facts]

def fn {F : FTy → Type} [FloatOps F] (main_arg0 : FVec F S5120x2048 .f32) (main_arg1 : IVec S2304 32) : IVec S_ 1 :=
  let main_c : IVec S_ 32 := constantI S_ 32 0#32
  let main_v0 : IVec S2304 32 := broadcastInDim S2304 ![] bcast_S_S2304 main_c
  let main_v1 : IVec S2304 1 := cmpi .sge main_arg1 main_v0
  let main_c_0 : IVec S_ 1 := constantI S_ 1 1#1
  let main_v2 : IVec S_ 1 := (fun x v => Host.reduce IntOp.andi x v reducesTo_S2304_S_d0 h_S_) main_v1 main_c_0
  main_v2
-- ==== Pre_slots_nonneg_CombineRefIdeal.lean ====
abbrev S10240x2048 : Shape := ⟨2, ![10240, 2048]⟩
abbrev S4608 : Shape := ⟨1, ![4608]⟩
abbrev S_ : Shape := ⟨0, ![]⟩

class Facts : Prop where
  bcast_S_S4608 : S_.BroadcastsInDim S4608 (![] : Fin 0 → Fin S4608.rank)
  reducesTo_S4608_S_d0 : S4608.ReducesTo [0] S_
  h_S_ : 0 < S_.numel

variable [Facts]

def fn {F : FTy → Type} [FloatOps F] (main_arg0 : FVec F S10240x2048 .f32) (main_arg1 : IVec S4608 32) : IVec S_ 1 :=
  let main_c : IVec S_ 32 := constantI S_ 32 0#32
  let main_v0 : IVec S4608 32 := broadcastInDim S4608 ![] bcast_S_S4608 main_c
  let main_v1 : IVec S4608 1 := cmpi .sge main_arg1 main_v0
  let main_c_0 : IVec S_ 1 := constantI S_ 1 1#1
  let main_v2 : IVec S_ 1 := (fun x v => Host.reduce IntOp.andi x v reducesTo_S4608_S_d0 h_S_) main_v1 main_c_0
  main_v2
-- ==== Dispatch.lean ====
abbrev S4096x2048 : Shape := ⟨2, ![4096, 2048]⟩
abbrev S32x128 : Shape := ⟨2, ![32, 128]⟩
abbrev S2304 : Shape := ⟨1, ![2304]⟩
abbrev S2304x2048 : Shape := ⟨2, ![2304, 2048]⟩
abbrev S64x128 : Shape := ⟨2, ![64, 128]⟩
abbrev S_ : Shape := ⟨0, ![]⟩
abbrev S5 : Shape := ⟨1, ![5]⟩
abbrev S1 : Shape := ⟨1, ![1]⟩
abbrev S1x2048 : Shape := ⟨2, ![1, 2048]⟩
abbrev S576x2048 : Shape := ⟨2, ![576, 2048]⟩

abbrev nBuf : Space → Nat
  | .hbm => 5
  | .vmem => 1
  | .smem => 1
  | _ => 0

abbrev bufTy : (tb : Table) → Fin (tcTables nBuf tb) → BufTy
  | .hbm, ⟨0, _⟩ => ⟨S4096x2048, .f32⟩
  | .hbm, ⟨1, _⟩ => ⟨S32x128, .i32⟩
  | .hbm, ⟨2, _⟩ => ⟨S2304, .i32⟩
  | .hbm, ⟨3, _⟩ => ⟨S2304x2048, .f32⟩
  | .hbm, ⟨4, _⟩ => ⟨S64x128, .i32⟩
  | .local _ .vmem, ⟨0, _⟩ => ⟨S2304x2048, .f32⟩
  | .local _ .smem, ⟨0, _⟩ => ⟨S2304, .i32⟩
  | _, _ => ⟨S4096x2048, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_scratch0 : Ref sig .tc := ⟨.vmem, 0, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v13 : BitVec 32 := Scalar.muli v2 c2_i32_11
  let v14 : BitVec 32 := Scalar.addi c0_i32_12 v13
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v15 : BitVec 32 := Scalar.muli v6 c1_i32_13
  let v16 : BitVec 32 := Scalar.addi v14 v15
  v16.toNat
@[reducible] def k0_t1_loop : Scf.Loop 32 :=
  let c0_i32_15 : BitVec 32 := 0#32
  let c576_i32 : BitVec 32 := 576#32
  let v22 : BitVec 32 := Scalar.addi c0_i32_15 c576_i32
  let c1_i32_16 : BitVec 32 := 1#32
  ⟨c0_i32_15, v22, c1_i32_16⟩
def k0_off1 (k0_t1 : Fin k0_t1_loop.trips) : Fin 1 → Nat :=
  let c0_i32_15 : BitVec 32 := 0#32
  let c1_i32_16 : BitVec 32 := 1#32
  let arg10 : BitVec 32 := Scf.iv c0_i32_15 c1_i32_16 k0_t1
  let v129 : Index := Scalar.indexCast arg10
  ![v129.toNat]
def k0_off2 (k0_t1 : Fin k0_t1_loop.trips) : Fin 2 → Nat :=
  let c0_i32_15 : BitVec 32 := 0#32
  let c1_i32_16 : BitVec 32 := 1#32
  let arg10 : BitVec 32 := Scf.iv c0_i32_15 c1_i32_16 k0_t1
  let c0_i32_152 : BitVec 32 := 0#32
  ![arg10.toNat, 0]
def k0_off3 (v130 : BitVec 32) : Fin 2 → Nat :=
  let c4095_i32 : BitVec 32 := 4095#32
  let v131 : BitVec 32 := Scalar.minsi v130 c4095_i32
  let c0_i32_153 : BitVec 32 := 0#32
  ![v131.toNat, 0]

def k0_chk1 (v130 : BitVec 32) : Prop :=
  (∀ a, (k0_off3 v130) a + S1x2048.size a ≤ S4096x2048.size a)
theorem k0_off3_inb : ∀ (v130 : BitVec 32) (k0_hw1 : k0_chk1 v130), ∀ a, (k0_off3 v130) a + S1x2048.size a ≤ S4096x2048.size a := fun v130 k0_hw1 => k0_hw1

@[reducible] def k0_t2_loop : Scf.Loop 32 :=
  let c0_i32_18 : BitVec 32 := 0#32
  let c576_i32_19 : BitVec 32 := 576#32
  let v23 : BitVec 32 := Scalar.addi c0_i32_18 c576_i32_19
  let c1_i32_20 : BitVec 32 := 1#32
  ⟨c0_i32_18, v23, c1_i32_20⟩
def k0_dev3 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v24 : BitVec 32 := Scalar.muli v2 c2_i32_23
  let v25 : BitVec 32 := Scalar.addi c0_i32_24 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v26 : BitVec 32 := Scalar.muli v6 c1_i32_25
  let v27 : BitVec 32 := Scalar.addi v25 v26
  v27.toNat
@[reducible] def k0_t3_loop : Scf.Loop 32 :=
  let c576_i32_30 : BitVec 32 := 576#32
  let c576_i32_31 : BitVec 32 := 576#32
  let v34 : BitVec 32 := Scalar.addi c576_i32_30 c576_i32_31
  let c1_i32_32 : BitVec 32 := 1#32
  ⟨c576_i32_30, v34, c1_i32_32⟩
def k0_off4 (k0_t3 : Fin k0_t3_loop.trips) : Fin 1 → Nat :=
  let c576_i32_30 : BitVec 32 := 576#32
  let c1_i32_32 : BitVec 32 := 1#32
  let arg10 : BitVec 32 := Scf.iv c576_i32_30 c1_i32_32 k0_t3
  let v129 : Index := Scalar.indexCast arg10
  ![v129.toNat]
def k0_off5 (k0_t3 : Fin k0_t3_loop.trips) : Fin 2 → Nat :=
  let c576_i32_30 : BitVec 32 := 576#32
  let c1_i32_32 : BitVec 32 := 1#32
  let arg10 : BitVec 32 := Scf.iv c576_i32_30 c1_i32_32 k0_t3
  let c0_i32_152 : BitVec 32 := 0#32
  ![arg10.toNat, 0]
def k0_off6 (v130 : BitVec 32) : Fin 2 → Nat :=
  let c4095_i32 : BitVec 32 := 4095#32
  let v131 : BitVec 32 := Scalar.minsi v130 c4095_i32
  let c0_i32_153 : BitVec 32 := 0#32
  ![v131.toNat, 0]

def k0_chk2 (v130 : BitVec 32) : Prop :=
  (∀ a, (k0_off6 v130) a + S1x2048.size a ≤ S4096x2048.size a)
theorem k0_off6_inb : ∀ (v130 : BitVec 32) (k0_hw2 : k0_chk2 v130), ∀ a, (k0_off6 v130) a + S1x2048.size a ≤ S4096x2048.size a := fun v130 k0_hw2 => k0_hw2

@[reducible] def k0_t4_loop : Scf.Loop 32 :=
  let c0_i32_34 : BitVec 32 := 0#32
  let c576_i32_35 : BitVec 32 := 576#32
  let v35 : BitVec 32 := Scalar.addi c0_i32_34 c576_i32_35
  let c1_i32_36 : BitVec 32 := 1#32
  ⟨c0_i32_34, v35, c1_i32_36⟩
def k0_dev4 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v36 : BitVec 32 := Scalar.muli v2 c2_i32_39
  let v37 : BitVec 32 := Scalar.addi c0_i32_40 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_41 : BitVec 32 := 1#32
  let v38 : BitVec 32 := Scalar.muli v6 c1_i32_41
  let v39 : BitVec 32 := Scalar.addi v37 v38
  v39.toNat
@[reducible] def k0_t5_loop : Scf.Loop 32 :=
  let c1152_i32 : BitVec 32 := 1152#32
  let c576_i32_46 : BitVec 32 := 576#32
  let v46 : BitVec 32 := Scalar.addi c1152_i32 c576_i32_46
  let c1_i32_47 : BitVec 32 := 1#32
  ⟨c1152_i32, v46, c1_i32_47⟩
def k0_off7 (k0_t5 : Fin k0_t5_loop.trips) : Fin 1 → Nat :=
  let c1152_i32 : BitVec 32 := 1152#32
  let c1_i32_47 : BitVec 32 := 1#32
  let arg10 : BitVec 32 := Scf.iv c1152_i32 c1_i32_47 k0_t5
  let v129 : Index := Scalar.indexCast arg10
  ![v129.toNat]
def k0_off8 (k0_t5 : Fin k0_t5_loop.trips) : Fin 2 → Nat :=
  let c1152_i32 : BitVec 32 := 1152#32
  let c1_i32_47 : BitVec 32 := 1#32
  let arg10 : BitVec 32 := Scf.iv c1152_i32 c1_i32_47 k0_t5
  let c0_i32_152 : BitVec 32 := 0#32
  ![arg10.toNat, 0]
def k0_off9 (v130 : BitVec 32) : Fin 2 → Nat :=
  let c4095_i32 : BitVec 32 := 4095#32
  let v131 : BitVec 32 := Scalar.minsi v130 c4095_i32
  let c0_i32_153 : BitVec 32 := 0#32
  ![v131.toNat, 0]

def k0_chk3 (v130 : BitVec 32) : Prop :=
  (∀ a, (k0_off9 v130) a + S1x2048.size a ≤ S4096x2048.size a)
theorem k0_off9_inb : ∀ (v130 : BitVec 32) (k0_hw3 : k0_chk3 v130), ∀ a, (k0_off9 v130) a + S1x2048.size a ≤ S4096x2048.size a := fun v130 k0_hw3 => k0_hw3

@[reducible] def k0_t6_loop : Scf.Loop 32 :=
  let c0_i32_49 : BitVec 32 := 0#32
  let c576_i32_50 : BitVec 32 := 576#32
  let v47 : BitVec 32 := Scalar.addi c0_i32_49 c576_i32_50
  let c1_i32_51 : BitVec 32 := 1#32
  ⟨c0_i32_49, v47, c1_i32_51⟩
def k0_dev5 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v48 : BitVec 32 := Scalar.muli v2 c2_i32_53
  let v49 : BitVec 32 := Scalar.addi c0_i32_54 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v50 : BitVec 32 := Scalar.muli v6 c1_i32_55
  let v51 : BitVec 32 := Scalar.addi v49 v50
  v51.toNat
@[reducible] def k0_t7_loop : Scf.Loop 32 :=
  let c1728_i32 : BitVec 32 := 1728#32
  let c576_i32_60 : BitVec 32 := 576#32
  let v58 : BitVec 32 := Scalar.addi c1728_i32 c576_i32_60
  let c1_i32_61 : BitVec 32 := 1#32
  ⟨c1728_i32, v58, c1_i32_61⟩
def k0_off10 (k0_t7 : Fin k0_t7_loop.trips) : Fin 1 → Nat :=
  let c1728_i32 : BitVec 32 := 1728#32
  let c1_i32_61 : BitVec 32 := 1#32
  let arg10 : BitVec 32 := Scf.iv c1728_i32 c1_i32_61 k0_t7
  let v129 : Index := Scalar.indexCast arg10
  ![v129.toNat]
def k0_off11 (k0_t7 : Fin k0_t7_loop.trips) : Fin 2 → Nat :=
  let c1728_i32 : BitVec 32 := 1728#32
  let c1_i32_61 : BitVec 32 := 1#32
  let arg10 : BitVec 32 := Scf.iv c1728_i32 c1_i32_61 k0_t7
  let c0_i32_152 : BitVec 32 := 0#32
  ![arg10.toNat, 0]
def k0_off12 (v130 : BitVec 32) : Fin 2 → Nat :=
  let c4095_i32 : BitVec 32 := 4095#32
  let v131 : BitVec 32 := Scalar.minsi v130 c4095_i32
  let c0_i32_153 : BitVec 32 := 0#32
  ![v131.toNat, 0]

def k0_chk4 (v130 : BitVec 32) : Prop :=
  (∀ a, (k0_off12 v130) a + S1x2048.size a ≤ S4096x2048.size a)
theorem k0_off12_inb : ∀ (v130 : BitVec 32) (k0_hw4 : k0_chk4 v130), ∀ a, (k0_off12 v130) a + S1x2048.size a ≤ S4096x2048.size a := fun v130 k0_hw4 => k0_hw4

@[reducible] def k0_t8_loop : Scf.Loop 32 :=
  let c0_i32_63 : BitVec 32 := 0#32
  let c576_i32_64 : BitVec 32 := 576#32
  let v59 : BitVec 32 := Scalar.addi c0_i32_63 c576_i32_64
  let c1_i32_65 : BitVec 32 := 1#32
  ⟨c0_i32_63, v59, c1_i32_65⟩
def k0_dev6 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v60 : BitVec 32 := Scalar.muli v2 c2_i32_67
  let v61 : BitVec 32 := Scalar.addi c0_i32_68 v60
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v62 : BitVec 32 := Scalar.muli v6 c1_i32_69
  let v63 : BitVec 32 := Scalar.addi v61 v62
  v63.toNat
abbrev stage0_0 : Fin 1 → Memref sig .tc .smem S2304 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== DispatchRefIdeal.lean ====
abbrev S8192x2048 : Shape := ⟨2, ![8192, 2048]⟩
abbrev S64x128 : Shape := ⟨2, ![64, 128]⟩
abbrev S4608 : Shape := ⟨1, ![4608]⟩
abbrev S4096x2048 : Shape := ⟨2, ![4096, 2048]⟩
abbrev S2304 : Shape := ⟨1, ![2304]⟩
abbrev S_ : Shape := ⟨0, ![]⟩
abbrev S2304x1 : Shape := ⟨2, ![2304, 1]⟩
abbrev S2304x2048 : Shape := ⟨2, ![2304, 2048]⟩
abbrev S32x128 : Shape := ⟨2, ![32, 128]⟩
abbrev S4608x2048 : Shape := ⟨2, ![4608, 2048]⟩
abbrev S128x128 : Shape := ⟨2, ![128, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x128, .i32⟩
  | .hbm, ⟨2, _⟩ => ⟨S4608, .i32⟩
  | .hbm, ⟨3, _⟩ => ⟨S4096x2048, .f32⟩
  | .hbm, ⟨4, _⟩ => ⟨S2304, .i32⟩
  | .hbm, ⟨5, _⟩ => ⟨S_, .i32⟩
  | .hbm, ⟨6, _⟩ => ⟨S2304, .i32⟩
  | .hbm, ⟨7, _⟩ => ⟨S2304, .i1⟩
  | .hbm, ⟨8, _⟩ => ⟨S_, .i32⟩
  | .hbm, ⟨9, _⟩ => ⟨S2304, .i32⟩
  | .hbm, ⟨10, _⟩ => ⟨S2304, .i32⟩
  | .hbm, ⟨11, _⟩ => ⟨S2304, .i32⟩
  | .hbm, ⟨12, _⟩ => ⟨S2304x1, .i32⟩
  | .hbm, ⟨13, _⟩ => ⟨S2304x2048, .f32⟩
  | .hbm, ⟨14, _⟩ => ⟨S4096x2048, .f32⟩
  | .hbm, ⟨15, _⟩ => ⟨S2304, .i32⟩
  | .hbm, ⟨16, _⟩ => ⟨S_, .i32⟩
  | .hbm, ⟨17, _⟩ => ⟨S2304, .i32⟩
  | .hbm, ⟨18, _⟩ => ⟨S2304, .i1⟩
  | .hbm, ⟨19, _⟩ => ⟨S_, .i32⟩
  | .hbm, ⟨20, _⟩ => ⟨S2304, .i32⟩
  | .hbm, ⟨21, _⟩ => ⟨S2304, .i32⟩
  | .hbm, ⟨22, _⟩ => ⟨S2304, .i32⟩
  | .hbm, ⟨23, _⟩ => ⟨S2304x1, .i32⟩
  | .hbm, ⟨24, _⟩ => ⟨S2304x2048, .f32⟩
  | .hbm, ⟨25, _⟩ => ⟨S32x128, .i32⟩
  | .hbm, ⟨26, _⟩ => ⟨S32x128, .i32⟩
  | .hbm, ⟨27, _⟩ => ⟨S4608x2048, .f32⟩
  | .hbm, ⟨28, _⟩ => ⟨S128x128, .i32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Combine.lean ====
abbrev S5120x2048 : Shape := ⟨2, ![5120, 2048]⟩
abbrev S2304 : Shape := ⟨1, ![2304]⟩
abbrev S2304x2048 : Shape := ⟨2, ![2304, 2048]⟩
abbrev S_ : Shape := ⟨0, ![]⟩
abbrev S4 : Shape := ⟨1, ![4]⟩
abbrev S1 : Shape := ⟨1, ![1]⟩
abbrev S1x2048 : Shape := ⟨2, ![1, 2048]⟩
abbrev S576x2048 : Shape := ⟨2, ![576, 2048]⟩

abbrev nBuf : Space → Nat
  | .hbm => 3
  | .vmem => 1
  | .smem => 1
  | _ => 0

abbrev bufTy : (tb : Table) → Fin (tcTables nBuf tb) → BufTy
  | .hbm, ⟨0, _⟩ => ⟨S5120x2048, .f32⟩
  | .hbm, ⟨1, _⟩ => ⟨S2304, .i32⟩
  | .hbm, ⟨2, _⟩ => ⟨S2304x2048, .f32⟩
  | .local _ .vmem, ⟨0, _⟩ => ⟨S2304x2048, .f32⟩
  | .local _ .smem, ⟨0, _⟩ => ⟨S2304, .i32⟩
  | _, _ => ⟨S5120x2048, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_stg0_0 : Ref sig .tc := ⟨.smem, 0, rfl⟩
abbrev cc0_sem0_0 : DmaSem sig := 0
abbrev barrier1 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
@[reducible] def k0_t1_loop : Scf.Loop 32 :=
  let c0_i32_7 : BitVec 32 := 0#32
  let c576_i32 : BitVec 32 := 576#32
  let v12 : BitVec 32 := Scalar.addi c0_i32_7 c576_i32
  let c1_i32_8 : BitVec 32 := 1#32
  ⟨c0_i32_7, v12, c1_i32_8⟩
def k0_off1 (k0_t1 : Fin k0_t1_loop.trips) : Fin 1 → Nat :=
  let c0_i32_7 : BitVec 32 := 0#32
  let c1_i32_8 : BitVec 32 := 1#32
  let arg7 : BitVec 32 := Scf.iv c0_i32_7 c1_i32_8 k0_t1
  let v108 : Index := Scalar.indexCast arg7
  ![v108.toNat]
def k0_off2 (k0_t1 : Fin k0_t1_loop.trips) : Fin 2 → Nat :=
  let c0_i32_7 : BitVec 32 := 0#32
  let c1_i32_8 : BitVec 32 := 1#32
  let arg7 : BitVec 32 := Scf.iv c0_i32_7 c1_i32_8 k0_t1
  let c0_i32_131 : BitVec 32 := 0#32
  ![arg7.toNat, 0]
def k0_off3 (v109 : BitVec 32) : Fin 2 → Nat :=
  let c5119_i32 : BitVec 32 := 5119#32
  let v110 : BitVec 32 := Scalar.minsi v109 c5119_i32
  let c0_i32_132 : BitVec 32 := 0#32
  ![v110.toNat, 0]

def k0_chk1 (v109 : BitVec 32) : Prop :=
  (∀ a, (k0_off3 v109) a + S1x2048.size a ≤ S5120x2048.size a)
theorem k0_off3_inb : ∀ (v109 : BitVec 32) (k0_hw1 : k0_chk1 v109), ∀ a, (k0_off3 v109) a + S1x2048.size a ≤ S5120x2048.size a := fun v109 k0_hw1 => k0_hw1

@[reducible] def k0_t2_loop : Scf.Loop 32 :=
  let c0_i32_10 : BitVec 32 := 0#32
  let c576_i32_11 : BitVec 32 := 576#32
  let v13 : BitVec 32 := Scalar.addi c0_i32_10 c576_i32_11
  let c1_i32_12 : BitVec 32 := 1#32
  ⟨c0_i32_10, v13, c1_i32_12⟩
def k0_dev2 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v14 : BitVec 32 := Scalar.muli v2 c2_i32_15
  let v15 : BitVec 32 := Scalar.addi c0_i32_16 v14
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v16 : BitVec 32 := Scalar.muli v6 c1_i32_17
  let v17 : BitVec 32 := Scalar.addi v15 v16
  v17.toNat
@[reducible] def k0_t3_loop : Scf.Loop 32 :=
  let c576_i32_22 : BitVec 32 := 576#32
  let c576_i32_23 : BitVec 32 := 576#32
  let v24 : BitVec 32 := Scalar.addi c576_i32_22 c576_i32_23
  let c1_i32_24 : BitVec 32 := 1#32
  ⟨c576_i32_22, v24, c1_i32_24⟩
def k0_off4 (k0_t3 : Fin k0_t3_loop.trips) : Fin 1 → Nat :=
  let c576_i32_22 : BitVec 32 := 576#32
  let c1_i32_24 : BitVec 32 := 1#32
  let arg7 : BitVec 32 := Scf.iv c576_i32_22 c1_i32_24 k0_t3
  let v108 : Index := Scalar.indexCast arg7
  ![v108.toNat]
def k0_off5 (k0_t3 : Fin k0_t3_loop.trips) : Fin 2 → Nat :=
  let c576_i32_22 : BitVec 32 := 576#32
  let c1_i32_24 : BitVec 32 := 1#32
  let arg7 : BitVec 32 := Scf.iv c576_i32_22 c1_i32_24 k0_t3
  let c0_i32_131 : BitVec 32 := 0#32
  ![arg7.toNat, 0]
def k0_off6 (v109 : BitVec 32) : Fin 2 → Nat :=
  let c5119_i32 : BitVec 32 := 5119#32
  let v110 : BitVec 32 := Scalar.minsi v109 c5119_i32
  let c0_i32_132 : BitVec 32 := 0#32
  ![v110.toNat, 0]

def k0_chk2 (v109 : BitVec 32) : Prop :=
  (∀ a, (k0_off6 v109) a + S1x2048.size a ≤ S5120x2048.size a)
theorem k0_off6_inb : ∀ (v109 : BitVec 32) (k0_hw2 : k0_chk2 v109), ∀ a, (k0_off6 v109) a + S1x2048.size a ≤ S5120x2048.size a := fun v109 k0_hw2 => k0_hw2

@[reducible] def k0_t4_loop : Scf.Loop 32 :=
  let c0_i32_26 : BitVec 32 := 0#32
  let c576_i32_27 : BitVec 32 := 576#32
  let v25 : BitVec 32 := Scalar.addi c0_i32_26 c576_i32_27
  let c1_i32_28 : BitVec 32 := 1#32
  ⟨c0_i32_26, v25, c1_i32_28⟩
def k0_dev3 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v26 : BitVec 32 := Scalar.muli v2 c2_i32_31
  let v27 : BitVec 32 := Scalar.addi c0_i32_32 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v28 : BitVec 32 := Scalar.muli v6 c1_i32_33
  let v29 : BitVec 32 := Scalar.addi v27 v28
  v29.toNat
@[reducible] def k0_t5_loop : Scf.Loop 32 :=
  let c1152_i32 : BitVec 32 := 1152#32
  let c576_i32_38 : BitVec 32 := 576#32
  let v36 : BitVec 32 := Scalar.addi c1152_i32 c576_i32_38
  let c1_i32_39 : BitVec 32 := 1#32
  ⟨c1152_i32, v36, c1_i32_39⟩
def k0_off7 (k0_t5 : Fin k0_t5_loop.trips) : Fin 1 → Nat :=
  let c1152_i32 : BitVec 32 := 1152#32
  let c1_i32_39 : BitVec 32 := 1#32
  let arg7 : BitVec 32 := Scf.iv c1152_i32 c1_i32_39 k0_t5
  let v108 : Index := Scalar.indexCast arg7
  ![v108.toNat]
def k0_off8 (k0_t5 : Fin k0_t5_loop.trips) : Fin 2 → Nat :=
  let c1152_i32 : BitVec 32 := 1152#32
  let c1_i32_39 : BitVec 32 := 1#32
  let arg7 : BitVec 32 := Scf.iv c1152_i32 c1_i32_39 k0_t5
  let c0_i32_131 : BitVec 32 := 0#32
  ![arg7.toNat, 0]
def k0_off9 (v109 : BitVec 32) : Fin 2 → Nat :=
  let c5119_i32 : BitVec 32 := 5119#32
  let v110 : BitVec 32 := Scalar.minsi v109 c5119_i32
  let c0_i32_132 : BitVec 32 := 0#32
  ![v110.toNat, 0]

def k0_chk3 (v109 : BitVec 32) : Prop :=
  (∀ a, (k0_off9 v109) a + S1x2048.size a ≤ S5120x2048.size a)
theorem k0_off9_inb : ∀ (v109 : BitVec 32) (k0_hw3 : k0_chk3 v109), ∀ a, (k0_off9 v109) a + S1x2048.size a ≤ S5120x2048.size a := fun v109 k0_hw3 => k0_hw3

@[reducible] def k0_t6_loop : Scf.Loop 32 :=
  let c0_i32_41 : BitVec 32 := 0#32
  let c576_i32_42 : BitVec 32 := 576#32
  let v37 : BitVec 32 := Scalar.addi c0_i32_41 c576_i32_42
  let c1_i32_43 : BitVec 32 := 1#32
  ⟨c0_i32_41, v37, c1_i32_43⟩
def k0_dev4 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v38 : BitVec 32 := Scalar.muli v2 c2_i32_46
  let v39 : BitVec 32 := Scalar.addi c0_i32_47 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_48 : BitVec 32 := 1#32
  let v40 : BitVec 32 := Scalar.muli v6 c1_i32_48
  let v41 : BitVec 32 := Scalar.addi v39 v40
  v41.toNat
@[reducible] def k0_t7_loop : Scf.Loop 32 :=
  let c1728_i32 : BitVec 32 := 1728#32
  let c576_i32_53 : BitVec 32 := 576#32
  let v48 : BitVec 32 := Scalar.addi c1728_i32 c576_i32_53
  let c1_i32_54 : BitVec 32 := 1#32
  ⟨c1728_i32, v48, c1_i32_54⟩
def k0_off10 (k0_t7 : Fin k0_t7_loop.trips) : Fin 1 → Nat :=
  let c1728_i32 : BitVec 32 := 1728#32
  let c1_i32_54 : BitVec 32 := 1#32
  let arg7 : BitVec 32 := Scf.iv c1728_i32 c1_i32_54 k0_t7
  let v108 : Index := Scalar.indexCast arg7
  ![v108.toNat]
def k0_off11 (k0_t7 : Fin k0_t7_loop.trips) : Fin 2 → Nat :=
  let c1728_i32 : BitVec 32 := 1728#32
  let c1_i32_54 : BitVec 32 := 1#32
  let arg7 : BitVec 32 := Scf.iv c1728_i32 c1_i32_54 k0_t7
  let c0_i32_131 : BitVec 32 := 0#32
  ![arg7.toNat, 0]
def k0_off12 (v109 : BitVec 32) : Fin 2 → Nat :=
  let c5119_i32 : BitVec 32 := 5119#32
  let v110 : BitVec 32 := Scalar.minsi v109 c5119_i32
  let c0_i32_132 : BitVec 32 := 0#32
  ![v110.toNat, 0]

def k0_chk4 (v109 : BitVec 32) : Prop :=
  (∀ a, (k0_off12 v109) a + S1x2048.size a ≤ S5120x2048.size a)
theorem k0_off12_inb : ∀ (v109 : BitVec 32) (k0_hw4 : k0_chk4 v109), ∀ a, (k0_off12 v109) a + S1x2048.size a ≤ S5120x2048.size a := fun v109 k0_hw4 => k0_hw4

@[reducible] def k0_t8_loop : Scf.Loop 32 :=
  let c0_i32_56 : BitVec 32 := 0#32
  let c576_i32_57 : BitVec 32 := 576#32
  let v49 : BitVec 32 := Scalar.addi c0_i32_56 c576_i32_57
  let c1_i32_58 : BitVec 32 := 1#32
  ⟨c0_i32_56, v49, c1_i32_58⟩
def k0_dev5 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v50 : BitVec 32 := Scalar.muli v2 c2_i32_60
  let v51 : BitVec 32 := Scalar.addi c0_i32_61 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v52 : BitVec 32 := Scalar.muli v6 c1_i32_62
  let v53 : BitVec 32 := Scalar.addi v51 v52
  v53.toNat
abbrev stage0_0 : Fin 1 → Memref sig .tc .smem S2304 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== CombineRefIdeal.lean ====
abbrev S10240x2048 : Shape := ⟨2, ![10240, 2048]⟩
abbrev S4608 : Shape := ⟨1, ![4608]⟩
abbrev S5120x2048 : Shape := ⟨2, ![5120, 2048]⟩
abbrev S2304 : Shape := ⟨1, ![2304]⟩
abbrev S_ : Shape := ⟨0, ![]⟩
abbrev S2304x1 : Shape := ⟨2, ![2304, 1]⟩
abbrev S2304x2048 : Shape := ⟨2, ![2304, 2048]⟩
abbrev S4608x2048 : Shape := ⟨2, ![4608, 2048]⟩

abbrev nBuf : Space → Nat
  | .hbm => 25
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S4608, .i32⟩
  | .hbm, ⟨2, _⟩ => ⟨S5120x2048, .f32⟩
  | .hbm, ⟨3, _⟩ => ⟨S2304, .i32⟩
  | .hbm, ⟨4, _⟩ => ⟨S_, .i32⟩
  | .hbm, ⟨5, _⟩ => ⟨S2304, .i32⟩
  | .hbm, ⟨6, _⟩ => ⟨S2304, .i1⟩
  | .hbm, ⟨7, _⟩ => ⟨S_, .i32⟩
  | .hbm, ⟨8, _⟩ => ⟨S2304, .i32⟩
  | .hbm, ⟨9, _⟩ => ⟨S2304, .i32⟩
  | .hbm, ⟨10, _⟩ => ⟨S2304, .i32⟩
  | .hbm, ⟨11, _⟩ => ⟨S2304x1, .i32⟩
  | .hbm, ⟨12, _⟩ => ⟨S2304x2048, .f32⟩
  | .hbm, ⟨13, _⟩ => ⟨S5120x2048, .f32⟩
  | .hbm, ⟨14, _⟩ => ⟨S2304, .i32⟩
  | .hbm, ⟨15, _⟩ => ⟨S_, .i32⟩
  | .hbm, ⟨16, _⟩ => ⟨S2304, .i32⟩
  | .hbm, ⟨17, _⟩ => ⟨S2304, .i1⟩
  | .hbm, ⟨18, _⟩ => ⟨S_, .i32⟩
  | .hbm, ⟨19, _⟩ => ⟨S2304, .i32⟩
  | .hbm, ⟨20, _⟩ => ⟨S2304, .i32⟩
  | .hbm, ⟨21, _⟩ => ⟨S2304, .i32⟩
  | .hbm, ⟨22, _⟩ => ⟨S2304x1, .i32⟩
  | .hbm, ⟨23, _⟩ => ⟨S2304x2048, .f32⟩
  | .hbm, ⟨24, _⟩ => ⟨S4608x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Experts.lean ====
abbrev S4x1280x2048 : Shape := ⟨3, ![4, 1280, 2048]⟩
abbrev S4x2048x4096 : Shape := ⟨3, ![4, 2048, 4096]⟩
abbrev S4x4096x2048 : Shape := ⟨3, ![4, 4096, 2048]⟩
abbrev S1x640x2048 : Shape := ⟨3, ![1, 640, 2048]⟩
abbrev S1x2048x512 : Shape := ⟨3, ![1, 2048, 512]⟩
abbrev S1x512x2048 : Shape := ⟨3, ![1, 512, 2048]⟩
abbrev S640x2048 : Shape := ⟨2, ![640, 2048]⟩
abbrev S2048x512 : Shape := ⟨2, ![2048, 512]⟩
abbrev S640x512 : Shape := ⟨2, ![640, 512]⟩
abbrev S512x2048 : Shape := ⟨2, ![512, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x1280x2048, .f32⟩
  | .hbm, ⟨1, _⟩ => ⟨S4x2048x4096, .f32⟩
  | .hbm, ⟨2, _⟩ => ⟨S4x4096x2048, .f32⟩
  | .hbm, ⟨3, _⟩ => ⟨S4x1280x2048, .f32⟩
  | .local _ .vmem, ⟨0, _⟩ => ⟨S1x640x2048, .f32⟩
  | .local _ .vmem, ⟨1, _⟩ => ⟨S1x640x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x640x2048, .f32⟩
  | .local _ .vmem, ⟨7, _⟩ => ⟨S1x640x2048, .f32⟩
  | .local _ .vmem, ⟨8, _⟩ => ⟨S640x2048, .f32⟩
  | _, _ => ⟨S4x1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_13 : BitVec 32 := 0#32
  let v18 : BitVec 1 := Scalar.cmpi .ne v17 c0_i32_13
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ExpertsRefIdeal.lean ====
abbrev S4x1280x2048 : Shape := ⟨3, ![4, 1280, 2048]⟩
abbrev S4x2048x4096 : Shape := ⟨3, ![4, 2048, 4096]⟩
abbrev S4x4096x2048 : Shape := ⟨3, ![4, 4096, 2048]⟩
abbrev S4x1280x4096 : Shape := ⟨3, ![4, 1280, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x1280x2048, .f32⟩
  | .hbm, ⟨1, _⟩ => ⟨S4x2048x4096, .f32⟩
  | .hbm, ⟨2, _⟩ => ⟨S4x4096x2048, .f32⟩
  | .hbm, ⟨3, _⟩ => ⟨S4x1280x4096, .f32⟩
  | .hbm, ⟨4, _⟩ => ⟨S_, .f32⟩
  | .hbm, ⟨5, _⟩ => ⟨S4x1280x4096, .f32⟩
  | .hbm, ⟨6, _⟩ => ⟨S4x1280x4096, .f32⟩
  | .hbm, ⟨7, _⟩ => ⟨S4x1280x2048, .f32⟩
  | _, _ => ⟨S4x1280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GatherIn.lean ====
abbrev S4096x2048 : Shape := ⟨2, ![4096, 2048]⟩
abbrev S2304x2048 : Shape := ⟨2, ![2304, 2048]⟩
abbrev S5120 : Shape := ⟨1, ![5120]⟩
abbrev S5120x2048 : Shape := ⟨2, ![5120, 2048]⟩
abbrev S256x2048 : Shape := ⟨2, ![256, 2048]⟩
abbrev S_ : Shape := ⟨0, ![]⟩
abbrev S1 : Shape := ⟨1, ![1]⟩
abbrev S1x2048 : Shape := ⟨2, ![1, 2048]⟩

abbrev nBuf : Space → Nat
  | .hbm => 4
  | .vmem => 2
  | .smem => 1
  | _ => 0

abbrev bufTy : (tb : Table) → Fin (tcTables nBuf tb) → BufTy
  | .hbm, ⟨0, _⟩ => ⟨S4096x2048, .f32⟩
  | .hbm, ⟨1, _⟩ => ⟨S2304x2048, .f32⟩
  | .hbm, ⟨2, _⟩ => ⟨S5120, .i32⟩
  | .hbm, ⟨3, _⟩ => ⟨S5120x2048, .f32⟩
  | .local _ .vmem, ⟨0, _⟩ => ⟨S256x2048, .f32⟩
  | .local _ .vmem, ⟨1, _⟩ => ⟨S256x2048, .f32⟩
  | .local _ .smem, ⟨0, _⟩ => ⟨S5120, .i32⟩
  | _, _ => ⟨S4096x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c256_i32_5 : BitVec 32 := 256#32
  let v2 : BitVec 32 := Scalar.muli arg0 c256_i32_5
  let c0_i32 : BitVec 32 := 0#32
  let c1_i32 : BitVec 32 := 1#32
  let arg7 : BitVec 32 := Scf.iv c0_i32 c1_i32 k0_t1
  let v3 : BitVec 32 := Scalar.addi v2 arg7
  let v4 : Index := Scalar.indexCast v3
  ![v4.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_9 : BitVec 32 := 0#32
  ![arg7.toNat, 0]
def k0_off3 (v5 : BitVec 32) : Fin 2 → Nat :=
  let c0_i32_10 : BitVec 32 := 0#32
  ![v5.toNat, 0]
def k0_cond1 (v5 : BitVec 32) : BitVec 1 :=
  let c4096_i32 : BitVec 32 := 4096#32
  let v6 : BitVec 1 := Scalar.cmpi .slt v5 c4096_i32
  let v7 : BitVec 32 := Scalar.extui v6
  let c0_i32_6 : BitVec 32 := 0#32
  let v8 : BitVec 1 := Scalar.cmpi .ne v7 c0_i32_6
  v8

def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_10 : BitVec 32 := 0#32
  ![arg7.toNat, 0]
def k0_off5 (v5 : BitVec 32) : Fin 2 → Nat :=
  let c4096_i32_9 : BitVec 32 := 4096#32
  let v12 : BitVec 32 := Scalar.subi v5 c4096_i32_9
  let c2303_i32 : BitVec 32 := 2303#32
  let v13 : BitVec 32 := Scalar.minsi v12 c2303_i32
  let c0_i32_11 : BitVec 32 := 0#32
  ![v13.toNat, 0]
def k0_cond2 (v5 : BitVec 32) : BitVec 1 :=
  let c4096_i32_7 : BitVec 32 := 4096#32
  let v9 : BitVec 1 := Scalar.cmpi .sge v5 c4096_i32_7
  let v10 : BitVec 32 := Scalar.extui v9
  let c0_i32_8 : BitVec 32 := 0#32
  let v11 : BitVec 1 := Scalar.cmpi .ne v10 c0_i32_8
  v11

def k0_chk1 (v5 : BitVec 32) : Prop :=
  (∀ (k0_h1 : k0_cond1 v5 = 1#1), ∀ a, (k0_off3 v5) a + S1x2048.size a ≤ S4096x2048.size a) ∧
  (∀ (k0_h2 : k0_cond2 v5 = 1#1), ∀ a, (k0_off5 v5) a + S1x2048.size a ≤ S2304x2048.size a)
theorem k0_off3_inb : ∀ (v5 : BitVec 32) (k0_hw1 : k0_chk1 v5), ∀ (k0_h1 : k0_cond1 v5 = 1#1), ∀ a, (k0_off3 v5) a + S1x2048.size a ≤ S4096x2048.size a := fun v5 k0_hw1 k0_h1 => k0_hw1.1 k0_h1
theorem k0_off5_inb : ∀ (v5 : BitVec 32) (k0_hw1 : k0_chk1 v5), ∀ (k0_h2 : k0_cond2 v5 = 1#1), ∀ a, (k0_off5 v5) a + S1x2048.size a ≤ S2304x2048.size a := fun v5 k0_hw1 k0_h2 => k0_hw1.2 k0_h2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off6 (i : grid0.Coords) (k0_t2 : Fin k0_t2_loop.trips) : Fin 1 → Nat :=
  let arg0 : BitVec 32 := BitVec.ofNat 32 (i 0).val
  let c256_i32_5 : BitVec 32 := 256#32
  let v2 : BitVec 32 := Scalar.muli arg0 c256_i32_5
  let c0_i32_1 : BitVec 32 := 0#32
  let c1_i32_3 : BitVec 32 := 1#32
  let arg7 : BitVec 32 := Scf.iv c0_i32_1 c1_i32_3 k0_t2
  let v3 : BitVec 32 := Scalar.addi v2 arg7
  let v4 : Index := Scalar.indexCast v3
  ![v4.toNat]
def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5120 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatherInRefIdeal.lean ====
abbrev S4096x2048 : Shape := ⟨2, ![4096, 2048]⟩
abbrev S2304x2048 : Shape := ⟨2, ![2304, 2048]⟩
abbrev S5120 : Shape := ⟨1, ![5120]⟩
abbrev S6400x2048 : Shape := ⟨2, ![6400, 2048]⟩
abbrev S_ : Shape := ⟨0, ![]⟩
abbrev S5120x1 : Shape := ⟨2, ![5120, 1]⟩
abbrev S5120x2048 : Shape := ⟨2, ![5120, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2304x2048, .f32⟩
  | .hbm, ⟨2, _⟩ => ⟨S5120, .i32⟩
  | .hbm, ⟨3, _⟩ => ⟨S6400x2048, .f32⟩
  | .hbm, ⟨4, _⟩ => ⟨S_, .i32⟩
  | .hbm, ⟨5, _⟩ => ⟨S5120, .i32⟩
  | .hbm, ⟨6, _⟩ => ⟨S5120, .i1⟩
  | .hbm, ⟨7, _⟩ => ⟨S_, .i32⟩
  | .hbm, ⟨8, _⟩ => ⟨S5120, .i32⟩
  | .hbm, ⟨9, _⟩ => ⟨S5120, .i32⟩
  | .hbm, ⟨10, _⟩ => ⟨S5120, .i32⟩
  | .hbm, ⟨11, _⟩ => ⟨S5120x1, .i32⟩
  | .hbm, ⟨12, _⟩ => ⟨S5120x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== GatherOut.lean ====
abbrev S5120x2048 : Shape := ⟨2, ![5120, 2048]⟩
abbrev S2304x2048 : Shape := ⟨2, ![2304, 2048]⟩
abbrev S4096 : Shape := ⟨1, ![4096]⟩
abbrev S4096x2048 : Shape := ⟨2, ![4096, 2048]⟩
abbrev S256x2048 : Shape := ⟨2, ![256, 2048]⟩
abbrev S_ : Shape := ⟨0, ![]⟩
abbrev S1 : Shape := ⟨1, ![1]⟩
abbrev S1x2048 : Shape := ⟨2, ![1, 2048]⟩

abbrev nBuf : Space → Nat
  | .hbm => 4
  | .vmem => 2
  | .smem => 1
  | _ => 0

abbrev bufTy : (tb : Table) → Fin (tcTables nBuf tb) → BufTy
  | .hbm, ⟨0, _⟩ => ⟨S5120x2048, .f32⟩
  | .hbm, ⟨1, _⟩ => ⟨S2304x2048, .f32⟩
  | .hbm, ⟨2, _⟩ => ⟨S4096, .i32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .smem, ⟨0, _⟩ => ⟨S4096, .i32⟩
  | _, _ => ⟨S5120x2048, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c256_i32_5 : BitVec 32 := 256#32
  let v2 : BitVec 32 := Scalar.muli arg0 c256_i32_5
  let c0_i32 : BitVec 32 := 0#32
  let c1_i32 : BitVec 32 := 1#32
  let arg7 : BitVec 32 := Scf.iv c0_i32 c1_i32 k0_t1
  let v3 : BitVec 32 := Scalar.addi v2 arg7
  let v4 : Index := Scalar.indexCast v3
  ![v4.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_9 : BitVec 32 := 0#32
  ![arg7.toNat, 0]
def k0_off3 (v5 : BitVec 32) : Fin 2 → Nat :=
  let c0_i32_10 : BitVec 32 := 0#32
  ![v5.toNat, 0]
def k0_cond1 (v5 : BitVec 32) : BitVec 1 :=
  let c5120_i32 : BitVec 32 := 5120#32
  let v6 : BitVec 1 := Scalar.cmpi .slt v5 c5120_i32
  let v7 : BitVec 32 := Scalar.extui v6
  let c0_i32_6 : BitVec 32 := 0#32
  let v8 : BitVec 1 := Scalar.cmpi .ne v7 c0_i32_6
  v8

def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c0_i32_10 : BitVec 32 := 0#32
  ![arg7.toNat, 0]
def k0_off5 (v5 : BitVec 32) : Fin 2 → Nat :=
  let c5120_i32_9 : BitVec 32 := 5120#32
  let v12 : BitVec 32 := Scalar.subi v5 c5120_i32_9
  let c2303_i32 : BitVec 32 := 2303#32
  let v13 : BitVec 32 := Scalar.minsi v12 c2303_i32
  let c0_i32_11 : BitVec 32 := 0#32
  ![v13.toNat, 0]
def k0_cond2 (v5 : BitVec 32) : BitVec 1 :=
  let c5120_i32_7 : BitVec 32 := 5120#32
  let v9 : BitVec 1 := Scalar.cmpi .sge v5 c5120_i32_7
  let v10 : BitVec 32 := Scalar.extui v9
  let c0_i32_8 : BitVec 32 := 0#32
  let v11 : BitVec 1 := Scalar.cmpi .ne v10 c0_i32_8
  v11

def k0_chk1 (v5 : BitVec 32) : Prop :=
  (∀ (k0_h1 : k0_cond1 v5 = 1#1), ∀ a, (k0_off3 v5) a + S1x2048.size a ≤ S5120x2048.size a) ∧
  (∀ (k0_h2 : k0_cond2 v5 = 1#1), ∀ a, (k0_off5 v5) a + S1x2048.size a ≤ S2304x2048.size a)
theorem k0_off3_inb : ∀ (v5 : BitVec 32) (k0_hw1 : k0_chk1 v5), ∀ (k0_h1 : k0_cond1 v5 = 1#1), ∀ a, (k0_off3 v5) a + S1x2048.size a ≤ S5120x2048.size a := fun v5 k0_hw1 k0_h1 => k0_hw1.1 k0_h1
theorem k0_off5_inb : ∀ (v5 : BitVec 32) (k0_hw1 : k0_chk1 v5), ∀ (k0_h2 : k0_cond2 v5 = 1#1), ∀ a, (k0_off5 v5) a + S1x2048.size a ≤ S2304x2048.size a := fun v5 k0_hw1 k0_h2 => k0_hw1.2 k0_h2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off6 (i : grid0.Coords) (k0_t2 : Fin k0_t2_loop.trips) : Fin 1 → Nat :=
  let arg0 : BitVec 32 := BitVec.ofNat 32 (i 0).val
  let c256_i32_5 : BitVec 32 := 256#32
  let v2 : BitVec 32 := Scalar.muli arg0 c256_i32_5
  let c0_i32_1 : BitVec 32 := 0#32
  let c1_i32_3 : BitVec 32 := 1#32
  let arg7 : BitVec 32 := Scf.iv c0_i32_1 c1_i32_3 k0_t2
  let v3 : BitVec 32 := Scalar.addi v2 arg7
  let v4 : Index := Scalar.indexCast v3
  ![v4.toNat]
def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatherOutRefIdeal.lean ====
abbrev S5120x2048 : Shape := ⟨2, ![5120, 2048]⟩
abbrev S2304x2048 : Shape := ⟨2, ![2304, 2048]⟩
abbrev S4096 : Shape := ⟨1, ![4096]⟩
abbrev S7424x2048 : Shape := ⟨2, ![7424, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S5120x2048, .f32⟩
  | .hbm, ⟨1, _⟩ => ⟨S2304x2048, .f32⟩
  | .hbm, ⟨2, _⟩ => ⟨S4096, .i32⟩
  | .hbm, ⟨3, _⟩ => ⟨S7424x2048, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096x2048, .f32⟩
  | _, _ => ⟨S5120x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Gather.lean ====
/-
A gather of single rows by local copies, as two counted loops: the first starts one copy a trip, of the row the
trip's index word names, into the trip's own row of a destination buffer, all on one DMA semaphore; the second waits
as many times on that semaphore. Together they fill the destination rows and give back everything they borrowed.

Stated once, for any signature and any number of trips: the programs instance it at each of their chunks.
-/
module

public import Idealize.ShloMosaic.PureOps
public import Idealize.ShloMosaic.Lib.Batch
public import Idealize.ShloMosaic.Lib.Ring
public import Idealize.ShloMosaic.Lib.Scf
public import Idealize.ShloMosaic.Lib.Tactic

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## A write and a read of one view -/

section View

variable {sig : RefSig} {κ : Kind} {sp : Space} {s : Shape} {e : EltTy} {Val : EltTy → Type}

/-- Contents whose reading through a view is the payload agree, under the view, with what writing the payload
    through it leaves. -/
theorem write_eq_on (v : View sig κ sp s e) (f g : v.ty.Contents Val) (w : s.Idx → Val e) (h : v.read Val g = w) :
    ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end View

/-! ## The two loops -/

section Gather

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

section Loops

variable (c : Dev nD)
variable {sI : Shape} {dC dX : Fin 2 → ℕ}
variable (iM : Memref sig .tc .smem sI .i32) (cM : Memref sig .tc .vmem ⟨2, dC⟩ .f32) (xM : Memref sig .tc .hbm ⟨2, dX⟩ .f32)
variable (gs : DmaSem sig)
variable {n : ℕ} {sz : Fin 2 → ℕ}
variable (rI : Fin n → Rect sI) (hI : ∀ k, (rI k).shape.numel = 1)
variable (oC : Fin n → Fin 2 → ℕ) (hC : ∀ k a, oC k a + sz a ≤ dC a)
variable (chk : Elt F .i32 → Prop) (dec : ∀ v, Decidable (chk v))
variable (oX : Elt F .i32 → Fin 2 → ℕ) (hX : ∀ v, chk v → ∀ a, oX v a + sz a ≤ dX a)

/-- The index word a trip reads. -/
def word (fI : Buf (Elt F) (iM.view.loc (c : Thread nD τ))) (k : Fin n) : Elt F .i32 :=
  (iM.access (rI k)).read (Elt F) fI (Shape.Idx.first (show 0 < (rI k).shape.numel from (hI k).symm ▸ Nat.one_pos))

/-- The destination row of a trip. -/
abbrev dstRow (k : Fin n) : Memref sig .tc .vmem ⟨2, sz⟩ .f32 := cM.slice (Rect.unit (s := ⟨2, dC⟩) (oC k) sz (hC k)) (fun _ => rfl)

/-- The source row a word names. -/
abbrev srcRow (v : Elt F .i32) (h : chk v) : Memref sig .tc .hbm ⟨2, sz⟩ .f32 := xM.slice (Rect.unit (s := ⟨2, dX⟩) (oX v) sz (hX v h)) (fun _ => rfl)

variable (fI : Buf (Elt F) (iM.view.loc (c : Thread nD τ))) (hchk : ∀ k, chk (word c iM rI hI fI k))

/-- The source row of a trip. -/
abbrev src (k : Fin n) : Memref sig .tc .hbm ⟨2, sz⟩ .f32 := srcRow xM chk oX hX (word c iM rI hI fI k) (hchk k)

variable (G : Buf (Elt F) (cM.view.loc (c : Thread nD τ))) (fX : Buf (Elt F) (xM.view.loc (c : Thread nD τ))) (q : PosShare TreeShare)

/-- A destination row held at contents `f`. -/
abbrev rowAt (f : Buf (Elt F) (cM.view.loc (c : Thread nD τ))) (k : Fin n) : sProp 𝕄 :=
  cM.view.loc (c : Thread nD τ) ↦[(dstRow cM oC hC k).view.set]{fullShare} f

/-- The part of the source array a trip's copy borrows, under the trip's own read token. -/
abbrev srcTok (k : Fin n) : sProp 𝕄 :=
  xM.view.loc (c : Thread nD τ) ↦[(src c iM xM rI hI chk oX hX fI hchk k).view.set]{Transfers.shareTokN q k.val} fX

/-- The rest of the source array under the trip's token. -/
abbrev srcRest (k : Fin n) : sProp 𝕄 :=
  xM.view.loc (c : Thread nD τ) ↦[xM.view.set \ (src c iM xM rI hI chk oX hX fI hchk k).view.set]{Transfers.shareTokN q k.val} fX

/-- What a trip's copy hands over when it has landed: the row, gathered, and the borrowed source row. -/
abbrev delivery (k : Fin n) : sProp 𝕄 :=
  iprop(rowAt c cM oC hC G k ∗ srcTok c iM xM rI hI chk oX hX fI hchk fX q k)

/-- One row's credit on a DMA semaphore. -/
abbrev credit (k : Fin n) : ℕ := (dstRow cM oC hC k).view.dmaCredit

/-- The copies of the loop as a batch on the semaphore: `j` started, `u` units consumed. -/
abbrev batch (N : ℕ) (j u : ℕ) : sProp 𝕄 :=
  Transfers.Batch (countersEmb (U := U)) (c : Thread nD τ) (.dma gs) () N
    (delivery (U := U) c iM cM xM rI hI oC hC chk oX hX fI hchk G fX q) j u

/-- Before trip `k` of the loop that starts the copies. -/
def issueAt (N : ℕ) (f₀ : Buf (Elt F) (cM.view.loc (c : Thread nD τ))) (k : ℕ) (_ : Unit) : sProp 𝕄 :=
  iprop((iM.view.loc (c : Thread nD τ) ↦[iM.view.set]{fullShare} fI)
    ∗ batch (U := U) c iM cM xM gs rI hI oC hC chk oX hX fI hchk G fX q N k 0
    ∗ bigSep (Ring.rangeSet n k n) (rowAt (U := U) c cM oC hC f₀)
    ∗ bigSep (Ring.rangeSet n k n) (srcTok (U := U) c iM xM rI hI chk oX hX fI hchk fX q))

/-- One trip of the loop that starts the copies. -/
abbrev issueBody (k : Fin n) : Prog (TpuEff nD τ sig (Elt F) Λ .tc) Unit := do
  let v ← smemLoad iM (rI k) (hI k) rfl
  have hw : chk v := (← Prog.lift (TpuEff.assume (chk v) (dec v))).down
  Prog.lift (.enqueueDma (srcRow xM chk oX hX v hw) (.here (dstRow cM oC hC k)) (.dma gs) (View.wordExact_bits rfl) (View.wordExact_bits rfl) ⟨Or.inl rfl, trivial⟩)
  pure ⟨⟩

theorem issue_step (N : ℕ) (hN : ∀ k, credit cM oC hC k = N) (f₀ : Buf (Elt F) (cM.view.loc (c : Thread nD τ)))
    (hrow : ∀ k, (dstRow cM oC hC k).view.read (Elt F) G = (src c iM xM rI hI chk oX hX fI hchk k).view.read (Elt F) fX)
    (k : Fin n) (acc : Unit) :
    issueAt (U := U) c iM cM xM gs rI hI oC hC chk oX hX fI hchk G fX q N f₀ k.val acc
      ⊢ wp frame (wpE defs 𝒱 (c : Thread nD τ) none) Set.univ (issueBody iM cM xM gs rI hI oC hC chk dec oX hX k)
        (issueAt (U := U) c iM cM xM gs rI hI oC hC chk oX hX fI hchk G fX q N f₀ (k.val + 1)) := by
  unfold issueAt
  rw [Ring.bigSep_rangeSet_head (Φ := rowAt (U := U) c cM oC hC f₀) k.isLt k.isLt,
    Ring.bigSep_rangeSet_head (Φ := srcTok (U := U) c iM xM rI hI chk oX hX fI hchk fX q) k.isLt k.isLt]
  iintro ⟨HI, HB, ⟨HR, HRs⟩, HT, HTs⟩
  simp only [issueBody, smemLoad, smemLoadElt, Prog.lift, Prog.bind_op, Prog.bind_ret, Prog.pure_eq_ret]
  iapply (wp_load_rect 𝒱 (c : Thread nD τ) none Set.univ (m := iM) (r := rI k) (S := iM.view.set) (q := fullShare) (f := fI)
    (View.set_slice_subset _ _)) $$ HI
  iintro HI
  iapply (wp_assume 𝒱 (c : Thread nD τ) none Set.univ (hchk k))
  have hD : iprop((cM.view.loc (c : Thread nD τ) ↦[(dstRow cM oC hC k).view.set]{fullShare}
        ((dstRow cM oC hC k).view.write (Elt F) f₀ ((src c iM xM rI hI chk oX hX fI hchk k).view.read (Elt F) fX) Finset.univ))
      ∗ srcTok (U := U) c iM xM rI hI chk oX hX fI hchk fX q k)
      ⊢ delivery (U := U) c iM cM xM rI hI oC hC chk oX hX fI hchk G fX q k := by
    rw [pointsTo_congr (write_eq_on (dstRow cM oC hC k).view f₀ G _ (hrow k))]
  iapply (Transfers.wp_dmaBatch (countersEmb (U := U)) 𝒱 (c : Thread nD τ) none
    (src := src c iM xM rI hI chk oX hX fI hchk k) (via := .same) (dst := dstRow cM oC hC k) (sm := .dma gs)
    (Sd := (dstRow cM oC hC k).view.set) (fs := fX) (fd := f₀) (q := Transfers.shareTokN q k.val)
    (D := delivery (U := U) c iM cM xM rI hI oC hC chk oX hX fI hchk G fX q) (j := k.val) (u := 0)
    () N (hN k) (Finset.Subset.refl _) k.isLt (Nat.zero_le _) hD) $$ [HT HR HB]
  · isplitl [HT]; · iexact HT
    isplitl [HR]; · iexact HR
    iexact HB
  iintro HB
  rw [wp_ret]
  imodintro
  isplitl [HI]; · iexact HI
  isplitl [HB]; · iexact HB
  isplitl [HRs]; · iexact HRs
  iexact HTs

/-- Before trip `k` of the loop that waits: either some copies are still awaited, or all have landed. -/
def drainAt (N : ℕ) (O : CellTallies nD τ sig Unit) (k : ℕ) (_ : Unit) : sProp 𝕄 :=
  iprop((∃ W, owes (c : Thread nD τ) O W) ∗ MayWait (c : Thread nD τ) (.dma gs) () O
    ∗ (if k < n then batch (U := U) c iM cM xM gs rI hI oC hC chk oX hX fI hchk G fX q N n (k * N)
       else iprop(semVal ((c : Thread nD τ), SemLoc.dma gs) 0
        ∗ bigSep Finset.univ (delivery (U := U) c iM cM xM rI hI oC hC chk oX hX fI hchk G fX q))))

/-- One trip of the loop that waits, on any views of one row. -/
abbrev drainBody (vC : Memref sig .tc .vmem ⟨2, sz⟩ .f32) (vX : Memref sig .tc .hbm ⟨2, sz⟩ .f32) : Prog (TpuEff nD τ sig (Elt F) Λ .tc) Unit := do
  Prog.lift (.waitDma2 gs vX vC (View.wordExact_bits rfl) (View.wordExact_bits rfl))
  pure ⟨⟩

theorem drain_step (N : ℕ) (hN0 : 0 < N) (O : CellTallies nD τ sig Unit)
    (vC : Memref sig .tc .vmem ⟨2, sz⟩ .f32) (vX : Memref sig .tc .hbm ⟨2, sz⟩ .f32) (hv : vC.view.dmaCredit = N)
    (k : ℕ) (hk : k < n) (acc : Unit) :
    drainAt (U := U) c iM cM xM gs rI hI oC hC chk oX hX fI hchk G fX q N O k acc
      ⊢ wp frame (wpE defs 𝒱 (c : Thread nD τ) none) Set.univ (drainBody gs vC vX)
        (drainAt (U := U) c iM cM xM gs rI hI oC hC chk oX hX fI hchk G fX q N O (k + 1)) := by
  unfold drainAt
  simp only [if_pos hk, drainBody, Prog.lift, Prog.bind_op, Prog.bind_ret, Prog.pure_eq_ret]
  iintro ⟨⟨%W, HO⟩, #HM, HB⟩
  rcases Nat.lt_or_ge (k + 1) n with h1 | h1
  · simp only [if_pos h1]
    iapply (Transfers.wp_waitBatchO (countersEmb (U := U)) 𝒱 (c : Thread nD τ) none () hv
      (show k * N + N < N * n by rw [← Nat.succ_mul, Nat.mul_comm]; exact Nat.mul_lt_mul_of_pos_left h1 hN0)) $$ [HB HO]
    · isplitl [HB]; · iexact HB
      isplitl [HO]; · iexact HO
      iexact HM
    iintro ⟨HB, HO⟩
    rw [wp_ret]
    imodintro
    isplitl [HO]; · iexists _; iexact HO
    isplitr; · iexact HM
    rw [← Nat.succ_mul]
    iexact HB
  · simp only [if_neg (Nat.not_lt.mpr h1)]
    iapply (Transfers.wp_waitBatchLastO (countersEmb (U := U)) 𝒱 (c : Thread nD τ) none () hv hN0
      (show k * N + N = N * n by rw [← Nat.succ_mul, Nat.mul_comm]; congr 1; omega)) $$ [HB HO]
    · isplitl [HB]; · iexact HB
      isplitl [HO]; · iexact HO
      iexact HM
    iintro ⟨HD, Hv, HO⟩
    rw [wp_ret]
    imodintro
    isplitl [HO]; · iexists _; iexact HO
    isplitr; · iexact HM
    isplitl [Hv]; · iexact Hv
    iexact HD

/-- The source array whole is the remainder after one token a trip and, for each trip, the token's part under the
    trip's row and its part off it. -/
theorem source_toks :
    (xM.view.loc (c : Thread nD τ) ↦[xM.view.set]{q} fX : sProp 𝕄)
      ⊣⊢ iprop((xM.view.loc (c : Thread nD τ) ↦[xM.view.set]{Transfers.shareDrop q n} fX)
        ∗ bigSep Finset.univ (srcTok (U := U) c iM xM rI hI chk oX hX fI hchk fX q)
        ∗ bigSep Finset.univ (srcRest (U := U) c iM xM rI hI chk oX hX fI hchk fX q)) := by
  rw [← bigSep_sep',
    show (bigSep Finset.univ fun k => iprop(srcTok (U := U) c iM xM rI hI chk oX hX fI hchk fX q k ∗ srcRest (U := U) c iM xM rI hI chk oX hX fI hchk fX q k))
      = bigSep Finset.univ fun k : Fin n => (xM.view.loc (c : Thread nD τ) ↦[xM.view.set]{Transfers.shareTok q n k} fX : sProp 𝕄) from
    bigSep_congr fun k _ => (Entails.antisymm (pointsTo_split_subset (View.set_slice_subset _ _)).1 (pointsTo_split_subset (View.set_slice_subset _ _)).2).symm]
  exact Transfers.pointsTo_toks q n

/-- Between the two loops: every copy started, none awaited. -/
def issued (N : ℕ) : sProp 𝕄 :=
  iprop((iM.view.loc (c : Thread nD τ) ↦[iM.view.set]{fullShare} fI)
    ∗ batch (U := U) c iM cM xM gs rI hI oC hC chk oX hX fI hchk G fX q N n 0
    ∗ (xM.view.loc (c : Thread nD τ) ↦[xM.view.set]{Transfers.shareDrop q n} fX)
    ∗ bigSep Finset.univ (srcRest (U := U) c iM xM rI hI chk oX hX fI hchk fX q))

end Loops

section Rules

variable (c : Dev nD)
variable {sI : Shape} {dC dX : Fin 2 → ℕ}
variable (iM : Memref sig .tc .smem sI .i32) (cM : Memref sig .tc .vmem ⟨2, dC⟩ .f32) (xM : Memref sig .tc .hbm ⟨2, dX⟩ .f32)
variable (gs : DmaSem sig)
variable {lp : Scf.Loop 32} (hok : lp.OK) {sz : Fin 2 → ℕ}
variable (rI : Fin lp.trips → Rect sI) (hI : ∀ k, (rI k).shape.numel = 1)
variable (oC : Fin lp.trips → Fin 2 → ℕ) (hC : ∀ k a, oC k a + sz a ≤ dC a)
variable (chk : Elt F .i32 → Prop) (dec : ∀ v, Decidable (chk v))
variable (oX : Elt F .i32 → Fin 2 → ℕ) (hX : ∀ v, chk v → ∀ a, oX v a + sz a ≤ dX a)
variable (fI : Buf (Elt F) (iM.view.loc (c : Thread nD τ))) (hchk : ∀ k, chk (word c iM rI hI fI k))
variable (G : Buf (Elt F) (cM.view.loc (c : Thread nD τ))) (fX : Buf (Elt F) (xM.view.loc (c : Thread nD τ))) (q : PosShare TreeShare)
variable (SC : Finset (Idx (cM.view.loc (c : Thread nD τ))))
  (hdis : ∀ k k' : Fin lp.trips, k ≠ k' → Disjoint (dstRow cM oC hC k).view.set (dstRow cM oC hC k').view.set)
  (hSC : Finset.univ.biUnion (fun k : Fin lp.trips => (dstRow cM oC hC k).view.set) = SC)
variable {β : Type} {kk : Unit → Prog (TpuEff nD τ sig (Elt F) Λ .tc) β}
variable (N : ℕ) (body : Fin lp.trips → Unit → Prog (TpuEff nD τ sig (Elt F) Λ .tc) Unit)

include hdis hSC in
/-- The loop that starts the copies, at the head of a program. -/
theorem gather_issue {Q : β → sProp 𝕄} (hbody : ∀ k u, body k u = issueBody iM cM xM gs rI hI oC hC chk dec oX hX k)
    (hN : ∀ k, credit cM oC hC k = N) (f₀ : Buf (Elt F) (cM.view.loc (c : Thread nD τ)))
    (hrow : ∀ k, (dstRow cM oC hC k).view.read (Elt F) G = (src c iM xM rI hI chk oX hX fI hchk k).view.read (Elt F) fX) :
    iprop((iM.view.loc (c : Thread nD τ) ↦[iM.view.set]{fullShare} fI) ∗ semVal ((c : Thread nD τ), SemLoc.dma gs) 0
      ∗ (cM.view.loc (c : Thread nD τ) ↦[SC]{fullShare} f₀) ∗ (xM.view.loc (c : Thread nD τ) ↦[xM.view.set]{q} fX))
    ⊢ iprop((issued (U := U) c iM cM xM gs rI hI oC hC chk oX hX fI hchk G fX q N
          -∗ wp frame (wpE defs 𝒱 (c : Thread nD τ) none) Set.univ (kk ⟨⟩) Q)
        -∗ wp frame (wpE defs 𝒱 (c : Thread nD τ) none) Set.univ (Scf.Loop.for lp hok ⟨⟩ body >>= kk) Q) := by
  have hstep : ∀ (k : Fin lp.trips) (acc : Unit), issueAt (U := U) c iM cM xM gs rI hI oC hC chk oX hX fI hchk G fX q N f₀ k.val acc
      ⊢ wp frame (wpE defs 𝒱 (c : Thread nD τ) none) Set.univ (body k acc)
        (issueAt (U := U) c iM cM xM gs rI hI oC hC chk oX hX fI hchk G fX q N f₀ (k.val + 1)) := fun k acc => by
    rw [hbody]; exact issue_step 𝒱 c iM cM xM gs rI hI oC hC chk dec oX hX fI hchk G fX q N hN f₀ hrow k acc
  rw [Ring.pointsTo_sub_blocks (fun k : Fin lp.trips => (dstRow cM oC hC k).view.set) hdis SC hSC f₀]
  iintro ⟨HI, Hs, HC, HX⟩ Hk
  ihave HX := (source_toks (U := U) c iM xM rI hI chk oX hX fI hchk fX q).1 $$ HX
  icases HX with ⟨HX, HT, HR⟩
  imod (Transfers.batch_alloc' (countersEmb (U := U)) (c : Thread nD τ) () N
    (delivery (U := U) c iM cM xM rI hI oC hC chk oX hX fI hchk G fX q)) $$ Hs with HB
  iapply (Scf.wp_for_bind frame (wpE defs 𝒱 (c : Thread nD τ) none) Set.univ lp.lb lp.ub lp.st hok ⟨⟩ body
    (issueAt (U := U) c iM cM xM gs rI hI oC hC chk oX hX fI hchk G fX q N f₀)
    hstep) $$ [HI HB HC HT]
  · unfold issueAt
    rw [Ring.rangeSet_univ]
    isplitl [HI]; · iexact HI
    isplitl [HB]; · iexact HB
    isplitl [HC]; · iexact HC
    iexact HT
  iintro %acc HA
  unfold issueAt
  icases HA with ⟨HI, HB, -, -⟩
  iapply Hk
  unfold issued
  isplitl [HI]; · iexact HI
  isplitl [HB]; · iexact HB
  isplitl [HX]; · iexact HX
  iexact HR

include hdis hSC in
/-- The loop that waits, at the head of a program: the rows gathered, everything else back. -/
theorem gather_drain {Q : β → sProp 𝕄} (h0 : 0 < lp.trips) (hN0 : 0 < N) {lp' : Scf.Loop 32} (hok' : lp'.OK) (hlp : lp'.trips = lp.trips)
    (body' : Fin lp'.trips → Unit → Prog (TpuEff nD τ sig (Elt F) Λ .tc) Unit)
    (vC : Memref sig .tc .vmem ⟨2, sz⟩ .f32) (vX : Memref sig .tc .hbm ⟨2, sz⟩ .f32) (hv : vC.view.dmaCredit = N)
    (hbody : ∀ k u, body' k u = drainBody gs vC vX) (O : CellTallies nD τ sig Unit) (W : Waits sig Unit) :
    iprop(issued (U := U) c iM cM xM gs rI hI oC hC chk oX hX fI hchk G fX q N
      ∗ owes (c : Thread nD τ) O W ∗ MayWait (c : Thread nD τ) (.dma gs) () O)
    ⊢ iprop((iprop((iM.view.loc (c : Thread nD τ) ↦[iM.view.set]{fullShare} fI) ∗ semVal ((c : Thread nD τ), SemLoc.dma gs) 0
            ∗ (cM.view.loc (c : Thread nD τ) ↦[SC]{fullShare} G) ∗ (xM.view.loc (c : Thread nD τ) ↦[xM.view.set]{q} fX)
            ∗ ∃ W', owes (c : Thread nD τ) O W')
          -∗ wp frame (wpE defs 𝒱 (c : Thread nD τ) none) Set.univ (kk ⟨⟩) Q)
        -∗ wp frame (wpE defs 𝒱 (c : Thread nD τ) none) Set.univ (Scf.Loop.for lp' hok' ⟨⟩ body' >>= kk) Q) := by
  have hstep : ∀ (k : Fin lp'.trips) (acc : Unit), drainAt (U := U) c iM cM xM gs rI hI oC hC chk oX hX fI hchk G fX q N O k.val acc
      ⊢ wp frame (wpE defs 𝒱 (c : Thread nD τ) none) Set.univ (body' k acc)
        (drainAt (U := U) c iM cM xM gs rI hI oC hC chk oX hX fI hchk G fX q N O (k.val + 1)) := fun k acc => by
    rw [hbody]; exact drain_step 𝒱 c iM cM xM gs rI hI oC hC chk oX hX fI hchk G fX q N hN0 O vC vX hv k.val (hlp ▸ k.isLt) acc
  rw [Ring.pointsTo_sub_blocks (fun k : Fin lp.trips => (dstRow cM oC hC k).view.set) hdis SC hSC G]
  unfold issued
  iintro ⟨⟨HI, HB, HX, HR⟩, HO, #HM⟩ Hk
  iapply (Scf.wp_for_bind frame (wpE defs 𝒱 (c : Thread nD τ) none) Set.univ lp'.lb lp'.ub lp'.st hok' ⟨⟩ body'
    (drainAt (U := U) c iM cM xM gs rI hI oC hC chk oX hX fI hchk G fX q N O)
    hstep) $$ [HB HO]
  · unfold drainAt
    rw [if_pos h0, Nat.zero_mul]
    isplitl [HO]; · iexists _; iexact HO
    isplitr; · iexact HM
    iexact HB
  iintro %acc HA
  unfold drainAt
  have hend : ¬ Scf.trips lp'.lb lp'.ub lp'.st < lp.trips := by
    rw [show Scf.trips lp'.lb lp'.ub lp'.st = lp.trips from hlp]; exact Nat.lt_irrefl _
  rw [if_neg hend, bigSep_sep']
  icases HA with ⟨HO, -, Hs, HC, HT⟩
  iapply Hk
  isplitl [HI]; · iexact HI
  isplitl [Hs]; · iexact Hs
  isplitl [HC]; · iexact HC
  isplitl [HX HR HT]
  · iapply (source_toks (U := U) c iM xM rI hI chk oX hX fI hchk fX q).2
    isplitl [HX]; · iexact HX
    isplitl [HT]; · iexact HT
    iexact HR
  iexact HO

end Rules

end Gather

end Cert.GatherProof
-- ==== Proof.Chunk.lean ====
/-
One chunk of a gather: which rows the two loops leave in the destination, and how a buffer of rows is cut into the
chunks that are gathered and sent one by one.

Stated for any signature and any extents: `R` rows of `D` numbers in the destination, `X` rows in the source, `T` rows
in a chunk. An index word outside the source is clipped to its last row.
-/
module

public import proofs.«01_k».proof.Proof.Gather

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The gathered array -/

section Rows

variable {R X D : ℕ} {α : Type}

/-- The place `i` of a vector. -/
def at1 (i : Fin R) : (⟨1, ![R]⟩ : Shape).Idx := fun a => match a with
  | ⟨0, _⟩ => i

/-- The place `(i, j)` of a matrix. -/
def at2 (i : Fin R) (j : Fin D) : (⟨2, ![R, D]⟩ : Shape).Idx := fun a => match a with
  | ⟨0, _⟩ => i
  | ⟨1, _⟩ => j

/-- The source row an index word names: the word, clipped to the last row. -/
def rowOf (hX : 0 < X) (v : BitVec 32) : Fin X := ⟨min v.toNat (X - 1), by omega⟩

/-- The rows of `x` that the words of `idx` name. -/
def rowsBy (hX : 0 < X) (idx : (⟨1, ![R]⟩ : Shape).Idx → BitVec 32) (x : (⟨2, ![X, D]⟩ : Shape).Idx → α) :
    (⟨2, ![R, D]⟩ : Shape).Idx → α :=
  fun j => x (at2 (rowOf hX (idx (at1 (j 0)))) (j 1))

/-- The signed minimum of a nonnegative word with a bound, as a number. -/
theorem minsi_toNat (v n : BitVec 32) (hv : 0 ≤ v.toInt) (hn : n.toNat < 2147483648) :
    (Scalar.minsi v n).toNat = min v.toNat n.toNat := by
  have h1 : v.toNat < 2147483648 := by
    rw [BitVec.toInt_eq_toNat_cond] at hv
    have := v.isLt
    split at hv <;> omega
  have e1 : v.toInt = v.toNat := by rw [BitVec.toInt_eq_toNat_cond, if_pos (by omega)]
  have e2 : n.toInt = n.toNat := by rw [BitVec.toInt_eq_toNat_cond, if_pos (by omega)]
  unfold Scalar.minsi IntOp.minsi
  rw [BitVec.slt_eq_decide, e1, e2]
  simp only [decide_eq_true_eq, Nat.cast_lt]
  split <;> omega

end Rows

/-! ## The two loops at one chunk -/

section Chunk

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

variable {R X D T : ℕ} (hX0 : 0 < X)
variable (c : Dev nD)
variable (iM : Memref sig .tc .smem ⟨1, ![R]⟩ .i32) (cM : Memref sig .tc .vmem ⟨2, ![R, D]⟩ .f32) (xM : Memref sig .tc .hbm ⟨2, ![X, D]⟩ .f32)
variable (gs : DmaSem sig) {lp : Scf.Loop 32} (hok : lp.OK)
variable (oI : Fin lp.trips → Fin 1 → ℕ) (hoI : ∀ k a, oI k a + (![1] : Fin 1 → ℕ) a ≤ (![R] : Fin 1 → ℕ) a)
variable (hI : ∀ k, (Rect.unit (s := ⟨1, ![R]⟩) (oI k) ![1] (hoI k)).shape.numel = 1)
variable (oC : Fin lp.trips → Fin 2 → ℕ) (hC : ∀ k a, oC k a + (![1, D] : Fin 2 → ℕ) a ≤ (![R, D] : Fin 2 → ℕ) a)
variable (chk : Elt F .i32 → Prop) (dec : ∀ v, Decidable (chk v))
variable (oX : Elt F .i32 → Fin 2 → ℕ) (hX : ∀ v, chk v → ∀ a, oX v a + (![1, D] : Fin 2 → ℕ) a ≤ (![X, D] : Fin 2 → ℕ) a)
variable (a : ℕ) (hT : lp.trips = T)
variable (eI : ∀ k, oI k = ![a + k.val]) (eC : ∀ k, oC k = ![a + k.val, 0])
variable (eX : ∀ v : BitVec 32, 0 ≤ v.toInt → oX v = ![(rowOf hX0 v).val, 0])
variable (hchk0 : ∀ v, (∀ b, oX v b + (![1, D] : Fin 2 → ℕ) b ≤ (![X, D] : Fin 2 → ℕ) b) → chk v)
variable (fI : Buf (Elt F) (iM.view.loc (c : Thread nD τ))) (hnn : ∀ i, (0 : ℤ) ≤ (show BitVec 32 from iM.view.read (Elt F) fI i).toInt)

/-- The word a trip reads is the index vector's, at the trip's place. -/
theorem word_eq (k : Fin lp.trips) (hk : a + k.val < R) (eI : oI k = ![a + k.val]) :
    word c iM (fun k => Rect.unit (s := ⟨1, ![R]⟩) (oI k) ![1] (hoI k)) hI fI k = iM.view.read (Elt F) fI (at1 ⟨a + k.val, hk⟩) := by
  have h : ∀ x, (iM.access (Rect.unit (s := ⟨1, ![R]⟩) (oI k) ![1] (hoI k))).read (Elt F) fI x
      = iM.view.read (Elt F) fI ((Rect.unit (s := ⟨1, ![R]⟩) (oI k) ![1] (hoI k)).emb x) := fun _ => rfl
  unfold word
  rw [h]
  congr 1
  funext b
  refine Fin.ext ?_
  rw [Rect.emb_apply]
  match b with
  | ⟨0, _⟩ =>
    show oI k 0 + 1 * 0 = a + k.val
    rw [eI]; rfl

include hchk0 eX hnn eI in
theorem chk_word (k : Fin lp.trips) (hk : a + k.val < R) (eI : oI k = ![a + k.val]) :
    chk (word c iM (fun k => Rect.unit (s := ⟨1, ![R]⟩) (oI k) ![1] (hoI k)) hI fI k) := by
  rw [word_eq c iM oI hoI hI a fI k hk eI]
  refine hchk0 _ fun b => ?_
  rw [eX _ (hnn _)]
  match b with
  | ⟨0, _⟩ => exact (rowOf hX0 _).isLt
  | ⟨1, _⟩ => exact (Nat.zero_add D).le

variable (hchk : ∀ k, chk (word c iM (fun k => Rect.unit (s := ⟨1, ![R]⟩) (oI k) ![1] (hoI k)) hI fI k))
variable (G : Buf (Elt F) (cM.view.loc (c : Thread nD τ))) (fX : Buf (Elt F) (xM.view.loc (c : Thread nD τ))) (q : PosShare TreeShare)

include eX hnn in
/-- A destination row of the gathered array is the source row that the trip copies. -/
theorem row_read (hG : cM.view.read (Elt F) G = rowsBy hX0 (iM.view.read (Elt F) fI) (xM.view.read (Elt F) fX))
    (k : Fin lp.trips) (hk : a + k.val < R) (eI : oI k = ![a + k.val]) (eC : oC k = ![a + k.val, 0]) :
    (dstRow cM oC hC k).view.read (Elt F) G
      = (src c iM xM (fun k => Rect.unit (s := ⟨1, ![R]⟩) (oI k) ![1] (hoI k)) hI chk oX hX fI hchk k).view.read (Elt F) fX := by
  have hl : ∀ x, (dstRow cM oC hC k).view.read (Elt F) G x
      = cM.view.read (Elt F) G ((Rect.unit (s := ⟨2, ![R, D]⟩) (oC k) ![1, D] (hC k)).emb x) := fun _ => rfl
  have hr : ∀ x, (src c iM xM (fun k => Rect.unit (s := ⟨1, ![R]⟩) (oI k) ![1] (hoI k)) hI chk oX hX fI hchk k).view.read (Elt F) fX x
      = xM.view.read (Elt F) fX ((Rect.unit (s := ⟨2, ![X, D]⟩) (oX _) ![1, D] (hX _ (hchk k))).emb x) := fun _ => rfl
  funext x
  have hx0 : (x 0).val = 0 := Nat.lt_one_iff.mp (x 0).isLt
  have hw := word_eq c iM oI hoI hI a fI k hk eI
  rw [hl, hG, hr]
  unfold rowsBy
  congr 1
  funext b
  refine Fin.ext ?_
  rw [Rect.emb_apply]
  have e0 : (((Rect.unit (s := ⟨2, ![R, D]⟩) (oC k) ![1, D] (hC k)).emb x) 0).val = a + k.val := by
    rw [Rect.emb_apply]
    show oC k 0 + 1 * (x 0).val = a + k.val
    rw [eC, hx0]; rfl
  have e1 : (((Rect.unit (s := ⟨2, ![R, D]⟩) (oC k) ![1, D] (hC k)).emb x) 1).val = (x 1).val := by
    rw [Rect.emb_apply]
    show oC k 1 + 1 * (x 1).val = (x 1).val
    rw [eC, Nat.one_mul]; exact Nat.zero_add _
  have hv : oX (word c iM (fun k => Rect.unit (s := ⟨1, ![R]⟩) (oI k) ![1] (hoI k)) hI fI k)
      = ![(rowOf hX0 (iM.view.read (Elt F) fI (at1 ⟨a + k.val, hk⟩))).val, 0] := by rw [hw]; exact eX _ (hnn _)
  have ea : (at1 (((Rect.unit (s := ⟨2, ![R, D]⟩) (oC k) ![1, D] (hC k)).emb x) 0) : (⟨1, ![R]⟩ : Shape).Idx) = at1 ⟨a + k.val, hk⟩ :=
    congrArg at1 (Fin.ext e0)
  match b with
  | ⟨0, _⟩ =>
    show (rowOf hX0 _).val = oX _ 0 + 1 * (x 0).val
    rw [hv, hx0, ea]; rfl
  | ⟨1, _⟩ =>
    show (((Rect.unit (s := ⟨2, ![R, D]⟩) (oC k) ![1, D] (hC k)).emb x) 1).val = oX _ 1 + 1 * (x 1).val
    rw [hv, e1, Nat.one_mul]; exact (Nat.zero_add _).symm

/-- The chunk of `T` rows from row `a` on. -/
abbrev chunkM {sp : Space} {et : EltTy} (M : Memref sig .tc sp ⟨2, ![R, D]⟩ et) (T : ℕ) (o : Fin 2 → ℕ) (h : ∀ b, o b + (![T, D] : Fin 2 → ℕ) b ≤ (![R, D] : Fin 2 → ℕ) b) :
    Memref sig .tc sp ⟨2, ![T, D]⟩ et :=
  M.slice (Rect.unit (s := ⟨2, ![R, D]⟩) o ![T, D] h) (fun _ => rfl)

theorem mem_chunk {sp : Space} {et : EltTy} {M : Memref sig .tc sp ⟨2, ![R, D]⟩ et} {o sz : Fin 2 → ℕ}
    {h : ∀ b, o b + sz b ≤ (![R, D] : Fin 2 → ℕ) b} {i : M.view.ty.Idx} :
    i ∈ (M.slice (Rect.unit (s := ⟨2, ![R, D]⟩) o sz h) (fun _ => rfl)).view.set
      ↔ ∃ x : (⟨2, ![R, D]⟩ : Shape).Idx, (∀ b, o b ≤ (x b).val ∧ (x b).val < o b + sz b) ∧ M.view.emb x = i := by
  show i ∈ (M.view.slice (Rect.unit (s := ⟨2, ![R, D]⟩) o sz h)).set ↔ _
  rw [View.set_slice, Finset.mem_map]
  constructor
  · rintro ⟨x, hx, e⟩; exact ⟨x, Rect.mem_set_unit.mp hx, e⟩
  · rintro ⟨x, hx, e⟩; exact ⟨x, Rect.mem_set_unit.mpr hx, e⟩

include hT eC in
/-- The trips' rows are the chunk. -/
theorem rows_union (hch : ∀ b, (![a, 0] : Fin 2 → ℕ) b + (![T, D] : Fin 2 → ℕ) b ≤ (![R, D] : Fin 2 → ℕ) b) :
    (Finset.univ.biUnion fun k => (dstRow cM oC hC k).view.set) = (chunkM cM T ![a, 0] hch).view.set := by
  ext i
  rw [Finset.mem_biUnion]
  unfold dstRow chunkM
  constructor
  · rintro ⟨k, -, hk⟩
    obtain ⟨x, hx, e⟩ := mem_chunk.mp hk
    rw [eC] at hx
    refine mem_chunk.mpr ⟨x, fun b => ?_, e⟩
    have h0 : a + k.val ≤ (x 0).val ∧ (x 0).val < a + k.val + 1 := hx 0
    have hkl : k.val < T := hT ▸ k.isLt
    match b with
    | ⟨0, _⟩ =>
      show a ≤ (x 0).val ∧ (x 0).val < a + T
      exact ⟨by omega, by omega⟩
    | ⟨1, _⟩ => exact hx 1
  · intro hi
    obtain ⟨x, hx, e⟩ := mem_chunk.mp hi
    have h0 : a ≤ (x 0).val ∧ (x 0).val < a + T := hx 0
    have hlt : (x 0).val - a < lp.trips := by rw [hT]; omega
    refine ⟨⟨(x 0).val - a, hlt⟩, Finset.mem_univ _, ?_⟩
    refine mem_chunk.mpr ⟨x, fun b => ?_, e⟩
    rw [eC]
    match b with
    | ⟨0, _⟩ =>
      show a + ((x 0).val - a) ≤ (x 0).val ∧ (x 0).val < a + ((x 0).val - a) + 1
      exact ⟨by omega, by omega⟩
    | ⟨1, _⟩ => exact hx 1

include eC in
theorem rows_disjoint (k k' : Fin lp.trips) (h : k ≠ k') : Disjoint (dstRow cM oC hC k).view.set (dstRow cM oC hC k').view.set := by
  rw [Finset.disjoint_left]
  intro i h1 h2
  obtain ⟨x, hx, e⟩ := mem_chunk.mp h1
  obtain ⟨y, hy, e'⟩ := mem_chunk.mp h2
  have hxy : x = y := cM.view.emb.injective (e.trans e'.symm)
  subst hxy
  rw [eC] at hx hy
  have h0 : a + k.val ≤ (x 0).val ∧ (x 0).val < a + k.val + 1 := hx 0
  have h0' : a + k'.val ≤ (x 0).val ∧ (x 0).val < a + k'.val + 1 := hy 0
  exact h (Fin.ext (by omega))

include eI eC eX hchk0 hnn hT in
/-- The two loops of a chunk: from the index words, the gather semaphore at zero, the chunk's rows of the destination
    at any contents and the source array to the same with the chunk gathered. -/
theorem gather_chunk {β : Type} {Q : β → sProp (MT nD τ sig Unit (Elt F) ℕ U ℕ)} (hT0 : 0 < T)
    (hch : ∀ b, (![a, 0] : Fin 2 → ℕ) b + (![T, D] : Fin 2 → ℕ) b ≤ (![R, D] : Fin 2 → ℕ) b)
    (hG : cM.view.read (Elt F) G = rowsBy hX0 (iM.view.read (Elt F) fI) (xM.view.read (Elt F) fX))
    (body : Fin lp.trips → Unit → Prog (TpuEff nD τ sig (Elt F) Λ .tc) Unit)
    (hbody : ∀ k u, body k u = issueBody iM cM xM gs (fun k => Rect.unit (s := ⟨1, ![R]⟩) (oI k) ![1] (hoI k)) hI oC hC chk dec oX hX k)
    {lp' : Scf.Loop 32} (hok' : lp'.OK) (hlp : lp'.trips = T)
    (body' : Fin lp'.trips → Unit → Prog (TpuEff nD τ sig (Elt F) Λ .tc) Unit)
    (vC : Memref sig .tc .vmem ⟨2, ![1, D]⟩ .f32) (vX : Memref sig .tc .hbm ⟨2, ![1, D]⟩ .f32)
    (hv : ∀ k, (dstRow cM oC hC k).view.dmaCredit = vC.view.dmaCredit) (hv0 : 0 < vC.view.dmaCredit)
    (hbody' : ∀ k u, body' k u = drainBody gs vC vX)
    (kk : Unit → Prog (TpuEff nD τ sig (Elt F) Λ .tc) β) (f₀ : Buf (Elt F) (cM.view.loc (c : Thread nD τ)))
    (O : CellTallies nD τ sig Unit) (W : Waits sig Unit) :
    iprop(((iM.view.loc (c : Thread nD τ) ↦[iM.view.set]{fullShare} fI) ∗ semVal ((c : Thread nD τ), SemLoc.dma gs) 0
        ∗ (xM.view.loc (c : Thread nD τ) ↦[xM.view.set]{q} fX))
      ∗ (cM.view.loc (c : Thread nD τ) ↦[(chunkM cM T ![a, 0] hch).view.set]{fullShare} f₀)
      ∗ owes (c : Thread nD τ) O W ∗ MayWait (c : Thread nD τ) (.dma gs) () O)
    ⊢ iprop((iprop(((iM.view.loc (c : Thread nD τ) ↦[iM.view.set]{fullShare} fI) ∗ semVal ((c : Thread nD τ), SemLoc.dma gs) 0
              ∗ (xM.view.loc (c : Thread nD τ) ↦[xM.view.set]{q} fX))
            ∗ (cM.view.loc (c : Thread nD τ) ↦[(chunkM cM T ![a, 0] hch).view.set]{fullShare} G)
            ∗ ∃ W', owes (c : Thread nD τ) O W')
          -∗ wp frame (wpE defs 𝒱 (c : Thread nD τ) none) Set.univ (kk ⟨⟩) Q)
        -∗ wp frame (wpE defs 𝒱 (c : Thread nD τ) none) Set.univ
            (Scf.Loop.for lp hok ⟨⟩ body >>= fun _ => Scf.Loop.for lp' hok' ⟨⟩ body' >>= kk) Q) := by
  have hk : ∀ k : Fin lp.trips, a + k.val < R := fun k => by
    have hkl : k.val < T := hT ▸ k.isLt
    have h1 : a + T ≤ R := hch 0
    omega
  have hchk : ∀ k, chk (word c iM (fun k => Rect.unit (s := ⟨1, ![R]⟩) (oI k) ![1] (hoI k)) hI fI k) := fun k =>
    chk_word hX0 c iM oI hoI hI chk oX a eI eX hchk0 fI hnn k (hk k) (eI k)
  have hrow := fun k => row_read hX0 c iM cM xM oI hoI hI oC hC chk oX hX a eX fI hnn hchk G fX hG k (hk k) (eI k) (eC k)
  have hSC := rows_union cM oC hC a hT eC hch
  have hdis := rows_disjoint cM oC hC a eC
  have h1 := gather_issue (U := U) (defs := defs) 𝒱 c iM cM xM gs hok (fun k => Rect.unit (s := ⟨1, ![R]⟩) (oI k) ![1] (hoI k)) hI oC hC chk dec oX hX fI hchk G fX q
    _ hdis hSC vC.view.dmaCredit body (kk := fun _ => Scf.Loop.for lp' hok' ⟨⟩ body' >>= kk) (Q := Q) hbody hv f₀ hrow
  have h2 := gather_drain (U := U) (defs := defs) 𝒱 c iM cM xM gs (fun k => Rect.unit (s := ⟨1, ![R]⟩) (oI k) ![1] (hoI k)) hI oC hC chk oX hX fI hchk G fX q
    _ hdis hSC vC.view.dmaCredit (kk := kk) (Q := Q) (by omega) hv0 hok' (hlp.trans hT.symm) body' vC vX rfl hbody' O W
  iintro ⟨⟨HI, Hs, HX⟩, HC, HO, HM⟩ Hk
  iapply h1 $$ [HI Hs HX HC]
  · isplitl [HI]; · iexact HI
    isplitl [Hs]; · iexact Hs
    isplitl [HC]; · iexact HC
    iexact HX
  iintro HB
  iapply h2 $$ [HB HO HM]
  · isplitl [HB]; · iexact HB
    isplitl [HO]; · iexact HO
    iexact HM
  iintro ⟨HI, Hs, HC, HX, HO⟩
  iapply Hk
  isplitl [HI Hs HX]
  · isplitl [HI]; · iexact HI
    isplitl [Hs]; · iexact Hs
    iexact HX
  isplitl [HC]; · iexact HC
  iexact HO

/-! ## A buffer of rows in chunks -/

variable {n : ℕ}

/-- Chunks of `T` rows, one after the other, are disjoint. -/
theorem chunks_disjoint {sp : Space} {et : EltTy} (M : Memref sig .tc sp ⟨2, ![R, D]⟩ et) (o : Fin n → Fin 2 → ℕ)
    (h : ∀ k b, o k b + (![T, D] : Fin 2 → ℕ) b ≤ (![R, D] : Fin 2 → ℕ) b) (ho : ∀ k, o k 0 = k.val * T) (k k' : Fin n) (hk : k ≠ k') :
    Disjoint (chunkM M T (o k) (h k)).view.set (chunkM M T (o k') (h k')).view.set := by
  rw [Finset.disjoint_left]
  intro i h1 h2
  obtain ⟨x, hx, e⟩ := mem_chunk.mp h1
  obtain ⟨y, hy, e'⟩ := mem_chunk.mp h2
  have hxy : x = y := M.view.emb.injective (e.trans e'.symm)
  subst hxy
  have h0 : o k 0 ≤ (x 0).val ∧ (x 0).val < o k 0 + T := hx 0
  have h0' : o k' 0 ≤ (x 0).val ∧ (x 0).val < o k' 0 + T := hy 0
  rw [ho] at h0 h0'
  refine hk (Fin.ext ?_)
  rcases Nat.lt_trichotomy k.val k'.val with hlt | heq | hgt
  · have := Nat.mul_le_mul_right T hlt; rw [Nat.succ_mul] at this; omega
  · exact heq
  · have := Nat.mul_le_mul_right T hgt; rw [Nat.succ_mul] at this; omega

/-- Together they are the whole of it. -/
theorem chunks_union {sp : Space} {et : EltTy} (M : Memref sig .tc sp ⟨2, ![R, D]⟩ et) (o : Fin n → Fin 2 → ℕ)
    (h : ∀ k b, o k b + (![T, D] : Fin 2 → ℕ) b ≤ (![R, D] : Fin 2 → ℕ) b) (ho : ∀ k, o k 0 = k.val * T) (ho1 : ∀ k, o k 1 = 0)
    (hn : n * T = R) (hT0 : 0 < T) :
    (Finset.univ.biUnion fun k => (chunkM M T (o k) (h k)).view.set) = M.view.set := by
  ext i
  rw [Finset.mem_biUnion]
  constructor
  · rintro ⟨k, -, hk⟩
    obtain ⟨x, -, e⟩ := mem_chunk.mp hk
    exact e ▸ Finset.mem_map_of_mem _ (Finset.mem_univ x)
  · intro hi
    obtain ⟨x, -, e⟩ := Finset.mem_map.mp hi
    have hxl : (x 0).val < n * T := by rw [hn]; exact (x 0).isLt
    have hq : (x 0).val / T < n := (Nat.div_lt_iff_lt_mul hT0).mpr hxl
    refine ⟨⟨(x 0).val / T, hq⟩, Finset.mem_univ _, mem_chunk.mpr ⟨x, fun b => ?_, e⟩⟩
    match b with
    | ⟨0, _⟩ =>
      show o _ 0 ≤ (x 0).val ∧ (x 0).val < o _ 0 + T
      rw [ho]
      have h1 := Nat.div_add_mod (x 0).val T
      have h2 := Nat.mod_lt (x 0).val hT0
      rw [Nat.mul_comm] at h1
      dsimp only
      omega
    | ⟨1, _⟩ =>
      show o _ 1 ≤ (x 1).val ∧ (x 1).val < o _ 1 + D
      rw [ho1, Nat.zero_add]
      exact ⟨Nat.zero_le _, (x 1).isLt⟩

/-- A whole buffer of rows, held in chunks. -/
theorem chunks_pts {sp : Space} {et : EltTy} (M : Memref sig .tc sp ⟨2, ![R, D]⟩ et) (hM : M.view.set = Finset.univ) (o : Fin n → Fin 2 → ℕ)
    (h : ∀ k b, o k b + (![T, D] : Fin 2 → ℕ) b ≤ (![R, D] : Fin 2 → ℕ) b) (ho : ∀ k, o k 0 = k.val * T) (ho1 : ∀ k, o k 1 = 0)
    (hn : n * T = R) (hT0 : 0 < T) (q : PosShare TreeShare) (f : Buf (Elt F) (M.view.loc (c : Thread nD τ))) :
    (M.view.loc (c : Thread nD τ) ↦{q} f : sProp (MT nD τ sig Unit (Elt F) ℕ U ℕ))
      = bigSep Finset.univ fun k : Fin n => M.view.loc (c : Thread nD τ) ↦[(chunkM M T (o k) (h k)).view.set]{q} f := by
  have hd := chunks_disjoint M o h ho
  have hu := chunks_union M o h ho ho1 hn hT0
  have e : (M.view.loc (c : Thread nD τ) ↦{q} f : sProp (MT nD τ sig Unit (Elt F) ℕ U ℕ)) = M.view.loc (c : Thread nD τ) ↦[M.view.set]{q} f := by
    rw [hM]
  rw [e]
  rw [Ring.pointsTo_sub_blocks (ℓ := M.view.loc (c : Thread nD τ)) (fun k : Fin n => (chunkM M T (o k) (h k)).view.set) hd M.view.set hu f]

end Chunk

end Cert.GatherProof
-- ==== Proof.Exchange.lean ====
/-
Two devices that exchange several blocks: every device signals its partner's barrier semaphore once and waits once on
its own; then it sends its partner `n` blocks, each on a send and a receive semaphore of its own; at the end it waits
for every one of its sends and of its receives.

The protocol, stated once for any signature: every device has one barrier cell, `n` send cells and `n` receive cells.
A cell has one round with one duty. The partner pays the barrier cell, with what the device needs to write into the
partner's memory; the device itself pays its send cells (the source comes back); the partner pays its receive cells
(the block arrived). The levels: barrier 1, receive 2, everything else 0, so that a device that still owes its partner
some blocks may wait on its barrier and on its own local copies.
-/
module

public import Idealize.ShloMosaic.Lib.Pipeline.Launch
public import Idealize.ShloMosaic.Lib.Pipeline.Kit
public import Idealize.ShloMosaic.Lib.Rounds
public import Idealize.ShloMosaic.Lib.Tactic

@[expose] public section

set_option maxRecDepth 16384

noncomputable section

namespace Cert.ExchangeProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Who talks to whom, on which semaphores, and how much a block counts. -/
structure Talk (nD : ℕ) (τ : Topo) (sig : RefSig) where
  n : ℕ
  peer : Dev nD → Dev nD
  peer_peer : ∀ c, peer (peer c) = c
  bar : Sem sig
  snd : Fin n → DmaSem sig
  rcv : Fin n → DmaSem sig
  snd_inj : Function.Injective snd
  rcv_inj : Function.Injective rcv
  snd_ne_rcv : ∀ i j, snd i ≠ rcv j
  N : Fin n → ℕ
  N_pos : ∀ i, 0 < N i

namespace Talk

variable {nD : ℕ} {τ : Topo} {sig : RefSig} (P : Talk nD τ sig)

/-- The kinds of cells of one device: its barrier, a send cell, a receive cell. -/
abbrev K : Type := Unit ⊕ (Fin P.n ⊕ Fin P.n)

abbrev kB : P.K := .inl ()
abbrev kS (i : Fin P.n) : P.K := .inr (.inl i)
abbrev kR (i : Fin P.n) : P.K := .inr (.inr i)

/-- The semaphore of a cell. -/
def sem : P.K → SemLoc sig
  | .inl _ => .reg P.bar
  | .inr (.inl i) => .dma (P.snd i)
  | .inr (.inr i) => .dma (P.rcv i)

/-- The units a cell's round expects. -/
def amt : P.K → ℕ
  | .inl _ => 1
  | .inr (.inl i) => P.N i
  | .inr (.inr i) => P.N i

theorem amt_pos (k : P.K) : 0 < P.amt k := by
  rcases k with _ | i | i
  · exact Nat.one_pos
  · exact P.N_pos i
  · exact P.N_pos i

theorem sem_inj : Function.Injective P.sem := by
  rintro (⟨⟩ | i | i) (⟨⟩ | j | j) h
  · rfl
  · exact absurd h (fun h => by cases h)
  · exact absurd h (fun h => by cases h)
  · exact absurd h (fun h => by cases h)
  · rw [P.snd_inj (SemLoc.dma.inj h)]
  · exact absurd (SemLoc.dma.inj h) (P.snd_ne_rcv i j)
  · exact absurd h (fun h => by cases h)
  · exact absurd (SemLoc.dma.inj h).symm (P.snd_ne_rcv j i)
  · rw [P.rcv_inj (SemLoc.dma.inj h)]

/-- Which cell a semaphore is, if it is one of the exchange's. -/
def kind (sm : SemLoc sig) : Option P.K := by
  classical exact if h : ∃ k, P.sem k = sm then some h.choose else none

theorem kind_sem (k : P.K) : P.kind (P.sem k) = some k := by
  classical
  have h : ∃ k', P.sem k' = P.sem k := ⟨k, rfl⟩
  unfold kind
  rw [dif_pos h, P.sem_inj h.choose_spec]

theorem kind_none {sm : SemLoc sig} (h : ∀ k, P.sem k ≠ sm) : P.kind sm = none := by
  classical
  unfold kind
  rw [dif_neg (fun ⟨k, hk⟩ => h k hk)]

/-- The cell of device `c`. -/
abbrev cell (c : Dev nD) (k : P.K) : GSem nD τ sig := ((c : Thread nD τ), P.sem k)

theorem cell_inj : Function.Injective (fun ck : Dev nD × P.K => (P.cell ck.1 ck.2 : GSem nD τ sig)) := by
  rintro ⟨c, k⟩ ⟨c', k'⟩ h
  have h1 : c = c' := congrArg (fun g : GSem nD τ sig => g.1.1) h
  have h2 : k = k' := P.sem_inj (congrArg Prod.snd h)
  rw [h1, h2]

theorem cell_kind {c c' : Dev nD} {k k' : P.K} (e : P.cell c k = P.cell c' k') : k = k' := P.sem_inj (congrArg Prod.snd e)

def swap : Dev nD ≃ Dev nD := ⟨P.peer, P.peer, P.peer_peer, P.peer_peer⟩

/-! ## What a device owes -/

/-- The blocks from the `j`-th on, owed to the partner's receive cells. -/
def owedFrom (c : Dev nD) (j : ℕ) : CellTallies nD τ sig Unit :=
  ∑ i ∈ Finset.univ.filter (fun i : Fin P.n => j ≤ i.val), tallyAt (P.cell (P.peer c) (P.kR i)) () (P.N i)

/-- At the start also the unit of the partner's barrier. -/
def owed (c : Dev nD) : CellTallies nD τ sig Unit := P.owedFrom c 0 + tallyAt (P.cell (P.peer c) P.kB) () 1

theorem owedFrom_end (c : Dev nD) : (P.owedFrom c P.n : CellTallies nD τ sig Unit) = 0 := by
  unfold owedFrom
  rw [Finset.filter_false_of_mem (fun i _ => Nat.not_le.mpr i.isLt), Finset.sum_empty]

theorem owedFrom_step (c : Dev nD) (i : Fin P.n) :
    (P.owedFrom c i.val : CellTallies nD τ sig Unit) = P.owedFrom c (i.val + 1) + tallyAt (P.cell (P.peer c) (P.kR i)) () (P.N i) := by
  unfold owedFrom
  have h : Finset.univ.filter (fun j : Fin P.n => i.val ≤ j.val) = insert i (Finset.univ.filter (fun j : Fin P.n => i.val + 1 ≤ j.val)) := by
    ext j
    simp only [Finset.mem_filter, Finset.mem_univ, true_and, Finset.mem_insert, Fin.ext_iff]
    omega
  rw [h, Finset.sum_insert (by simp), add_comm]

theorem owedFrom_apply (c : Dev nD) (j : ℕ) (g : GSem nD τ sig) (u : Unit) :
    P.owedFrom c j g u = ∑ i ∈ Finset.univ.filter (fun i : Fin P.n => j ≤ i.val), if g = P.cell (P.peer c) (P.kR i) then P.N i else 0 := by
  unfold owedFrom
  rw [Finset.sum_apply, Finsupp.finset_sum_apply]
  refine Finset.sum_congr rfl fun i _ => ?_
  rw [tallyAt_apply]
  cases u
  simp only [and_true]

theorem owedFrom_pos {c : Dev nD} {j : ℕ} {g : GSem nD τ sig} {u : Unit} (h : 0 < P.owedFrom c j g u) :
    ∃ i, g = P.cell (P.peer c) (P.kR i) := by
  rw [owedFrom_apply] at h
  by_contra hn
  rw [Finset.sum_eq_zero (fun i _ => if_neg (fun e => hn ⟨i, e⟩))] at h
  exact absurd h (Nat.lt_irrefl 0)

theorem owed_pos {c : Dev nD} {g : GSem nD τ sig} {u : Unit} (h : 0 < P.owed c g u) :
    g = P.cell (P.peer c) P.kB ∨ ∃ i, g = P.cell (P.peer c) (P.kR i) := by
  unfold owed at h
  rw [Pi.add_apply, Finsupp.add_apply, tallyAt_apply] at h
  by_cases hb : g = P.cell (P.peer c) P.kB
  · exact .inl hb
  · rw [if_neg (fun e => hb e.1), Nat.add_zero] at h
    exact .inr (P.owedFrom_pos h)

theorem owed_bar (d c : Dev nD) : P.owed d (P.cell c P.kB : GSem nD τ sig) () = if d = P.peer c then 1 else 0 := by
  unfold owed
  rw [Pi.add_apply, Finsupp.add_apply, owedFrom_apply, tallyAt_apply, Finset.sum_eq_zero, Nat.zero_add]
  · by_cases h : d = P.peer c
    · subst h; rw [P.peer_peer]; simp
    · rw [if_neg h, if_neg]
      rintro ⟨e, -⟩
      have e1 : c = P.peer d := congrArg (fun g : GSem nD τ sig => g.1.1) e
      exact h (by rw [e1, P.peer_peer])
  · intro i _
    refine if_neg fun e => ?_
    exact absurd (P.cell_kind e) (fun h => by cases h)

theorem owed_rcv (d c : Dev nD) (i : Fin P.n) : P.owed d (P.cell c (P.kR i) : GSem nD τ sig) () = if d = P.peer c then P.N i else 0 := by
  unfold owed
  rw [Pi.add_apply, Finsupp.add_apply, owedFrom_apply, tallyAt_apply, if_neg (c := _ ∧ _), Nat.add_zero, Finset.sum_eq_single i]
  · by_cases h : d = P.peer c
    · subst h; rw [P.peer_peer]; simp
    · rw [if_neg h, if_neg]
      intro e
      have e1 : c = P.peer d := congrArg (fun g : GSem nD τ sig => g.1.1) e
      exact h (by rw [e1, P.peer_peer])
  · intro j _ hj
    refine if_neg fun e => hj ?_
    exact ((Sum.inr.inj (Sum.inr.inj (P.cell_kind e)))).symm
  · intro h
    simp at h
  · rintro ⟨e, -⟩
    exact absurd (P.cell_kind e) (fun h => by cases h)

/-! ## The levels -/

def L (g : GSem nD τ sig) : Finset Unit := if g.1.2 = .tc then {()} else ∅

def lv (g : GSem nD τ sig) (_ : Unit) : ℕ :=
  match P.kind g.2 with
  | some (.inl _) => 1
  | some (.inr (.inr _)) => 2
  | _ => 0

theorem L_of_ne (g : GSem nD τ sig) (h : g.1.2 ≠ .tc) : (L g) = ∅ := if_neg h
theorem L_tc (c : Dev nD) (sm : SemLoc sig) : L ((c : Thread nD τ), sm) = {()} := if_pos rfl

theorem lv_bar (c : Dev nD) (u : Unit) : P.lv (P.cell c P.kB : GSem nD τ sig) u = 1 := by unfold lv; rw [P.kind_sem]
theorem lv_rcv (c : Dev nD) (i : Fin P.n) (u : Unit) : P.lv (P.cell c (P.kR i) : GSem nD τ sig) u = 2 := by unfold lv; rw [P.kind_sem]

theorem lv_zero {c : Thread nD τ} {sm : SemLoc sig} (hb : P.sem P.kB ≠ sm) (hr : ∀ i, P.sem (P.kR i) ≠ sm) (u : Unit) :
    P.lv (c, sm) u = 0 := by
  classical
  by_cases h : ∃ k, P.sem k = sm
  · obtain ⟨k, rfl⟩ := h
    unfold lv; rw [P.kind_sem]
    rcases k with _ | i | i
    · exact absurd rfl hb
    · rfl
    · exact absurd rfl (hr i)
  · unfold lv; rw [P.kind_none (fun k hk => h ⟨k, hk⟩)]

end Talk

open Talk

/-! ## The schedule -/

section Sched

variable {nD : ℕ} {τ : Topo} {sig : RefSig} {F : FTy → Type} {U : Type} [URA U] (P : Talk nD τ sig)

local notation "𝕄" => MT nD τ sig Unit (Elt F) ℕ U ℕ

/-- A device that owes no more than its partner's barrier unit and blocks may wait on a cell of level 0. -/
theorem may_low (c : Dev nD) {sm : SemLoc sig} (hb : P.sem P.kB ≠ sm) (hr : ∀ i, P.sem (P.kR i) ≠ sm) (O : CellTallies nD τ sig Unit)
    (hO : ∀ g u, 0 < O g u → g = P.cell (P.peer c) P.kB ∨ ∃ i, g = P.cell (P.peer c) (P.kR i)) :
    (levAts L P.lv : sProp 𝕄) ⊢ MayWait (c : Thread nD τ) sm () O :=
  MayOwe.of_cut (L := L) (lev := P.lv) 0 (fun p hp => by rw [Finset.mem_singleton.mp hp, L_tc]; exact Finset.mem_singleton_self _)
    (fun g u hg => by
      rcases hO g u hg with h | ⟨i, h⟩ <;> rw [h, L_tc] <;> exact Finset.mem_singleton_self _)
    (fun p hp => by rw [Finset.mem_singleton.mp hp, P.lv_zero hb hr])
    (fun g u hg => by
      rcases hO g u hg with h | ⟨i, h⟩
      · rw [h, P.lv_bar]; decide
      · rw [h, P.lv_rcv]; decide)

/-- A device that owes its partner blocks only may wait on its barrier. -/
theorem may_bar (c : Dev nD) (j : ℕ) : (levAts L P.lv : sProp 𝕄) ⊢ MayWait (c : Thread nD τ) (P.sem P.kB) () (P.owedFrom c j) :=
  MayOwe.of_cut (L := L) (lev := P.lv) 1 (fun p hp => by rw [Finset.mem_singleton.mp hp, L_tc]; exact Finset.mem_singleton_self _)
    (fun g u hg => by
      obtain ⟨i, h⟩ := P.owedFrom_pos hg
      rw [h, L_tc]; exact Finset.mem_singleton_self _)
    (fun p hp => by rw [Finset.mem_singleton.mp hp]; exact (P.lv_bar c ()).le)
    (fun g u hg => by
      obtain ⟨i, h⟩ := P.owedFrom_pos hg
      rw [h, P.lv_rcv]; decide)

theorem may_low_from (c : Dev nD) {sm : SemLoc sig} (hb : P.sem P.kB ≠ sm) (hr : ∀ i, P.sem (P.kR i) ≠ sm) (j : ℕ) :
    (levAts L P.lv : sProp 𝕄) ⊢ MayWait (c : Thread nD τ) sm () (P.owedFrom c j) :=
  may_low P c hb hr _ fun g u h => .inr (P.owedFrom_pos h)

theorem may_low_start (c : Dev nD) {sm : SemLoc sig} (hb : P.sem P.kB ≠ sm) (hr : ∀ i, P.sem (P.kR i) ≠ sm) :
    (levAts L P.lv : sProp 𝕄) ⊢ MayWait (c : Thread nD τ) sm () (P.owed c) :=
  may_low P c hb hr _ fun g u h => P.owed_pos h

variable (pay : P.K → Dev nD → sProp (MT nD τ sig Unit (Elt F) ℕ U ℕ))

/-- One round: one duty at each cell of the exchange, of the cell's units and with the cell's payload. -/
def rd : Rounds.Schedule (GSem nD τ sig) Unit 𝕄 where
  duties g r := match P.kind g.2 with
    | some _ => if r = 0 ∧ g.1.2 = .tc then {()} else ∅
    | none => ∅
  unitless _ := False
  amount g _ _ := match P.kind g.2 with
    | some k => P.amt k
    | none => 1
  payload g _ _ := match P.kind g.2 with
    | some k => pay k g.1.1
    | none => iprop(emp)
  amount_pos g _ _ _ := by
    rcases P.kind g.2 with _ | k
    · exact Nat.one_pos
    · exact P.amt_pos k

instance rd_storable [∀ k c, BI.Storable (upEmb : UEmb _ 𝕄) (pay k c)] (g : GSem nD τ sig) (r : ℕ) (d : Unit) :
    BI.Storable (upEmb : UEmb _ 𝕄) ((rd P pay).payload g r d) := by
  show BI.Storable upEmb (match P.kind g.2 with | some k => pay k g.1.1 | none => iprop(emp))
  rcases P.kind g.2 with _ | k <;> infer_instance

theorem duties_cell (c : Dev nD) (k : P.K) : (rd P pay).duties (P.cell c k) 0 = {()} := by
  dsimp only [rd]; rw [P.kind_sem]; exact if_pos ⟨rfl, rfl⟩

theorem duties_later (g : GSem nD τ sig) : ∀ r, 1 ≤ r → (rd P pay).duties g r = ∅ := fun r hr => by
  dsimp only [rd]
  rcases P.kind g.2 with _ | k
  · rfl
  · exact if_neg fun h => by omega

theorem amount_cell (c : Dev nD) (k : P.K) : (rd P pay).amount (P.cell c k) 0 () = P.amt k := by
  dsimp only [rd]; rw [P.kind_sem]

theorem payload_cell (c : Dev nD) (k : P.K) : (rd P pay).payload (P.cell c k) 0 () = pay k c := by
  dsimp only [rd]; rw [P.kind_sem]

theorem expect_cell (c : Dev nD) (k : P.K) : (rd P pay).expect (P.cell c k) 0 = P.amt k := by
  unfold Schedule.expect Schedule.amountOf; rw [duties_cell, Finset.sum_singleton, amount_cell]

theorem rest_cell (c : Dev nD) (k : P.K) :
    bigSep ((rd P pay).duties (P.cell c k) 0 \ ∅) (fun d => (rd P pay).payload (P.cell c k) 0 d) = pay k c := by
  rw [Finset.sdiff_empty, duties_cell, bigSep_singleton, payload_cell]

/-! ## The ghost state -/

variable (ER : Emb (URounds (GSem nD τ sig) Unit) (MT nD τ sig Unit (Elt F) ℕ U ℕ))

/-- Every cell's invariant is recorded, and every cell is at round 0 at least. -/
def records (κ : Dev nD × P.K → ℕ) : sProp 𝕄 :=
  iprop((bigSep Finset.univ fun ck : Dev nD × P.K => cellInv ER (rd P pay) (κ ck) (P.cell ck.1 ck.2))
    ∗ bigSep Finset.univ fun ck : Dev nD × P.K => reached ER (P.cell ck.1 ck.2) 0)

instance records_persistent (κ : Dev nD × P.K → ℕ) : BI.Persistent (records P pay ER κ) := by unfold records; infer_instance

theorem inv_at (κ : Dev nD × P.K → ℕ) (c : Dev nD) (k : P.K) : records P pay ER κ ⊢ cellInv ER (rd P pay) (κ (c, k)) (P.cell c k) := by
  have h : (bigSep Finset.univ fun ck : Dev nD × P.K => cellInv ER (rd P pay) (κ ck) (P.cell ck.1 ck.2))
      ⊢ cellInv ER (rd P pay) (κ (c, k)) (P.cell c k) := bigSep_elim (Finset.mem_univ (c, k))
  unfold records
  iintro ⟨H, -⟩
  iapply h
  iexact H

theorem reached_at (κ : Dev nD × P.K → ℕ) (c : Dev nD) (k : P.K) : records P pay ER κ ⊢ reached ER (P.cell c k) 0 := by
  have h : (bigSep Finset.univ fun ck : Dev nD × P.K => (reached ER (P.cell ck.1 ck.2) 0 : sProp 𝕄)) ⊢ reached ER (P.cell c k) 0 :=
    bigSep_elim (Finset.mem_univ (c, k))
  unfold records
  iintro ⟨-, H⟩
  iapply h
  iexact H

/-- What device `c` holds for its barrier: its position, the right to signal its partner, and the unit it waits for. -/
def hail (c : Dev nD) : sProp 𝕄 :=
  iprop(atPos ER (P.cell c P.kB) 0 ∅ 0 ∗ dutyTok ER (P.cell (P.peer c) P.kB) 0 () ∗ cred (tallyAt (P.cell c P.kB) () 1))

/-- What device `c` holds for block `i` before it sends it. -/
def todo (c : Dev nD) (i : Fin P.n) : sProp 𝕄 :=
  iprop((atPos ER (P.cell c (P.kS i)) 0 ∅ 0 ∗ atPos ER (P.cell c (P.kR i)) 0 ∅ 0 ∗ dutyTok ER (P.cell c (P.kS i)) 0 ()
      ∗ dutyTok ER (P.cell (P.peer c) (P.kR i)) 0 ())
    ∗ cred (tallyAt (P.cell c (P.kR i)) () (P.N i)))

/-- What it holds for its send of block `i` once it is under way. -/
def sending (c : Dev nD) (i : Fin P.n) : sProp 𝕄 :=
  iprop(atPos ER (P.cell c (P.kS i)) 0 ∅ 0 ∗ cred (tallyAt (P.cell c (P.kS i)) () (P.N i)))

/-- What it holds for block `i` of its partner, which is to arrive. -/
def expecting (c : Dev nD) (i : Fin P.n) : sProp 𝕄 :=
  iprop(atPos ER (P.cell c (P.kR i)) 0 ∅ 0 ∗ cred (tallyAt (P.cell c (P.kR i)) () (P.N i)))

/-! ## The steps of the body -/

section Steps

variable {Λ : Labels} {defs : Defs nD τ sig (Elt F) Λ} (𝒱 : Variants)
variable [ER.LandsIn (upEmb : UEmb _ (MT nD τ sig Unit (Elt F) ℕ U ℕ))]
  [∀ k c, BI.Storable (upEmb : UEmb _ (MT nD τ sig Unit (Elt F) ℕ U ℕ)) (pay k c)]
variable (κ : Dev nD × P.K → ℕ) (c : Dev nD)

/-- The signal of the partner's barrier, with what it is to find there. -/
theorem wp_hail {β : Type} {Q : β → sProp (MT nD τ sig Unit (Elt F) ℕ U ℕ)} {d : Dev nD} (hd : d = P.peer c) {sm : Sem sig} (hs : sm = P.bar)
    {k' : ℕ} (hk' : k' = 1) {kk : PUnit → Prog (TpuEff nD τ sig (Elt F) Λ .tc) β} (W : Waits sig Unit) :
    iprop(records P pay ER κ ∗ owes (c : Thread nD τ) (P.owed c) W ∗ dutyTok ER (P.cell (P.peer c) P.kB) 0 () ∗ pay P.kB (P.peer c))
      ⊢ iprop((owes (c : Thread nD τ) (P.owedFrom c 0) W -∗ wp frame (wpE defs 𝒱 (c : Thread nD τ) none) Set.univ (kk ⟨⟩) Q)
        -∗ wp frame (wpE defs 𝒱 (c : Thread nD τ) none) Set.univ (.op (.semSignal (d : Thread nD τ) sm k') kk) Q) := by
  subst hd hs hk'
  have hm : () ∈ (rd P pay).duties (P.cell (P.peer c) P.kB : GSem nD τ sig) 0 := by rw [duties_cell]; exact Finset.mem_singleton_self _
  have ha : (rd P pay).amount (P.cell (P.peer c) P.kB : GSem nD τ sig) 0 () = 1 := amount_cell P pay (P.peer c) P.kB
  have hp : pay P.kB (P.peer c) ⊢ (rd P pay).payload ((P.peer c : Thread nD τ), SemLoc.reg P.bar) 0 () :=
    Entails.of_eq (payload_cell P pay (P.peer c) P.kB).symm
  iintro ⟨#HR, HO, Htok, Hpay⟩ Hk
  iapply (Rounds.wp_signal 𝒱 ER (rd P pay) (c : Thread nD τ) none (dst := (P.peer c : Thread nD τ)) (sem := P.bar) (κ := κ (P.peer c, P.kB))
      (d := ()) (r := 0) hm ha () (P.owedFrom c 0) rfl (W := W)) $$ [HO Htok Hpay]
  · isplitr; · iapply (inv_at P pay ER κ (P.peer c) P.kB); iexact HR
    isplitl [HO]; · iexact HO
    isplitl [Htok]; · iexact Htok
    isplitl [Hpay]
    · iapply hp; iexact Hpay
    · iapply (reached_at P pay ER κ (P.peer c) P.kB); iexact HR
  iexact Hk

/-- The wait for all of one of the device's own cells, which is then closed: its payload, and its counter at zero. -/
theorem wp_take {β : Type} {Q : β → sProp (MT nD τ sig Unit (Elt F) ℕ U ℕ)} (k : P.K) {w : TpuEff nD τ sig (Elt F) Λ .tc PUnit} {k' : ℕ} (hk' : k' = P.amt k)
    {sm : SemLoc sig} (hsm : sm = P.sem k)
    (hw : ∀ K : PUnit → sProp (MT nD τ sig Unit (Elt F) ℕ U ℕ), wpE defs 𝒱 (c : Thread nD τ) none Set.univ w K = waitSpec (c : Thread nD τ) Set.univ sm k' K)
    {kk : PUnit → Prog (TpuEff nD τ sig (Elt F) Λ .tc) β} (O : CellTallies nD τ sig Unit) (W : Waits sig Unit) :
    iprop(records P pay ER κ ∗ (atPos ER (P.cell c k) 0 ∅ 0 ∗ cred (tallyAt (P.cell c k) () (P.amt k))) ∗ owes (c : Thread nD τ) O W
        ∗ MayWait (c : Thread nD τ) (P.sem k) () O)
      ⊢ iprop((((∃ W', owes (c : Thread nD τ) O W') ∗ semVal (P.cell c k) 0 ∗ pay k c)
            -∗ wp frame (wpE defs 𝒱 (c : Thread nD τ) none) Set.univ (kk ⟨⟩) Q)
        -∗ wp frame (wpE defs 𝒱 (c : Thread nD τ) none) Set.univ (.op w kk) Q) := by
  subst hk' hsm
  have he : 0 + P.amt k = (rd P pay).expect (P.cell c k : GSem nD τ sig) 0 := by rw [Nat.zero_add, expect_cell]
  iintro ⟨#HR, ⟨Hat, Hc⟩, HO, HM⟩ Hk
  iapply (Rounds.wp_wait_rest_token 𝒱 ER (rd P pay) (c : Thread nD τ) none (κ := κ (c, k)) hw (Set.mem_univ _) () (O := O) (W := W) (R := 0) (m := 0)
      (T := ∅) he) $$ [Hat Hc HO HM]
  · isplitr; · iapply (inv_at P pay ER κ c k); iexact HR
    isplitl [Hc]; · iexact Hc
    isplitl [HO]; · iexact HO
    isplitl [HM]; · iexact HM
    iexact Hat
  iintro ⟨HO, Hat, -, Hpay⟩
  ihave Hp := (Entails.of_eq (rest_cell P pay c k)) $$ Hpay
  imod (Rounds.cell_close ER (rd P pay) (κ := κ (c, k)) (Es := Set.univ) (Set.mem_univ _) (fun h => h) (R := 0 + 1) (duties_later P pay (P.cell c k))) $$ [Hat] with Hz
  · isplitr; · iapply (inv_at P pay ER κ c k); iexact HR
    iexact Hat
  iapply Hk
  isplitl [HO]; · iexists (insert (P.sem k, ()) W); iexact HO
  isplitl [Hz]; · iexact Hz
  iexact Hp

/-- Block `i` is sent: the source and the partner's destination go in, and the device owes one block less. -/
theorem wp_post {β : Type} {Q : β → sProp (MT nD τ sig Unit (Elt F) ℕ U ℕ)} (i : Fin P.n) {d : Dev nD} (hd : d = P.peer c) {sp sp' : Space} {s : Shape} {e : EltTy}
    {src : Memref sig .tc sp s e} {dst : Memref sig .tc sp' s e} {hsc : dst.view.ref.isScScratch = false} {sS sR : DmaSem sig}
    (hS : sS = P.snd i) (hR : sR = P.rcv i)
    {hsrc : src.view.WordExact} {hdst : dst.view.WordExact} {hsem : DmaTarget.Typed sp (SemLoc.dma sR) (.remote (d : Thread nD τ) dst (SemLoc.dma sS) hsc)}
    {kk : PUnit → Prog (TpuEff nD τ sig (Elt F) Λ .tc) β} {q : PosShare TreeShare}
    (fs : Buf (Elt F) (src.view.loc (c : Thread nD τ))) (fd : Buf (Elt F) (dst.view.loc (P.peer c : Thread nD τ)))
    (hN : dst.view.dmaCredit = P.N i) (W : Waits sig Unit)
    (hpay₁ : (src.view.loc (c : Thread nD τ) ↦[src.view.set]{q} fs) ⊢ pay (P.kS i) c)
    (hpay₂ : (dst.view.loc (P.peer c : Thread nD τ) ↦[dst.view.set]{fullShare} (dst.view.write (Elt F) fd (src.view.read (Elt F) fs) Finset.univ))
      ⊢ pay (P.kR i) (P.peer c)) (hr : τ.routes (c : Thread nD τ) (d : Thread nD τ) = true) :
    iprop(records P pay ER κ ∗ todo P ER c i ∗ (src.view.loc (c : Thread nD τ) ↦[src.view.set]{q} fs)
        ∗ (dst.view.loc (P.peer c : Thread nD τ) ↦[dst.view.set]{fullShare} fd) ∗ owes (c : Thread nD τ) (P.owedFrom c i.val) W)
      ⊢ iprop(((sending P ER c i ∗ expecting P ER c i ∗ owes (c : Thread nD τ) (P.owedFrom c (i.val + 1)) W)
            -∗ wp frame (wpE defs 𝒱 (c : Thread nD τ) none) Set.univ (kk ⟨⟩) Q)
        -∗ wp frame (wpE defs 𝒱 (c : Thread nD τ) none) Set.univ
          (.op (.enqueueDma src (.remote (d : Thread nD τ) dst (SemLoc.dma sS) hsc) (SemLoc.dma sR) hsrc hdst hsem) kk) Q) := by
  subst hd hS hR
  have hm₁ : () ∈ (rd P pay).duties (P.cell c (P.kS i) : GSem nD τ sig) 0 := by rw [duties_cell]; exact Finset.mem_singleton_self _
  have hm₂ : () ∈ (rd P pay).duties (P.cell (P.peer c) (P.kR i) : GSem nD τ sig) 0 := by rw [duties_cell]; exact Finset.mem_singleton_self _
  unfold todo sending expecting
  iintro ⟨#HR, ⟨⟨HaS, HaR, HtS, HtR⟩, HcR⟩, Hsrc, Hdst, HO⟩ Hk
  iapply (Rounds.wp_send_pointsTo 𝒱 ER (rd P pay) (c : Thread nD τ) none (c' := (P.peer c : Thread nD τ)) (src := src) (dst := dst)
      (sS := SemLoc.dma (P.snd i)) (sem := SemLoc.dma (P.rcv i)) (κ₁ := κ (c, P.kS i)) (κ₂ := κ (P.peer c, P.kR i))
      (r₁ := 0) (r₂ := 0) (d₁ := ()) (d₂ := ()) (fs := fs) (fd := fd) (q := q) hm₁ hm₂ () () (P.N i) hN
      (amount_cell P pay c (P.kS i)) (amount_cell P pay (P.peer c) (P.kR i)) (P.owedFrom c (i.val + 1)) (P.owedFrom_step c i) (W := W)
      (hpay₁.trans (Entails.of_eq (payload_cell P pay c (P.kS i)).symm))
      (hpay₂.trans (Entails.of_eq (payload_cell P pay (P.peer c) (P.kR i)).symm)) hr) $$ [HtS HtR Hsrc Hdst HO]
  · isplitr; · iapply (inv_at P pay ER κ c (P.kS i)); iexact HR
    isplitr; · iapply (inv_at P pay ER κ (P.peer c) (P.kR i)); iexact HR
    isplitl [Hsrc]; · iexact Hsrc
    isplitl [Hdst]; · iexact Hdst
    isplitl [HO]; · iexact HO
    isplitl [HtS]; · iexact HtS
    isplitr; · iapply (reached_at P pay ER κ c (P.kS i)); iexact HR
    isplitl [HtR]; · iexact HtR
    iapply (reached_at P pay ER κ (P.peer c) (P.kR i)); iexact HR
  iintro ⟨HcS, HO⟩
  iapply Hk
  isplitl [HaS HcS]
  · isplitl [HaS]; · iexact HaS
    iexact HcS
  isplitl [HaR HcR]
  · isplitl [HaR]; · iexact HaR
    iexact HcR
  iexact HO

end Steps

/-! ## The launch -/

/-- The cells of all devices and the duty tokens minted for them. -/
def cells : Finset (GSem nD τ sig) := Finset.univ.map ⟨fun ck : Dev nD × P.K => P.cell ck.1 ck.2, P.cell_inj⟩

def toks : Finset (GSem nD τ sig × ℕ × Unit) :=
  Finset.univ.map ⟨fun ck : Dev nD × P.K => (P.cell ck.1 ck.2, 0, ()), fun a b h => P.cell_inj (τ := τ) (congrArg Prod.fst h)⟩

/-- What the launch deals device `c`: its cells' round states, its positions, the duty tokens of its own cells. -/
def dealt (c : Dev nD) : sProp 𝕄 :=
  iprop((bigSep Finset.univ fun k : P.K => roundState ER (rd P pay) (P.cell c k) 0)
    ∗ (bigSep Finset.univ fun k : P.K => reached ER (P.cell c k) 0)
    ∗ (bigSep Finset.univ fun k : P.K => atPos ER (P.cell c k) 0 ∅ 0)
    ∗ (bigSep Finset.univ fun k : P.K => dutyTok ER (P.cell c k) 0 ()))

theorem fund_cells : BI.own (ER (initOf (cells P (τ := τ)) (toks P (τ := τ)))) ⊢ (|==> bigSep Finset.univ (dealt P pay ER) : sProp 𝕄) := by
  have hX (Φ : GSem nD τ sig → sProp 𝕄) : bigSep (cells P) Φ = bigSep Finset.univ fun c : Dev nD => bigSep Finset.univ fun k : P.K => Φ (P.cell c k) := by
    unfold cells; rw [bigSep_map, bigSep_univ_prod]; rfl
  have hT : bigSep (toks P) (fun x => (dutyTok ER x.1 x.2.1 x.2.2 : sProp 𝕄))
      = bigSep Finset.univ fun c : Dev nD => bigSep Finset.univ fun k : P.K => dutyTok ER (P.cell c k) 0 () := by
    unfold toks; rw [bigSep_map, bigSep_univ_prod]; rfl
  iintro HX
  imod (Rounds.fund ER (rd P pay) (cells P) (toks P)) $$ HX with ⟨Hst, Hr, Hat, Htok⟩
  imodintro
  ihave Hst' := (Entails.of_eq (hX fun g => roundState ER (rd P pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hr']; · iexact Hr'
  isplitl [Hat']; · iexact Hat'
  iexact Htok'

/-- The counters of a device's cells: its barrier, its send cells, its receive cells. -/
def counters (c : Dev nD) : sProp 𝕄 := bigSep Finset.univ fun k : P.K => semVal (P.cell c k) 0

/-- A device's own part of the ghost state: what it needs for its barrier but the launch's unit, and for each block. -/
def part (c : Dev nD) : sProp 𝕄 :=
  iprop((atPos ER (P.cell c P.kB) 0 ∅ 0 ∗ dutyTok ER (P.cell (P.peer c) P.kB) 0 ())
    ∗ bigSep Finset.univ fun i : Fin P.n => iprop(atPos ER (P.cell c (P.kS i)) 0 ∅ 0 ∗ atPos ER (P.cell c (P.kR i)) 0 ∅ 0
      ∗ dutyTok ER (P.cell c (P.kS i)) 0 () ∗ dutyTok ER (P.cell (P.peer c) (P.kR i)) 0 ()))

def given (c : Dev nD) : sProp 𝕄 := iprop(∃ κ : Dev nD × P.K → ℕ, records P pay ER κ ∗ part P ER c)

theorem bigSep_kinds (Φ : P.K → sProp (MT nD τ sig Unit (Elt F) ℕ U ℕ)) :
    bigSep Finset.univ Φ = iprop(Φ P.kB ∗ (bigSep Finset.univ fun i => Φ (P.kS i)) ∗ bigSep Finset.univ fun i => Φ (P.kR i)) := by
  rw [bigSep_univ_sum, bigSep_univ_sum, Finset.univ_unique, bigSep_singleton]; rfl

theorem around :
    iprop((bigSep Finset.univ fun c : Dev nD => bigSep Finset.univ fun k : P.K => (atPos ER (P.cell c k) 0 ∅ 0 : sProp (MT nD τ sig Unit (Elt F) ℕ U ℕ)))
        ∗ bigSep Finset.univ fun c : Dev nD => bigSep Finset.univ fun k : P.K => dutyTok ER (P.cell c k) 0 ())
      ⊢ bigSep Finset.univ fun c : Dev nD => part P ER c := by
  unfold part
  simp only [bigSep_kinds, bigSep_sep']
  rw [bigSep_univ_equiv P.swap (fun c : Dev nD => (dutyTok ER (P.cell c P.kB) 0 () : sProp (MT nD τ sig Unit (Elt F) ℕ U ℕ))),
    bigSep_univ_equiv P.swap (fun c : Dev nD => bigSep Finset.univ fun i : Fin P.n => (dutyTok ER (P.cell c (P.kR i)) 0 () : sProp (MT nD τ sig Unit (Elt F) ℕ U ℕ)))]
  iintro ⟨⟨A, B, C⟩, D, E, G⟩
  isplitl [A D]
  · isplitl [A]; · iexact A
    iexact D
  isplitl [B]; · iexact B
  isplitl [C]; · iexact C
  isplitl [E]; · iexact E
  iexact G

theorem with_persistent {I : Type} [DecidableEq I] {S : Finset I} {R : sProp (MT nD τ sig Unit (Elt F) ℕ U ℕ)} [BI.Persistent R]
    {Φ Ψ : I → sProp (MT nD τ sig Unit (Elt F) ℕ U ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's counters and what it was dealt make, under one update, the recorded invariants and every device's part. -/
theorem settle [ER.LandsIn (upEmb : UEmb _ (MT nD τ sig Unit (Elt F) ℕ U ℕ))]
    [∀ k c, BI.Storable (upEmb : UEmb _ (MT nD τ sig Unit (Elt F) ℕ U ℕ)) (pay k c)] {R R' : Dev nD → sProp (MT nD τ sig Unit (Elt F) ℕ U ℕ)}
    (hR : ∀ c, R c ⊢ iprop(counters P c ∗ R' c)) :
    (bigSep Finset.univ fun c => iprop(R c ∗ dealt P pay ER c) : sProp 𝕄)
      ⊢ |={Set.univ}=> bigSep Finset.univ fun c => iprop(given P pay ER c ∗ R' c) := by
  have alloc (c : Dev nD) : iprop(R c ∗ dealt P pay ER c)
      ⊢ |={Set.univ}=> iprop((bigSep Finset.univ fun k => iprop(∃ κ : ℕ, cellInv ER (rd P pay) κ (P.cell c k)))
          ∗ (bigSep Finset.univ fun k => reached ER (P.cell c k) 0) ∗ (bigSep Finset.univ fun k => atPos ER (P.cell c k) 0 ∅ 0)
          ∗ (bigSep Finset.univ fun k => dutyTok ER (P.cell c k) 0 ()) ∗ R' c) := by
    have inner : iprop((bigSep Finset.univ fun k : P.K => semVal (P.cell c k) 0) ∗ bigSep Finset.univ fun k : P.K => roundState ER (rd P pay) (P.cell c k) 0)
        ⊢ (|={Set.univ}=> bigSep Finset.univ fun k => iprop(∃ κ : ℕ, cellInv ER (rd P pay) κ (P.cell c k)) : sProp 𝕄) := by
      rw [← bigSep_sep']
      exact (bigSep_mono fun k _ => (Rounds.body_intro ER (rd P pay) (P.cell c k)).trans inv_alloc).trans (bigSep_fupd _ _)
    unfold dealt
    iintro ⟨HRc, Hst, Hr, Hat, Htok⟩
    ihave HR := (hR c) $$ HRc
    icases HR with ⟨Hv, HR'⟩
    unfold counters
    imod inner $$ [Hv Hst] with Hinv
    · isplitl [Hv] <;> iassumption
    imodintro
    isplitl [Hinv]; · iexact Hinv
    isplitl [Hr]; · iexact Hr
    isplitl [Hat]; · iexact Hat
    isplitl [Htok]; · iexact Htok
    iexact HR'
  have regroup : (bigSep Finset.univ fun c : Dev nD => iprop((bigSep Finset.univ fun k => iprop(∃ κ : ℕ, cellInv ER (rd P pay) κ (P.cell c k)))
          ∗ (bigSep Finset.univ fun k => reached ER (P.cell c k) 0) ∗ (bigSep Finset.univ fun k => atPos ER (P.cell c k) 0 ∅ 0)
          ∗ (bigSep Finset.univ fun k => dutyTok ER (P.cell c k) 0 ()) ∗ R' c) : sProp 𝕄)
      ⊢ bigSep Finset.univ fun c => iprop(given P pay ER c ∗ R' c) := by
    simp only [bigSep_sep']
    rw [← bigSep_univ_prod (fun ck : Dev nD × P.K => iprop(∃ κ : ℕ, cellInv ER (rd P pay) κ (P.cell ck.1 ck.2))),
      ← bigSep_univ_prod (fun ck : Dev nD × P.K => (reached ER (P.cell ck.1 ck.2) 0 : sProp 𝕄))]
    have gi (κ : Dev nD × P.K → ℕ) (c : Dev nD) : iprop(records P pay ER κ ∗ part P ER c) ⊢ given P pay ER c := by
      unfold given
      iintro H
      iexists κ
      iexact H
    iintro ⟨HI, #Hr, Hat, Htok, HR'⟩
    ihave HK := (BI.bigSep_exists_pi Finset.univ (fun (ck : Dev nD × P.K) (κ : ℕ) => (cellInv ER (rd P pay) κ (P.cell ck.1 ck.2) : sProp 𝕄))) $$ HI
    icases HK with ⟨%κ, #HI⟩
    isplitr [HR']
    · iapply (with_persistent (R := records P pay ER κ) fun c _ => gi κ c)
      isplitr
      · unfold records; isplitl; · iexact HI
        iexact Hr
      · iapply (around P ER)
        isplitl [Hat]; · iexact Hat
        iexact Htok
    · iexact HR'
  exact ((bigSep_mono fun c _ => alloc c).trans (bigSep_fupd _ _)).trans (BI.fupd_mono regroup)

/-! ## The launch's credit -/

theorem launch_bar (c : Dev nD) :
    tallyOn (P.cell c P.kB) (launchCredit (Pipeline.owing P.owed) 0 (P.cell c P.kB)) = (tallyAt (P.cell c P.kB) () 1 : CellTallies nD τ sig Unit) := by
  unfold tallyAt; refine congrArg _ (Finsupp.ext fun u => ?_); cases u
  rw [Pipeline.launchCredit_owing, Finsupp.single_eq_same, Finset.sum_congr rfl fun d _ => P.owed_bar d c,
    Finset.sum_ite_eq' Finset.univ (P.peer c) fun _ => 1, if_pos (Finset.mem_univ _)]

theorem launch_rcv (c : Dev nD) (i : Fin P.n) :
    tallyOn (P.cell c (P.kR i)) (launchCredit (Pipeline.owing P.owed) 0 (P.cell c (P.kR i))) = (tallyAt (P.cell c (P.kR i)) () (P.N i) : CellTallies nD τ sig Unit) := by
  unfold tallyAt; refine congrArg _ (Finsupp.ext fun u => ?_); cases u
  rw [Pipeline.launchCredit_owing, Finsupp.single_eq_same, Finset.sum_congr rfl fun d _ => P.owed_rcv d c i,
    Finset.sum_ite_eq' Finset.univ (P.peer c) fun _ => P.N i, if_pos (Finset.mem_univ _)]

/-- The launch gives a device the unit of its barrier and the credit of every block that is to arrive. -/
theorem creds (c : Dev nD) :
    (Pipeline.launchCred P.owed c : sProp 𝕄)
      ⊢ iprop(cred (tallyAt (P.cell c P.kB) () 1) ∗ bigSep Finset.univ fun i : Fin P.n => cred (tallyAt (P.cell c (P.kR i)) () (P.N i))) := by
  have h : iprop(cred (tallyAt (P.cell c P.kB) () 1) ∗ bigSep Finset.univ fun i : Fin P.n => cred (tallyAt (P.cell c (P.kR i)) () (P.N i)))
      = (bigSep (Finset.univ.map ⟨fun k : Unit ⊕ Fin P.n => P.sem (k.elim Sum.inl (fun i => Sum.inr (Sum.inr i))),
          P.sem_inj.comp (by rintro (⟨⟩ | i) (⟨⟩ | j) h <;> simp_all)⟩)
          fun sm : SemLoc sig => cred (tallyOn ((c : Thread nD τ), sm) (launchCredit (Pipeline.owing P.owed) 0 ((c : Thread nD τ), sm))) : sProp 𝕄) := by
    have hu : (Finset.univ : Finset Unit) = {()} := rfl
    rw [bigSep_map, bigSep_univ_sum, hu, bigSep_singleton]
    exact congr (congrArg BIBase.sep (congrArg cred (launch_bar P c).symm)) (bigSep_congr fun i _ => congrArg cred (launch_rcv P c i).symm)
  rw [h]
  unfold Pipeline.launchCred
  exact bigSep_subset (Finset.subset_univ _)

/-- With the launch's credit, a device's part is what it holds for its barrier and for each block. -/
theorem ready (c : Dev nD) :
    iprop(part P ER c ∗ (Pipeline.launchCred P.owed c : sProp 𝕄)) ⊢ iprop(hail P ER c ∗ bigSep Finset.univ fun i : Fin P.n => todo P ER c i) := by
  unfold part hail todo
  iintro ⟨⟨⟨Ha, Ht⟩, Hb⟩, Hc⟩
  ihave Hcr := (creds P c) $$ Hc
  icases Hcr with ⟨H1, HN⟩
  isplitl [Ha Ht H1]
  · isplitl [Ha]; · iexact Ha
    isplitl [Ht]; · iexact Ht
    iexact H1
  iapply (Entails.of_eq (bigSep_sep' (Finset.univ : Finset (Fin P.n)) (fun i => iprop(atPos ER (P.cell c (P.kS i)) 0 ∅ 0
      ∗ atPos ER (P.cell c (P.kR i)) 0 ∅ 0 ∗ dutyTok ER (P.cell c (P.kS i)) 0 () ∗ dutyTok ER (P.cell (P.peer c) (P.kR i)) 0 ()))
      (fun i => cred (tallyAt (P.cell c (P.kR i)) () (P.N i)))).symm)
  isplitl [Hb]; · iexact Hb
  iexact HN

end Sched

end Cert.ExchangeProof

end
-- ==== Proof.Step.lean ====
/-
One chunk of the exchange: the rows of the chunk are gathered into the send buffer and the chunk is sent into the
partner's receive buffer. Both programs do this four times.
-/
module

public import proofs.«01_k».proof.Proof.Chunk
public import proofs.«01_k».proof.Proof.Exchange

@[expose] public section

set_option maxRecDepth 16384

noncomputable section

namespace Cert.ExchangeProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GatherProof
open Talk

section Step

variable {nD : Nat} {τ : Topo} {sig : RefSig} {F : FTy → Type} {Λ : Labels} {defs : Defs nD τ sig (Elt F) Λ}
variable {U : Type} [URA U] [CountersIn U]
variable (P : Talk nD τ sig) (pay : P.K → Dev nD → sProp (MT nD τ sig Unit (Elt F) ℕ U ℕ))
variable (ER : Emb (URounds (GSem nD τ sig) Unit) (MT nD τ sig Unit (Elt F) ℕ U ℕ))
variable [ER.LandsIn (upEmb : UEmb _ (MT nD τ sig Unit (Elt F) ℕ U ℕ))]
  [∀ k c, BI.Storable (upEmb : UEmb _ (MT nD τ sig Unit (Elt F) ℕ U ℕ)) (pay k c)]
variable (𝒱 : Variants) (κ : Dev nD × P.K → ℕ)

local notation "𝕄" => MT nD τ sig Unit (Elt F) ℕ U ℕ

variable {R X D T : ℕ} (hX0 : 0 < X) (c : Dev nD)
variable (iM : Memref sig .tc .smem ⟨1, ![R]⟩ .i32) (cM : Memref sig .tc .vmem ⟨2, ![R, D]⟩ .f32) (xM : Memref sig .tc .hbm ⟨2, ![X, D]⟩ .f32)
variable (rM : Memref sig .tc .hbm ⟨2, ![R, D]⟩ .f32)
variable (gs : DmaSem sig)
variable (fI : Buf (Elt F) (iM.view.loc (c : Thread nD τ)))
variable (fX : Buf (Elt F) (xM.view.loc (c : Thread nD τ))) (q : PosShare TreeShare)

/-- What stays in the device's hands from one chunk to the next: the index words, the gather semaphore at zero, the
    source array, and the level facts. -/
def tools : sProp 𝕄 :=
  iprop(((iM.view.loc (c : Thread nD τ) ↦[iM.view.set]{fullShare} fI) ∗ semVal ((c : Thread nD τ), SemLoc.dma gs) 0
        ∗ (xM.view.loc (c : Thread nD τ) ↦[xM.view.set]{q} fX))
    ∗ levAts L P.lv)

/-- The chunk gathered and sent. -/
theorem gather_send {lp : Scf.Loop 32} (hok : lp.OK)
    (oI : Fin lp.trips → Fin 1 → ℕ) (hoI : ∀ k a, oI k a + (![1] : Fin 1 → ℕ) a ≤ (![R] : Fin 1 → ℕ) a)
    (hI : ∀ k, (Rect.unit (s := ⟨1, ![R]⟩) (oI k) ![1] (hoI k)).shape.numel = 1)
    (oC : Fin lp.trips → Fin 2 → ℕ) (hC : ∀ k a, oC k a + (![1, D] : Fin 2 → ℕ) a ≤ (![R, D] : Fin 2 → ℕ) a)
    (chk : Elt F .i32 → Prop) (dec : ∀ v, Decidable (chk v))
    (oX : Elt F .i32 → Fin 2 → ℕ) (hX : ∀ v, chk v → ∀ a, oX v a + (![1, D] : Fin 2 → ℕ) a ≤ (![X, D] : Fin 2 → ℕ) a)
    (a : ℕ) (hT : lp.trips = T)
    (eI : ∀ k, oI k = ![a + k.val]) (eC : ∀ k, oC k = ![a + k.val, 0])
    (eX : ∀ v : BitVec 32, 0 ≤ v.toInt → oX v = ![(rowOf hX0 v).val, 0])
    (hchk0 : ∀ v, (∀ b, oX v b + (![1, D] : Fin 2 → ℕ) b ≤ (![X, D] : Fin 2 → ℕ) b) → chk v)
    (hnn : ∀ i, (0 : ℤ) ≤ (show BitVec 32 from iM.view.read (Elt F) fI i).toInt)
    (G : Buf (Elt F) (cM.view.loc (c : Thread nD τ)))
    {β : Type} {Q : β → sProp (MT nD τ sig Unit (Elt F) ℕ U ℕ)} (hT0 : 0 < T)
    (hch : ∀ b, (![a, 0] : Fin 2 → ℕ) b + (![T, D] : Fin 2 → ℕ) b ≤ (![R, D] : Fin 2 → ℕ) b)
    (hG : cM.view.read (Elt F) G = rowsBy hX0 (iM.view.read (Elt F) fI) (xM.view.read (Elt F) fX))
    (body : Fin lp.trips → Unit → Prog (TpuEff nD τ sig (Elt F) Λ .tc) Unit)
    (hbody : ∀ k u, body k u = issueBody iM cM xM gs (fun k => Rect.unit (s := ⟨1, ![R]⟩) (oI k) ![1] (hoI k)) hI oC hC chk dec oX hX k)
    {lp' : Scf.Loop 32} (hok' : lp'.OK) (hlp : lp'.trips = T)
    (body' : Fin lp'.trips → Unit → Prog (TpuEff nD τ sig (Elt F) Λ .tc) Unit)
    (vC : Memref sig .tc .vmem ⟨2, ![1, D]⟩ .f32) (vX : Memref sig .tc .hbm ⟨2, ![1, D]⟩ .f32)
    (hv : ∀ k, (dstRow cM oC hC k).view.dmaCredit = vC.view.dmaCredit) (hv0 : 0 < vC.view.dmaCredit)
    (hbody' : ∀ k u, body' k u = drainBody gs vC vX)
    (f₀ : Buf (Elt F) (cM.view.loc (c : Thread nD τ)))
    (i : Fin P.n) {d : Dev nD} (hd : d = P.peer c) {hsc : (chunkM rM T ![a, 0] hch).view.ref.isScScratch = false} {sS sR : DmaSem sig}
    (hS : sS = P.snd i) (hR : sR = P.rcv i)
    {hsrc : (chunkM cM T ![a, 0] hch).view.WordExact} {hdst : (chunkM rM T ![a, 0] hch).view.WordExact}
    {hsem : DmaTarget.Typed .vmem (SemLoc.dma sR) (.remote (d : Thread nD τ) (chunkM rM T ![a, 0] hch) (SemLoc.dma sS) hsc)}
    {kk : PUnit → Prog (TpuEff nD τ sig (Elt F) Λ .tc) β}
    (fd : Buf (Elt F) (rM.view.loc (P.peer c : Thread nD τ))) (GR : Buf (Elt F) (rM.view.loc (P.peer c : Thread nD τ)))
    (hGR : rM.view.read (Elt F) GR = cM.view.read (Elt F) G)
    (hN : (chunkM rM T ![a, 0] hch).view.dmaCredit = P.N i)
    (hgB : P.sem P.kB ≠ SemLoc.dma gs) (hgR : ∀ i, P.sem (P.kR i) ≠ SemLoc.dma gs)
    (hpay₁ : (cM.view.loc (c : Thread nD τ) ↦[(chunkM cM T ![a, 0] hch).view.set]{fullShare} G) ⊢ pay (P.kS i) c)
    (hpay₂ : (rM.view.loc (P.peer c : Thread nD τ) ↦[(chunkM rM T ![a, 0] hch).view.set]{fullShare} GR) ⊢ pay (P.kR i) (P.peer c))
    (hr : τ.routes (c : Thread nD τ) (d : Thread nD τ) = true) :
    iprop(records P pay ER κ ∗ tools P c iM xM gs fI fX q ∗ todo P ER c i
        ∗ (cM.view.loc (c : Thread nD τ) ↦[(chunkM cM T ![a, 0] hch).view.set]{fullShare} f₀)
        ∗ (rM.view.loc (P.peer c : Thread nD τ) ↦[(chunkM rM T ![a, 0] hch).view.set]{fullShare} fd)
        ∗ ∃ W, owes (c : Thread nD τ) (P.owedFrom c i.val) W)
      ⊢ iprop(((tools P c iM xM gs fI fX q ∗ (sending P ER c i ∗ expecting P ER c i) ∗ ∃ W, owes (c : Thread nD τ) (P.owedFrom c (i.val + 1)) W)
            -∗ wp frame (wpE defs 𝒱 (c : Thread nD τ) none) Set.univ (kk ⟨⟩) Q)
        -∗ wp frame (wpE defs 𝒱 (c : Thread nD τ) none) Set.univ
          (Scf.Loop.for lp hok ⟨⟩ body >>= fun _ => Scf.Loop.for lp' hok' ⟨⟩ body' >>= fun _ =>
            .op (.enqueueDma (chunkM cM T ![a, 0] hch) (.remote (d : Thread nD τ) (chunkM rM T ![a, 0] hch) (SemLoc.dma sS) hsc) (SemLoc.dma sR) hsrc hdst hsem) kk) Q) := by
  have hm : (levAts L P.lv : sProp 𝕄) ⊢ MayWait (c : Thread nD τ) (.dma gs) () (P.owedFrom c i.val) := may_low_from P c hgB hgR i.val
  have hw : ∀ j ∈ (chunkM rM T ![a, 0] hch).view.set,
      (chunkM rM T ![a, 0] hch).view.write (Elt F) fd ((chunkM cM T ![a, 0] hch).view.read (Elt F) G) Finset.univ j = GR j :=
    write_eq_on (chunkM rM T ![a, 0] hch).view fd GR _ (by
      funext x
      exact congrFun hGR ((Rect.unit (s := ⟨2, ![R, D]⟩) ![a, 0] ![T, D] hch).emb x))
  have hp2 : ((chunkM rM T ![a, 0] hch).view.loc (P.peer c : Thread nD τ) ↦[(chunkM rM T ![a, 0] hch).view.set]{fullShare}
        ((chunkM rM T ![a, 0] hch).view.write (Elt F) fd ((chunkM cM T ![a, 0] hch).view.read (Elt F) G) Finset.univ))
      ⊢ pay (P.kR i) (P.peer c) := (Entails.of_eq (pointsTo_congr hw)).trans hpay₂
  have h1 := fun kk W => gather_chunk (U := U) (defs := defs) 𝒱 hX0 c iM cM xM gs hok oI hoI hI oC hC chk dec oX hX a hT eI eC eX hchk0 fI hnn G fX q (Q := Q)
    hT0 hch hG body hbody hok' hlp body' vC vX hv hv0 hbody' kk f₀ (P.owedFrom c i.val) W
  have h2 := fun W => wp_post (defs := defs) (Q := Q) P pay ER 𝒱 κ c i hd (src := chunkM cM T ![a, 0] hch) (dst := chunkM rM T ![a, 0] hch) (hsc := hsc) hS hR
    (hsrc := hsrc) (hdst := hdst) (hsem := hsem) (kk := kk) (q := fullShare) G fd hN W hpay₁ hp2 hr
  unfold tools
  iintro ⟨#HR, ⟨HT, #Hlev⟩, Htodo, HC, HD, %W, HO⟩ Hk
  ihave HM := hm $$ Hlev
  iapply (h1 _ W) $$ [HT HC HO HM]
  · isplitl [HT]; · iexact HT
    isplitl [HC]; · iexact HC
    isplitl [HO]; · iexact HO
    iexact HM
  iintro ⟨HT, HC, %W', HO⟩
  iapply (h2 W') $$ [Htodo HC HD HO]
  · isplitr; · iexact HR
    isplitl [Htodo]; · iexact Htodo
    isplitl [HC]; · iexact HC
    isplitl [HD]; · iexact HD
    iexact HO
  iintro ⟨HS, HE, HO⟩
  iapply Hk
  isplitl [HT]
  · isplitl [HT]; · iexact HT
    iexact Hlev
  isplitl [HS HE]
  · isplitl [HS]; · iexact HS
    iexact HE
  iexists W'; iexact HO

omit [CountersIn U] in
/-- At the end, owing nothing, the device waits for a send or a receive of its own. -/
theorem take_dma (k : P.K) {β : Type} {Q : β → sProp (MT nD τ sig Unit (Elt F) ℕ U ℕ)} {sm : DmaSem sig} (hsm : SemLoc.dma sm = P.sem k)
    {sp sp' : Space} {s s' : Shape} {e e' : EltTy} {v : Memref sig .tc sp s e} {w : Memref sig .tc sp' s' e'} {hv : v.view.WordExact} {hw : w.view.WordExact}
    (hN : w.view.dmaCredit = P.amt k) {kk : PUnit → Prog (TpuEff nD τ sig (Elt F) Λ .tc) β} :
    iprop(records P pay ER κ ∗ (atPos ER (P.cell c k) 0 ∅ 0 ∗ cred (tallyAt (P.cell c k) () (P.amt k))) ∗ ∃ W, owes (c : Thread nD τ) 0 W)
      ⊢ iprop((((∃ W, owes (c : Thread nD τ) 0 W) ∗ semVal (P.cell c k) 0 ∗ pay k c)
            -∗ wp frame (wpE defs 𝒱 (c : Thread nD τ) none) Set.univ (kk ⟨⟩) Q)
        -∗ wp frame (wpE defs 𝒱 (c : Thread nD τ) none) Set.univ (.op (.waitDma2 sm v w hv hw) kk) Q) := by
  have h := fun W => wp_take (defs := defs) (Q := Q) P pay ER 𝒱 κ c k (w := .waitDma2 sm v w hv hw) hN hsm
    (fun K => wpE_waitDma2_eq 𝒱 (c : Thread nD τ) none Set.univ (K := K)) (kk := kk) 0 W
  iintro ⟨#HR, Hc, %W, HO⟩ Hk
  iapply (h W) $$ [Hc HO]
  · isplitr; · iexact HR
    isplitl [Hc]; · iexact Hc
    isplitl [HO]; · iexact HO
    rw [MayWait_zero]; iempintro
  iexact Hk

omit [CountersIn U] in
/-- The wait for the send of block `i`. -/
theorem take_send (i : Fin P.n) {β : Type} {Q : β → sProp (MT nD τ sig Unit (Elt F) ℕ U ℕ)} {sm : DmaSem sig} (hsm : sm = P.snd i)
    {sp sp' : Space} {s s' : Shape} {e e' : EltTy} {v : Memref sig .tc sp s e} {w : Memref sig .tc sp' s' e'} {hv : v.view.WordExact} {hw : w.view.WordExact}
    (hN : w.view.dmaCredit = P.N i) {kk : PUnit → Prog (TpuEff nD τ sig (Elt F) Λ .tc) β} :
    iprop(records P pay ER κ ∗ sending P ER c i ∗ ∃ W, owes (c : Thread nD τ) 0 W)
      ⊢ iprop((((∃ W, owes (c : Thread nD τ) 0 W) ∗ semVal (P.cell c (P.kS i)) 0 ∗ pay (P.kS i) c)
            -∗ wp frame (wpE defs 𝒱 (c : Thread nD τ) none) Set.univ (kk ⟨⟩) Q)
        -∗ wp frame (wpE defs 𝒱 (c : Thread nD τ) none) Set.univ (.op (.waitDma2 sm v w hv hw) kk) Q) :=
  take_dma P pay ER 𝒱 κ c (P.kS i) (congrArg SemLoc.dma hsm) hN

omit [CountersIn U] in
/-- The wait for the partner's block `i`. -/
theorem take_recv (i : Fin P.n) {β : Type} {Q : β → sProp (MT nD τ sig Unit (Elt F) ℕ U ℕ)} {sm : DmaSem sig} (hsm : sm = P.rcv i)
    {sp sp' : Space} {s s' : Shape} {e e' : EltTy} {v : Memref sig .tc sp s e} {w : Memref sig .tc sp' s' e'} {hv : v.view.WordExact} {hw : w.view.WordExact}
    (hN : w.view.dmaCredit = P.N i) {kk : PUnit → Prog (TpuEff nD τ sig (Elt F) Λ .tc) β} :
    iprop(records P pay ER κ ∗ expecting P ER c i ∗ ∃ W, owes (c : Thread nD τ) 0 W)
      ⊢ iprop((((∃ W, owes (c : Thread nD τ) 0 W) ∗ semVal (P.cell c (P.kR i)) 0 ∗ pay (P.kR i) c)
            -∗ wp frame (wpE defs 𝒱 (c : Thread nD τ) none) Set.univ (kk ⟨⟩) Q)
        -∗ wp frame (wpE defs 𝒱 (c : Thread nD τ) none) Set.univ (.op (.waitDma2 sm v w hv hw) kk) Q) :=
  take_dma P pay ER 𝒱 κ c (P.kR i) (congrArg SemLoc.dma hsm) hN

end Step

end Cert.ExchangeProof

end
-- ==== Proof.DispatchSetup.lean ====
/-
The dispatch call: who talks to whom, what the buffers hold, and what each semaphore hands over.

Every device gathers 2304 rows of its own `x` (the rows its row numbers name, clipped) in four chunks of 576, and sends
each chunk to the device with the other `y` coordinate. Before that it sends its 32 rows of expert numbers to the same
device, and copies them into the upper part of its own list of 64 rows.
-/
module

public import proofs.«01_k».proof.Proof.Step
public import proofs.«01_k».proof.Proof.Gen.DispatchIdeal.Skeleton
public import proofs.«01_k».proof.Proof.Gen.DispatchIdeal.Launch
public import proofs.«01_k».proof.Proof.Gen.DispatchIdeal.Points
public import proofs.«01_k».proof.Proof.Gen.DispatchIdeal.Loops

@[expose] public section

set_option maxRecDepth 16384

noncomputable section

namespace Cert.DispatchProof

open Cert.DispatchIdeal Cert.DispatchIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof

variable {F : FTy → Type} [FloatOps F]

/-- The resource algebra: the pipeline's rounds, the exchange's rounds, the counters of the local copies. -/
abbrev UU : Type := UR sig nD τ × (URounds (GSem nD τ sig) Unit × Counters)

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := (Emb.inl).trans embR

/-! ## The buffers -/

abbrev iM : Memref sig .tc .smem S2304 .i32 := Memref.whole cc0_stg0_0
abbrev xM : Memref sig .tc .hbm S4096x2048 .f32 := Memref.whole main_arg0
abbrev aM : Memref sig .tc .hbm S32x128 .i32 := Memref.whole main_arg1
abbrev rM : Memref sig .tc .hbm S2304x2048 .f32 := Memref.whole main_v1_0
abbrev gM : Memref sig .tc .hbm S64x128 .i32 := Memref.whole main_v1_1
abbrev cM : Memref sig .tc .vmem S2304x2048 .f32 := Memref.whole cc0_scratch0

/-- The first row of chunk `k` of the gathered rows. -/
def first : Fin 4 → ℕ := ![0, 576, 1152, 1728]

theorem first_inb (k : Fin 4) : ∀ b, (![first k, 0] : Fin 2 → ℕ) b + (![576, 2048] : Fin 2 → ℕ) b ≤ (![2304, 2048] : Fin 2 → ℕ) b := by
  revert k; decide

theorem first_eq (k : Fin 4) : (![first k, 0] : Fin 2 → ℕ) 0 = k.val * 576 := by
  revert k; decide

/-- Chunk `k` of the send buffer and of the receive buffer. -/
abbrev cK (k : Fin 4) : Memref sig .tc .vmem ⟨2, ![576, 2048]⟩ .f32 := chunkM cM 576 ![first k, 0] (first_inb k)
abbrev rK (k : Fin 4) : Memref sig .tc .hbm ⟨2, ![576, 2048]⟩ .f32 := chunkM rM 576 ![first k, 0] (first_inb k)

/-- The first row of either half of the list of expert numbers: the device's own, then its partner's. -/
def start : Fin 2 → ℕ := ![0, 32]

theorem start_inb (k : Fin 2) : ∀ b, (![start k, 0] : Fin 2 → ℕ) b + (![32, 128] : Fin 2 → ℕ) b ≤ (![64, 128] : Fin 2 → ℕ) b := by
  revert k; decide

theorem start_eq (k : Fin 2) : (![start k, 0] : Fin 2 → ℕ) 0 = k.val * 32 := by
  revert k; decide

/-- The half of the list of expert numbers. -/
abbrev gK (k : Fin 2) : Memref sig .tc .hbm ⟨2, ![32, 128]⟩ .i32 := chunkM gM 32 ![start k, 0] (start_inb k)

/-! ## Who talks to whom -/

/-- The device with the same `x` and the other `y` coordinate. -/
def peer (c : Dev nD) : Dev nD := ⟨(2 * (c.val / 2) + 1) - c.val % 2, by have := c.isLt; unfold nD at this ⊢; omega⟩

abbrev ls : DmaSem sig := cc0_scratch1.sem
abbrev gs : DmaSem sig := cc0_scratch2.sem
abbrev bar : Sem sig := (SemArray.scalar (sig.barrier 0 rfl) : Sems sig S_).sem
def snd (i : Fin 5) : DmaSem sig := (⟨3 + i.val, by have := i.isLt; show 3 + i.val < 13; omega⟩ : Fin 13)
def rcv (i : Fin 5) : DmaSem sig := (⟨8 + i.val, by have := i.isLt; show 8 + i.val < 13; omega⟩ : Fin 13)

/-- The units of a block: of the expert numbers, of a chunk of rows. -/
def units : Fin 5 → ℕ
  | ⟨0, _⟩ => (gK 1).view.dmaCredit
  | ⟨k + 1, h⟩ => (rK ⟨k, Nat.lt_of_succ_lt_succ h⟩).view.dmaCredit

theorem units_pos (i : Fin 5) : 0 < units i := by
  match i with
  | ⟨0, _⟩ => exact View.dmaCredit_pos _ (by show 0 < (⟨2, ![32, 128]⟩ : Shape).numel; decide)
  | ⟨k + 1, h⟩ => exact View.dmaCredit_pos _ (by show 0 < (⟨2, ![576, 2048]⟩ : Shape).numel; decide)

/-- The exchange: block 0 the expert numbers, block `k + 1` chunk `k` of the rows. -/
def P : Talk nD τ sig where
  n := 5
  peer := peer
  peer_peer := by decide
  bar := bar
  snd := snd
  rcv := rcv
  snd_inj := by decide
  rcv_inj := by decide
  snd_ne_rcv := by decide
  N := units
  N_pos := units_pos

variable (m : (ℓ : Loc nD τ sig) → Buf (Elt F) ℓ)

/-! ## The contents -/

/-- The row numbers, the rows and the expert numbers of device `c`. -/
abbrev nums (c : Dev nD) : S2304.Idx → BitVec 32 := m ((c : Thread nD τ).loc main_arg2)
abbrev rows (c : Dev nD) : S4096x2048.Idx → Elt F .f32 := m ((c : Thread nD τ).loc main_arg0)
abbrev experts (c : Dev nD) : S32x128.Idx → BitVec 32 := m ((c : Thread nD τ).loc main_arg1)

/-- What device `c` gathers and sends. -/
def sent (c : Dev nD) : S2304x2048.Idx → Elt F .f32 := rowsBy (R := 2304) (X := 4096) (D := 2048) (by decide) (nums m c) (rows m c)

/-- Two lists of expert numbers, one under the other. -/
def under (a b : S32x128.Idx → BitVec 32) : S64x128.Idx → BitVec 32 := fun j =>
  (if (j 0).val < 32 then a else b) (at2 ⟨(j 0).val % 32, Nat.mod_lt _ (by decide)⟩ (j 1))

/-- A place of the two lists, by its row in the one it lies in. -/
theorem under_at (a b : S32x128.Idx → BitVec 32) (j : S64x128.Idx) (x : S32x128.Idx) (h0 : (j 0).val % 32 = (x 0).val) (h1 : (j 1).val = (x 1).val) :
    under a b j = (if (j 0).val < 32 then a else b) x := by
  unfold under
  have e : (at2 ⟨(j 0).val % 32, Nat.mod_lt _ (by decide)⟩ (j 1) : S32x128.Idx) = x := by
    funext k
    refine Fin.ext ?_
    match k with
    | ⟨0, _⟩ => exact h0
    | ⟨1, _⟩ => exact h1
  rw [e]

/-- What device `c`'s list of expert numbers ends as: its own, then its partner's. -/
def both (c : Dev nD) : S64x128.Idx → BitVec 32 := under (experts m c) (experts m (peer c))

/-! ## What the semaphores hand over -/

/-- What the send of a block gives back: the right share of the expert numbers, or the chunk of the send buffer. -/
def back (c : Dev nD) : Fin 5 → sProp 𝕄
  | ⟨0, _⟩ => aM.view.loc (c : Thread nD τ) ↦[aM.view.set]{fullShare.right} experts m c
  | ⟨k + 1, h⟩ => cM.view.loc (c : Thread nD τ) ↦[(cK ⟨k, Nat.lt_of_succ_lt_succ h⟩).view.set]{fullShare} sent m c

/-- What a block that arrives brings: the lower half of the list of expert numbers, or the chunk of the receive buffer,
    holding what the partner sent. -/
def come (c : Dev nD) : Fin 5 → sProp 𝕄
  | ⟨0, _⟩ => gM.view.loc (c : Thread nD τ) ↦[(gK 1).view.set]{fullShare} both m c
  | ⟨k + 1, h⟩ => rM.view.loc (c : Thread nD τ) ↦[(rK ⟨k, Nat.lt_of_succ_lt_succ h⟩).view.set]{fullShare} sent m (peer c)

/-- The barrier: the partner's whole receive buffer and the half of its list that is to be filled. -/
def pay : P.K → Dev nD → sProp 𝕄
  | .inl _, c => iprop(((peer c : Thread nD τ).loc main_v1_0 ↦{fullShare} m ((peer c : Thread nD τ).loc main_v1_0))
      ∗ (gM.view.loc (peer c : Thread nD τ) ↦[(gK 1).view.set]{fullShare} m ((peer c : Thread nD τ).loc main_v1_1)))
  | .inr (.inl i), c => back m c i
  | .inr (.inr i), c => come m c i

instance back_storable (c : Dev nD) (i : Fin 5) : BI.Storable (upEmb : UEmb _ 𝕄) (back m c i) := by
  rcases i with ⟨_ | k, h⟩ <;> (unfold back; infer_instance)

instance come_storable (c : Dev nD) (i : Fin 5) : BI.Storable (upEmb : UEmb _ 𝕄) (come m c i) := by
  rcases i with ⟨_ | k, h⟩ <;> (unfold come; infer_instance)

instance pay_storable (k : P.K) (c : Dev nD) : BI.Storable (upEmb : UEmb _ 𝕄) (pay m k c) := by
  rcases k with _ | i | i
  · unfold pay; infer_instance
  · exact back_storable m c i
  · exact come_storable m c i

theorem peer_peer (c : Dev nD) : peer (peer c) = c := P.peer_peer c

/-- The receive buffer whole, or in its four chunks. -/
theorem recv_chunks (c : Dev nD) (f : Buf (Elt F) ((c : Thread nD τ).loc main_v1_0)) :
    ((c : Thread nD τ).loc main_v1_0 ↦{fullShare} f : sProp 𝕄)
      = bigSep Finset.univ fun k : Fin 4 => rM.view.loc (c : Thread nD τ) ↦[(rK k).view.set]{fullShare} f :=
  chunks_pts c rM (View.set_whole main_v1_0) (fun k => ![first k, 0]) first_inb first_eq (fun _ => rfl) rfl (by decide) fullShare f

/-- The send buffer whole, or in its four chunks. -/
theorem send_chunks (c : Dev nD) (f : Buf (Elt F) ((c : Thread nD τ).loc cc0_scratch0)) :
    ((c : Thread nD τ).loc cc0_scratch0 ↦{fullShare} f : sProp 𝕄)
      = bigSep Finset.univ fun k : Fin 4 => cM.view.loc (c : Thread nD τ) ↦[(cK k).view.set]{fullShare} f :=
  chunks_pts c cM (View.set_whole cc0_scratch0) (fun k => ![first k, 0]) first_inb first_eq (fun _ => rfl) rfl (by decide) fullShare f

theorem two (Φ : Fin 2 → sProp (MT nD τ sig Unit (Elt F) ℕ UU ℕ)) : bigSep Finset.univ Φ = iprop(Φ 0 ∗ Φ 1) :=
  bigSep_univ_eq_bigSepL [0, 1] (by decide) (by decide) Φ

theorem four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

theorem five (Φ : Fin 5 → sProp (MT nD τ sig Unit (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ

/-- The list of expert numbers whole, or in its two halves. -/
theorem list_halves (c : Dev nD) (f : Buf (Elt F) ((c : Thread nD τ).loc main_v1_1)) :
    ((c : Thread nD τ).loc main_v1_1 ↦{fullShare} f : sProp 𝕄)
      = iprop((gM.view.loc (c : Thread nD τ) ↦[(gK 0).view.set]{fullShare} f)
        ∗ (gM.view.loc (c : Thread nD τ) ↦[(gK 1).view.set]{fullShare} f)) :=
  (chunks_pts c gM (View.set_whole main_v1_1) (fun k => ![start k, 0]) start_inb start_eq (fun _ => rfl) rfl (by decide) fullShare f).trans
    (two (F := F) _)

/-- The expert numbers at the full share, or at its two parts. -/
theorem experts_shares (c : Dev nD) (f : Buf (Elt F) ((c : Thread nD τ).loc main_arg1)) :
    ((c : Thread nD τ).loc main_arg1 ↦{fullShare} f : sProp 𝕄)
      ⊣⊢ iprop((aM.view.loc (c : Thread nD τ) ↦[aM.view.set]{fullShare.left} f)
        ∗ (aM.view.loc (c : Thread nD τ) ↦[aM.view.set]{fullShare.right} f)) := by
  rw [show aM.view.set = Finset.univ from View.set_whole main_arg1]
  exact pointsTo_share (PosShare.mem_left_op_right _)

/-- Reading the half of the list: the device's own numbers, and the partner's. -/
theorem half_read (c : Dev nD) (k : Fin 2) :
    (gK k).view.read (Elt F) (both m c) = if k = 0 then experts m c else experts m (peer c) := by
  funext x
  show both m c ((Rect.unit (s := ⟨2, ![64, 128]⟩) ![start k, 0] ![32, 128] (start_inb k)).emb x) = _
  have hx : (x 0).val < 32 := (x 0).isLt
  have e0 : (((Rect.unit (s := ⟨2, ![64, 128]⟩) ![start k, 0] ![32, 128] (start_inb k)).emb x) 0).val = start k + (x 0).val := by
    rw [Rect.emb_apply]
    show start k + 1 * (x 0).val = _
    rw [Nat.one_mul]
  have e1 : (((Rect.unit (s := ⟨2, ![64, 128]⟩) ![start k, 0] ![32, 128] (start_inb k)).emb x) 1).val = (x 1).val := by
    rw [Rect.emb_apply]
    show 0 + 1 * (x 1).val = _
    rw [Nat.one_mul, Nat.zero_add]
  refine (under_at _ _ _ x ((congrArg (fun z => z % 32) e0).trans ?_) e1).trans ?_
  · match k with
    | 0 => show (0 + (x 0).val) % 32 = _; omega
    | 1 => show (32 + (x 0).val) % 32 = _; omega
  match k with
  | 0 =>
    rw [if_pos (by rw [e0]; show 0 + (x 0).val < 32; omega)]; rfl
  | 1 =>
    rw [if_neg (by rw [e0]; show ¬ (32 + (x 0).val < 32); omega)]; rfl

end Cert.DispatchProof

end
-- ==== Proof.DispatchBody.lean ====
/-
The body of the dispatch call, on one device.
-/
module

public import proofs.«01_k».proof.Proof.DispatchSetup

@[expose] public section

set_option maxRecDepth 16384

noncomputable section

namespace Cert.DispatchProof

open Cert.DispatchIdeal Cert.DispatchIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof

variable {F : FTy → Type} [FloatOps F]
local notation "𝕄" => MT nD τ sig Unit (Elt F) ℕ UU ℕ
variable (m : (ℓ : Loc nD τ sig) → Buf (Elt F) ℓ)

/-- Every device names its partner the same way. -/
theorem dev_eq {v : ℕ} {h : v < nD} (c : Dev nD) (e : v = (2 * (c.val / 2) + 1) - c.val % 2) : (⟨v, h⟩ : Dev nD) = P.peer c := Fin.ext e

/-- A row offset's word, not negative, names the clipped row. -/
theorem off_row {o : Elt F .i32 → Fin 2 → ℕ} (ho : ∀ v : BitVec 32, o v = ![(Scalar.minsi v 4095#32).toNat, 0]) (v : BitVec 32) (hv : 0 ≤ v.toInt) :
    o v = ![(rowOf (X := 4096) (by decide) v).val, 0] := by
  rw [ho, minsi_toNat v _ hv (by decide)]; rfl

variable (κ : Dev nD × P.K → ℕ)

abbrev kit (c : Dev nD) : sProp 𝕄 :=
  tools (U := UU) (F := F) P c iM xM gs (nums m c) (rows m c) fullShare

/-- The levels allow the wait at the barrier. -/
theorem kit_bar (c : Dev nD) : kit m c ⊢ iprop(kit m c ∗ MayWait (c : Thread nD τ) (P.sem P.kB) () (P.owedFrom c 0)) := by
  unfold kit tools
  iintro ⟨HA, #HL⟩
  isplitl [HA]
  · isplitl [HA]; · iexact HA
    iexact HL
  iapply (may_bar (F := F) (U := UU) P c 0); iexact HL

theorem routes (c d : Dev nD) : τ.routes (c : Thread nD τ) (d : Thread nD τ) = true := by
  revert c d; decide

/-- What arrives at the partner is what the partner's receive semaphore hands over there: a chunk of the rows. -/
theorem pay_recv (c : Dev nD) (k : Fin 4) :
    (rM.view.loc (P.peer c : Thread nD τ) ↦[(rK k).view.set]{fullShare} sent m c : sProp 𝕄) ⊢ pay m (P.kR k.succ) (P.peer c) := by
  have h : peer (P.peer c) = c := peer_peer c
  show _ ⊢ (rM.view.loc (P.peer c : Thread nD τ) ↦[(rK k).view.set]{fullShare} sent m (peer (P.peer c)) : sProp 𝕄)
  rw [h]

/-- The same of the expert numbers. -/
theorem pay_list (c : Dev nD) (f : Buf (Elt F) (gM.view.loc (P.peer c : Thread nD τ))) :
    (gM.view.loc (P.peer c : Thread nD τ) ↦[(gK 1).view.set]{fullShare}
        ((gK 1).view.write (Elt F) f (aM.view.read (Elt F) (experts m c)) Finset.univ) : sProp 𝕄)
      ⊢ pay m (P.kR (0 : Fin 5)) (P.peer c) := by
  have h : peer (P.peer c) = c := peer_peer c
  show _ ⊢ (gM.view.loc (P.peer c : Thread nD τ) ↦[(gK 1).view.set]{fullShare} both m (P.peer c) : sProp 𝕄)
  refine Entails.of_eq (pointsTo_congr (write_eq_on (gK 1).view f (both m (P.peer c)) _ ?_))
  refine (half_read m (P.peer c) 1).trans ?_
  rw [if_neg (by decide), h]; rfl

/-- The counters of the exchange's semaphores, one by one. -/
theorem all_counters (c : Dev nD) :
    iprop(semVal (P.cell c P.kB) 0
      ∗ (semVal (P.cell c (P.kS (0 : Fin 5))) 0 ∗ semVal (P.cell c (P.kS (1 : Fin 5))) 0 ∗ semVal (P.cell c (P.kS (2 : Fin 5))) 0
        ∗ semVal (P.cell c (P.kS (3 : Fin 5))) 0 ∗ semVal (P.cell c (P.kS (4 : Fin 5))) 0)
      ∗ semVal (P.cell c (P.kR (0 : Fin 5))) 0 ∗ semVal (P.cell c (P.kR (1 : Fin 5))) 0 ∗ semVal (P.cell c (P.kR (2 : Fin 5))) 0
        ∗ semVal (P.cell c (P.kR (3 : Fin 5))) 0 ∗ semVal (P.cell c (P.kR (4 : Fin 5))) 0)
      = (counters P c : sProp 𝕄) := by
  unfold counters
  rw [bigSep_kinds]
  rw [show (bigSep Finset.univ fun i => semVal (P.cell c (P.kS i)) 0 : sProp 𝕄) = _ from five (F := F) _,
    show (bigSep Finset.univ fun i => semVal (P.cell c (P.kR i)) 0 : sProp 𝕄) = _ from five (F := F) _]

/-- The device's own expert numbers on their way into its list: what the copy hands over. -/
abbrev landed (c : Dev nD) : sProp 𝕄 :=
  iprop((gM.view.loc (c : Thread nD τ) ↦[(gK 0).view.set]{fullShare} both m c)
    ∗ (aM.view.loc (c : Thread nD τ) ↦[aM.view.set]{fullShare.left} experts m c))

/-- The copy under way. -/
abbrev flying (c : Dev nD) : sProp 𝕄 :=
  Transfers.Flight (countersEmb (U := UU)) (c : Thread nD τ) (SemLoc.dma ls) () ((gK 0).view.dmaCredit) (landed m c)

/-- The copy of the device's own expert numbers is started. -/
theorem copy_own (c : Dev nD) (f : Buf (Elt F) (gM.view.loc (c : Thread nD τ)))
    {hsrc : aM.view.WordExact} {hdst : (gK 0).view.WordExact} {hsem : DmaTarget.Typed .hbm (SemLoc.dma ls)
      (DmaTarget.here (nD := nD) (p := (c : Thread nD τ).2) (gK 0))}
    {β : Type} {Q : β → sProp (MT nD τ sig Unit (Elt F) ℕ UU ℕ)} {kk : PUnit → Prog (TpuEff nD τ sig (Elt F) Λ₀ .tc) β} :
    iprop((aM.view.loc (c : Thread nD τ) ↦[aM.view.set]{fullShare.left} experts m c)
        ∗ (gM.view.loc (c : Thread nD τ) ↦[(gK 0).view.set]{fullShare} f) ∗ semVal ((c : Thread nD τ), SemLoc.dma ls) 0)
      ⊢ iprop((flying m c -∗ wp frame (wpE (defs₀ (F := F)) Variants.none (c : Thread nD τ) none) Set.univ (kk ⟨⟩) Q)
        -∗ wp frame (wpE (defs₀ (F := F)) Variants.none (c : Thread nD τ) none) Set.univ
          (.op (.enqueueDma aM (.here (gK 0)) (SemLoc.dma ls) hsrc hdst hsem) kk) Q) := by
  have hd : iprop((gM.view.loc (c : Thread nD τ) ↦[(gK 0).view.set]{fullShare}
        ((gK 0).view.write (Elt F) f (aM.view.read (Elt F) (experts m c)) Finset.univ))
      ∗ (aM.view.loc (c : Thread nD τ) ↦[aM.view.set]{fullShare.left} experts m c)) ⊢ landed m c :=
    Entails.of_eq (by rw [pointsTo_congr (write_eq_on (gK 0).view f (both m c) _ ((half_read m c 0).trans (if_pos rfl)))])
  have hf := Transfers.Flight_mono (countersEmb (U := UU)) (c : Thread nD τ) (sm := SemLoc.dma ls) (ι := ()) (N := (gK 0).view.dmaCredit) hd
  iintro H Hk
  iapply (Transfers.wp_dmaLocal (countersEmb (U := UU)) Variants.none (c : Thread nD τ) none (src := aM) (via := .same) (dst := gK 0) (sm := SemLoc.dma ls)
    (q := fullShare.left) (fs := experts m c) (Sd := (gK 0).view.set) (fd := f) () ((gK 0).view.dmaCredit) rfl
    (View.dmaCredit_pos _ (by show 0 < (⟨2, ![32, 128]⟩ : Shape).numel; decide)) (Finset.Subset.refl _)) $$ H
  iintro HF
  iapply Hk
  iapply hf
  iexact HF

/-- Chunk `i` gathered and sent. -/
theorem chunk_send (hnn : ∀ c i, (0 : ℤ) ≤ (nums m c i).toInt) (c : Dev nD) (i : Fin 4) {lp lp' : Scf.Loop 32} (hok : lp.OK) (hok' : lp'.OK)
    (hT : lp.trips = 576) (hT' : lp'.trips = 576)
    (oI : Fin lp.trips → Fin 1 → ℕ) (hoI : ∀ k a, oI k a + (![1] : Fin 1 → ℕ) a ≤ (![2304] : Fin 1 → ℕ) a)
    (hI : ∀ k, (Rect.unit (s := ⟨1, ![2304]⟩) (oI k) ![1] (hoI k)).shape.numel = 1)
    (oC : Fin lp.trips → Fin 2 → ℕ) (hC : ∀ k a, oC k a + (![1, 2048] : Fin 2 → ℕ) a ≤ (![2304, 2048] : Fin 2 → ℕ) a)
    (chk : Elt F .i32 → Prop) (dec : ∀ v, Decidable (chk v))
    (oX : Elt F .i32 → Fin 2 → ℕ) (hX : ∀ v, chk v → ∀ a, oX v a + (![1, 2048] : Fin 2 → ℕ) a ≤ (![4096, 2048] : Fin 2 → ℕ) a)
    (eI : ∀ k, oI k = ![k.val + first i]) (eC : ∀ k, oC k = ![k.val + first i, 0])
    (eX : ∀ v : BitVec 32, oX v = ![(Scalar.minsi v 4095#32).toNat, 0])
    (hchk : ∀ v, (∀ b, oX v b + (![1, 2048] : Fin 2 → ℕ) b ≤ (![4096, 2048] : Fin 2 → ℕ) b) → chk v)
    (body : Fin lp.trips → Unit → Prog (TpuEff nD τ sig (Elt F) Λ₀ .tc) Unit)
    (hbody : ∀ k u, body k u = issueBody iM cM xM gs (fun k => Rect.unit (s := ⟨1, ![2304]⟩) (oI k) ![1] (hoI k)) hI oC hC chk dec oX hX k)
    (body' : Fin lp'.trips → Unit → Prog (TpuEff nD τ sig (Elt F) Λ₀ .tc) Unit)
    (vC : Memref sig .tc .vmem ⟨2, ![1, 2048]⟩ .f32) (vX : Memref sig .tc .hbm ⟨2, ![1, 2048]⟩ .f32)
    (hv : ∀ k, (dstRow cM oC hC k).view.dmaCredit = vC.view.dmaCredit) (hv0 : 0 < vC.view.dmaCredit)
    (hbody' : ∀ k u, body' k u = drainBody gs vC vX)
    (f₀ : Buf (Elt F) ((c : Thread nD τ).loc cc0_scratch0)) {d : Dev nD} (hd : d = P.peer c) {hsc : (rK i).view.ref.isScScratch = false}
    {sS sR : DmaSem sig} (hS : sS = snd i.succ) (hR : sR = rcv i.succ) {hsrc : (cK i).view.WordExact} {hdst : (rK i).view.WordExact}
    {hsem : DmaTarget.Typed .vmem (SemLoc.dma sR) (.remote (d : Thread nD τ) (rK i) (SemLoc.dma sS) hsc)}
    {β : Type} {Q : β → sProp (MT nD τ sig Unit (Elt F) ℕ UU ℕ)} {kk : PUnit → Prog (TpuEff nD τ sig (Elt F) Λ₀ .tc) β} :
    iprop(records P (pay m) ER κ ∗ kit m c ∗ todo P ER c i.succ ∗ (cM.view.loc (c : Thread nD τ) ↦[(cK i).view.set]{fullShare} f₀)
        ∗ (rM.view.loc (peer c : Thread nD τ) ↦[(rK i).view.set]{fullShare} m ((peer c : Thread nD τ).loc main_v1_0))
        ∗ ∃ W, owes (c : Thread nD τ) (P.owedFrom c (i.val + 1)) W)
      ⊢ iprop(((kit m c ∗ (sending P ER c i.succ ∗ expecting P ER c i.succ) ∗ ∃ W, owes (c : Thread nD τ) (P.owedFrom c (i.val + 2)) W)
            -∗ wp frame (wpE (defs₀ (F := F)) Variants.none (c : Thread nD τ) none) Set.univ (kk ⟨⟩) Q)
        -∗ wp frame (wpE (defs₀ (F := F)) Variants.none (c : Thread nD τ) none) Set.univ
          (Scf.Loop.for lp hok ⟨⟩ body >>= fun _ => Scf.Loop.for lp' hok' ⟨⟩ body' >>= fun _ =>
            .op (.enqueueDma (cK i) (.remote (d : Thread nD τ) (rK i) (SemLoc.dma sS) hsc) (SemLoc.dma sR) hsrc hdst hsem) kk) Q) :=
  gather_send (defs := defs₀ (F := F)) (hX0 := (by decide : 0 < 4096)) (T := 576) P (pay m) ER Variants.none κ c iM cM xM rM gs (nums m c) (rows m c) fullShare
    hok oI hoI hI oC hC chk dec oX hX (first i) hT (fun k => by rw [eI, Nat.add_comm]) (fun k => by rw [eC, Nat.add_comm]) (off_row eX) hchk
    (hnn c) (sent m c) (by decide) (first_inb i) rfl body hbody hok' hT' body' vC vX hv hv0 hbody'
    f₀ i.succ hd hS hR (m ((peer c : Thread nD τ).loc main_v1_0)) (sent m c) rfl rfl (by decide) (by decide) Entails.rfl (pay_recv m c i) (routes c d)

/-- The body: from the semaphores' rights and the buffers to every counter at zero, the rows and the expert numbers that
    the partner sent, and everything else as it was. -/
theorem sound_body (hnn : ∀ c i, (0 : ℤ) ≤ (nums m c i).toInt) (c : Dev nD) (W₀ : Waits sig Unit) (f₀ : Buf (Elt F) ((c : Thread nD τ).loc cc0_scratch0)) :
    iprop(records P (pay m) ER κ ∗ kit m c ∗ owes (c : Thread nD τ) (P.owed c) W₀ ∗ hail P ER c ∗ (bigSep Finset.univ fun i => todo P ER c i)
        ∗ semVal ((c : Thread nD τ), SemLoc.dma ls) 0
        ∗ ((c : Thread nD τ).loc main_arg1 ↦{fullShare} m ((c : Thread nD τ).loc main_arg1))
        ∗ ((c : Thread nD τ).loc main_v1_0 ↦{fullShare} m ((c : Thread nD τ).loc main_v1_0))
        ∗ ((c : Thread nD τ).loc main_v1_1 ↦{fullShare} m ((c : Thread nD τ).loc main_v1_1))
        ∗ ((c : Thread nD τ).loc cc0_scratch0 ↦{fullShare} f₀))
      ⊢ wp frame (wpE (defs₀ (F := F)) Variants.none (c : Thread nD τ) none) Set.univ
          (cc0_body xM (Memref.isWhole_whole _) aM (Memref.isWhole_whole _) iM (Memref.isWhole_whole _) rM (Memref.isWhole_whole _) gM (Memref.isWhole_whole _)
            cM (Memref.isWhole_whole _) cc0_scratch1 cc0_scratch2 cc0_scratch3 cc0_scratch4)
          (fun _ => iprop((∃ W, owes (c : Thread nD τ) 0 W) ∗ kit m c ∗ counters P c ∗ semVal ((c : Thread nD τ), SemLoc.dma ls) 0
            ∗ ((c : Thread nD τ).loc main_arg1 ↦{fullShare} m ((c : Thread nD τ).loc main_arg1))
            ∗ ((c : Thread nD τ).loc main_v1_0 ↦{fullShare} sent m (peer c))
            ∗ ((c : Thread nD τ).loc main_v1_1 ↦{fullShare} both m c)
            ∗ ((c : Thread nD τ).loc cc0_scratch0 ↦{fullShare} sent m c))) := by
  simp only [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  have hB : iprop(((c : Thread nD τ).loc main_v1_0 ↦{fullShare} m ((c : Thread nD τ).loc main_v1_0))
      ∗ (gM.view.loc (c : Thread nD τ) ↦[(gK 1).view.set]{fullShare} m ((c : Thread nD τ).loc main_v1_1))) ⊢ pay m P.kB (P.peer c) := by
    show _ ⊢ iprop(((peer (peer c) : Thread nD τ).loc main_v1_0 ↦{fullShare} m ((peer (peer c) : Thread nD τ).loc main_v1_0))
      ∗ (gM.view.loc (peer (peer c) : Thread nD τ) ↦[(gK 1).view.set]{fullShare} m ((peer (peer c) : Thread nD τ).loc main_v1_1)))
    rw [peer_peer]
  have hT : (bigSep Finset.univ fun i => todo P ER c i : sProp 𝕄) ⊢ iprop(todo P ER c (0 : Fin 5) ∗ todo P ER c (1 : Fin 5) ∗ todo P ER c (2 : Fin 5)
      ∗ todo P ER c (3 : Fin 5) ∗ todo P ER c (4 : Fin 5)) :=
    Entails.of_eq (five (F := F) _)
  have hS : ((c : Thread nD τ).loc cc0_scratch0 ↦{fullShare} f₀ : sProp 𝕄) ⊢ _ := Entails.of_eq ((send_chunks c f₀).trans (four (F := F) _))
  have hL := Entails.of_eq (list_halves (F := F) c (m ((c : Thread nD τ).loc main_v1_1)))
  have hE := (experts_shares (F := F) c (experts m c)).1
  iintro ⟨#HR, HK, HO, HH, HT, Hls, Ha, Hv, Hl, HS⟩
  ihave HT := hT $$ HT
  icases HT with ⟨Ht0, Ht1, Ht2, Ht3, Ht4⟩
  ihave HS := hS $$ HS
  icases HS with ⟨Hs0, Hs1, Hs2, Hs3⟩
  ihave Hl := hL $$ Hl
  icases Hl with ⟨Hl0, Hl1⟩
  ihave Ha := hE $$ Ha
  icases Ha with ⟨HaL, HaR⟩
  have hH : (hail P ER c : sProp 𝕄) ⊢ iprop(atPos ER (P.cell c P.kB) 0 ∅ 0 ∗ dutyTok ER (P.cell (P.peer c) P.kB) 0 () ∗ cred (tallyAt (P.cell c P.kB) () 1)) := Entails.rfl
  ihave HH := hH $$ HH
  icases HH with ⟨HbA, HbD, HbC⟩
  -- The receive buffer and the half of the list go to the partner with the barrier's signal.
  iapply (wp_hail P (pay m) ER Variants.none κ c (dev_eq c (k0_dev1_eq c)) rfl rfl W₀) $$ [HO HbD Hv Hl1]
  · isplitr; · iexact HR
    isplitl [HO]; · iexact HO
    isplitl [HbD]; · iexact HbD
    iapply hB
    isplitl [Hv]; · iexact Hv
    iexact Hl1
  iintro HO
  ihave HK := (kit_bar m c) $$ HK
  icases HK with ⟨HK, HM⟩
  -- The partner's signal brings the partner's.
  iapply (wp_take P (pay m) ER Variants.none κ c P.kB rfl rfl
    (fun K => wpE_semWait_eq (defs := defs₀ (F := F)) Variants.none (c : Thread nD τ) none Set.univ (K := K)) (P.owedFrom c 0) W₀) $$ [HO HbA HbC HM]
  · isplitr; · iexact HR
    isplitl [HbA HbC]
    · isplitl [HbA]; · iexact HbA
      iexact HbC
    isplitl [HO]; · iexact HO
    iexact HM
  iintro ⟨⟨%W₁, HO⟩, HvB, HP⟩
  have hP : pay m P.kB c ⊢ iprop(((peer c : Thread nD τ).loc main_v1_0 ↦{fullShare} m ((peer c : Thread nD τ).loc main_v1_0))
      ∗ (gM.view.loc (peer c : Thread nD τ) ↦[(gK 1).view.set]{fullShare} m ((peer c : Thread nD τ).loc main_v1_1))) := Entails.rfl
  have hQ := Entails.of_eq ((recv_chunks (F := F) (peer c) (m ((peer c : Thread nD τ).loc main_v1_0))).trans (four (F := F) _))
  ihave HP := hP $$ HP
  icases HP with ⟨HP, HPl⟩
  ihave HP := hQ $$ HP
  icases HP with ⟨Hr0, Hr1, Hr2, Hr3⟩
  -- The expert numbers: into the device's own list, and to the partner.
  iapply (copy_own m c (m ((c : Thread nD τ).loc main_v1_1))) $$ [HaL Hl0 Hls]
  · isplitl [HaL]; · iexact HaL
    isplitl [Hl0]; · iexact Hl0
    iexact Hls
  iintro HF
  iapply (wp_post P (pay m) ER Variants.none κ c (0 : Fin 5) (dev_eq c (k0_dev2_eq c)) (src := aM) (dst := gK 1) rfl rfl (q := fullShare.right)
    (experts m c) (m ((peer c : Thread nD τ).loc main_v1_1)) rfl W₁ Entails.rfl (pay_list m c _) (routes c _)) $$ [HO Ht0 HaR HPl]
  · isplitr; · iexact HR
    isplitl [Ht0]; · iexact Ht0
    isplitl [HaR]; · iexact HaR
    isplitl [HPl]; · iexact HPl
    iexact HO
  iintro ⟨Hq0, He0, HO⟩
  have hO1 : (owes (c : Thread nD τ) (P.owedFrom c ((0 : Fin 5).val + 1)) W₁ : sProp 𝕄) ⊢ iprop(∃ W, owes (c : Thread nD τ) (P.owedFrom c ((0 : Fin 4).val + 1)) W) := by
    iintro H; iexists W₁; iexact H
  ihave HO := hO1 $$ HO
  -- The four chunks.
  iapply (chunk_send m κ hnn c 0 k0_t1_ok k0_t2_ok (by decide) (by decide) k0_off1 k0_off1_inb (fun _ => numel1_S1) k0_off2 k0_off2_inb k0_chk1 k0_chk1.dec
    k0_off3 k0_off3_inb k0_off1_eq k0_off2_eq (fun _ => rfl) (fun _ h => h) _ (fun _ _ => rfl) _ _ _ (fun _ => rfl) (by decide) (fun _ _ => rfl)
    f₀ (dev_eq c (k0_dev3_eq c)) rfl rfl) $$ [HK Ht1 Hs0 Hr0 HO]
  · isplitr; · iexact HR
    isplitl [HK]; · iexact HK
    isplitl [Ht1]; · iexact Ht1
    isplitl [Hs0]; · iexact Hs0
    isplitl [Hr0]; · iexact Hr0
    iexact HO
  iintro ⟨HK, ⟨Hq1, He1⟩, HO⟩
  iapply (chunk_send m κ hnn c 1 k0_t3_ok k0_t4_ok (by decide) (by decide) k0_off4 k0_off4_inb (fun _ => numel1_S1) k0_off5 k0_off5_inb k0_chk2 k0_chk2.dec
    k0_off6 k0_off6_inb k0_off4_eq k0_off5_eq (fun _ => rfl) (fun _ h => h) _ (fun _ _ => rfl) _ _ _ (fun _ => rfl) (by decide) (fun _ _ => rfl)
    f₀ (dev_eq c (k0_dev4_eq c)) rfl rfl) $$ [HK Ht2 Hs1 Hr1 HO]
  · isplitr; · iexact HR
    isplitl [HK]; · iexact HK
    isplitl [Ht2]; · iexact Ht2
    isplitl [Hs1]; · iexact Hs1
    isplitl [Hr1]; · iexact Hr1
    iexact HO
  iintro ⟨HK, ⟨Hq2, He2⟩, HO⟩
  iapply (chunk_send m κ hnn c 2 k0_t5_ok k0_t6_ok (by decide) (by decide) k0_off7 k0_off7_inb (fun _ => numel1_S1) k0_off8 k0_off8_inb k0_chk3 k0_chk3.dec
    k0_off9 k0_off9_inb k0_off7_eq k0_off8_eq (fun _ => rfl) (fun _ h => h) _ (fun _ _ => rfl) _ _ _ (fun _ => rfl) (by decide) (fun _ _ => rfl)
    f₀ (dev_eq c (k0_dev5_eq c)) rfl rfl) $$ [HK Ht3 Hs2 Hr2 HO]
  · isplitr; · iexact HR
    isplitl [HK]; · iexact HK
    isplitl [Ht3]; · iexact Ht3
    isplitl [Hs2]; · iexact Hs2
    isplitl [Hr2]; · iexact Hr2
    iexact HO
  iintro ⟨HK, ⟨Hq3, He3⟩, HO⟩
  iapply (chunk_send m κ hnn c 3 k0_t7_ok k0_t8_ok (by decide) (by decide) k0_off10 k0_off10_inb (fun _ => numel1_S1) k0_off11 k0_off11_inb k0_chk4 k0_chk4.dec
    k0_off12 k0_off12_inb k0_off10_eq k0_off11_eq (fun _ => rfl) (fun _ h => h) _ (fun _ _ => rfl) _ _ _ (fun _ => rfl) (by decide) (fun _ _ => rfl)
    f₀ (dev_eq c (k0_dev6_eq c)) rfl rfl) $$ [HK Ht4 Hs3 Hr3 HO]
  · isplitr; · iexact HR
    isplitl [HK]; · iexact HK
    isplitl [Ht4]; · iexact Ht4
    isplitl [Hs3]; · iexact Hs3
    isplitl [Hr3]; · iexact Hr3
    iexact HO
  iintro ⟨HK, ⟨Hq4, He4⟩, HO⟩
  have hend : iprop(∃ W, owes (c : Thread nD τ) (P.owedFrom c ((3 : Fin 4).val + 2)) W) ⊢ (iprop(∃ W, owes (c : Thread nD τ) 0 W) : sProp 𝕄) :=
    Entails.of_eq (by rw [show (3 : Fin 4).val + 2 = P.n from rfl, P.owedFrom_end c])
  ihave HO := hend $$ HO
  icases HO with ⟨%W₂, HO⟩
  -- The waits: the own copy, then each send and each receive.
  iapply (Transfers.wp_waitLocal (countersEmb (U := UU)) Variants.none (c : Thread nD τ) none (sem := ls) (srcw := aM) (dstw := gK 0)
    (hsrc := (Memref.isWhole_whole _).wordExact) (hdst := View.wordExact_bits rfl) () (N := (gK 0).view.dmaCredit) rfl
    (D := landed m c) (W := W₂)) $$ [HF HO]
  · isplitl [HF]; · iexact HF
    iexact HO
  iintro ⟨⟨Hl0, HaL⟩, Hls, HO⟩
  have hO2 : (owes (c : Thread nD τ) 0 (insert (SemLoc.dma ls, ()) W₂) : sProp 𝕄) ⊢ iprop(∃ W, owes (c : Thread nD τ) 0 W) := by
    iintro H; iexists _; iexact H
  ihave HO := hO2 $$ HO
  iapply (take_send P (pay m) ER Variants.none κ c (0 : Fin 5) rfl rfl) $$ [Hq0 HO]
  · isplitr; · iexact HR
    isplitl [Hq0]; · iexact Hq0
    iexact HO
  iintro ⟨HO, HvS0, Hg0⟩
  iapply (take_recv P (pay m) ER Variants.none κ c (0 : Fin 5) rfl rfl) $$ [He0 HO]
  · isplitr; · iexact HR
    isplitl [He0]; · iexact He0
    iexact HO
  iintro ⟨HO, HvR0, Hw0⟩
  iapply (take_send P (pay m) ER Variants.none κ c (1 : Fin 5) rfl rfl) $$ [Hq1 HO]
  · isplitr; · iexact HR
    isplitl [Hq1]; · iexact Hq1
    iexact HO
  iintro ⟨HO, HvS1, Hg1⟩
  iapply (take_recv P (pay m) ER Variants.none κ c (1 : Fin 5) rfl rfl) $$ [He1 HO]
  · isplitr; · iexact HR
    isplitl [He1]; · iexact He1
    iexact HO
  iintro ⟨HO, HvR1, Hw1⟩
  iapply (take_send P (pay m) ER Variants.none κ c (2 : Fin 5) rfl rfl) $$ [Hq2 HO]
  · isplitr; · iexact HR
    isplitl [Hq2]; · iexact Hq2
    iexact HO
  iintro ⟨HO, HvS2, Hg2⟩
  iapply (take_recv P (pay m) ER Variants.none κ c (2 : Fin 5) rfl rfl) $$ [He2 HO]
  · isplitr; · iexact HR
    isplitl [He2]; · iexact He2
    iexact HO
  iintro ⟨HO, HvR2, Hw2⟩
  iapply (take_send P (pay m) ER Variants.none κ c (3 : Fin 5) rfl rfl) $$ [Hq3 HO]
  · isplitr; · iexact HR
    isplitl [Hq3]; · iexact Hq3
    iexact HO
  iintro ⟨HO, HvS3, Hg3⟩
  iapply (take_recv P (pay m) ER Variants.none κ c (3 : Fin 5) rfl rfl) $$ [He3 HO]
  · isplitr; · iexact HR
    isplitl [He3]; · iexact He3
    iexact HO
  iintro ⟨HO, HvR3, Hw3⟩
  iapply (take_send P (pay m) ER Variants.none κ c (4 : Fin 5) rfl rfl) $$ [Hq4 HO]
  · isplitr; · iexact HR
    isplitl [Hq4]; · iexact Hq4
    iexact HO
  iintro ⟨HO, HvS4, Hg4⟩
  iapply (take_recv P (pay m) ER Variants.none κ c (4 : Fin 5) rfl rfl) $$ [He4 HO]
  · isplitr; · iexact HR
    isplitl [He4]; · iexact He4
    iexact HO
  iintro ⟨HO, HvR4, Hw4⟩
  have hr : iprop(pay m (P.kR (1 : Fin 5)) c ∗ pay m (P.kR (2 : Fin 5)) c ∗ pay m (P.kR (3 : Fin 5)) c ∗ pay m (P.kR (4 : Fin 5)) c)
      ⊢ ((c : Thread nD τ).loc main_v1_0 ↦{fullShare} sent m (peer c) : sProp 𝕄) :=
    Entails.of_eq ((recv_chunks c (sent m (peer c))).trans (four (F := F) _)).symm
  have hs : iprop(pay m (P.kS (1 : Fin 5)) c ∗ pay m (P.kS (2 : Fin 5)) c ∗ pay m (P.kS (3 : Fin 5)) c ∗ pay m (P.kS (4 : Fin 5)) c)
      ⊢ ((c : Thread nD τ).loc cc0_scratch0 ↦{fullShare} sent m c : sProp 𝕄) :=
    Entails.of_eq ((send_chunks c (sent m c)).trans (four (F := F) _)).symm
  have hl : iprop((gM.view.loc (c : Thread nD τ) ↦[(gK 0).view.set]{fullShare} both m c) ∗ pay m (P.kR (0 : Fin 5)) c)
      ⊢ ((c : Thread nD τ).loc main_v1_1 ↦{fullShare} both m c : sProp 𝕄) :=
    Entails.of_eq (list_halves (F := F) c (both m c)).symm
  have ha : iprop((aM.view.loc (c : Thread nD τ) ↦[aM.view.set]{fullShare.left} experts m c) ∗ pay m (P.kS (0 : Fin 5)) c)
      ⊢ ((c : Thread nD τ).loc main_arg1 ↦{fullShare} m ((c : Thread nD τ).loc main_arg1) : sProp 𝕄) :=
    (experts_shares (F := F) c (experts m c)).2
  rw [wp_ret]
  imodintro
  isplitl [HO]; · iexact HO
  isplitl [HK]; · iexact HK
  isplitl [HvB HvS0 HvS1 HvS2 HvS3 HvS4 HvR0 HvR1 HvR2 HvR3 HvR4]
  · iapply (Entails.of_eq (all_counters c))
    isplitl [HvB]; · iexact HvB
    isplitl [HvS0 HvS1 HvS2 HvS3 HvS4]
    · isplitl [HvS0]; · iexact HvS0
      isplitl [HvS1]; · iexact HvS1
      isplitl [HvS2]; · iexact HvS2
      isplitl [HvS3]; · iexact HvS3
      iexact HvS4
    isplitl [HvR0]; · iexact HvR0
    isplitl [HvR1]; · iexact HvR1
    isplitl [HvR2]; · iexact HvR2
    isplitl [HvR3]; · iexact HvR3
    iexact HvR4
  isplitl [Hls]; · iexact Hls
  isplitl [HaL Hg0]
  · iapply ha
    isplitl [HaL]; · iexact HaL
    iexact Hg0
  isplitl [Hw1 Hw2 Hw3 Hw4]
  · iapply hr
    isplitl [Hw1]; · iexact Hw1
    isplitl [Hw2]; · iexact Hw2
    isplitl [Hw3]; · iexact Hw3
    iexact Hw4
  isplitl [Hl0 Hw0]
  · iapply hl
    isplitl [Hl0]; · iexact Hl0
    iexact Hw0
  iapply hs
  isplitl [Hg1]; · iexact Hg1
  isplitl [Hg2]; · iexact Hg2
  isplitl [Hg3]; · iexact Hg3
  iexact Hg4

end Cert.DispatchProof
end
-- ==== Proof.DispatchRun.lean ====
/-
The dispatch call's launch on the four devices: every execution ends, the arguments are unchanged, the counters are
zero, each device's first result holds the rows its partner gathered, and its second the expert numbers of both.
-/
module

public import proofs.«01_k».proof.Proof.DispatchBody
public import Idealize.ShloMosaic.Lib.Pipeline.CollectiveSegs

@[expose] public section

set_option maxRecDepth 16384

noncomputable section

namespace Cert.DispatchProof

open Cert.DispatchIdeal Cert.DispatchIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof Talk

variable {F : FTy → Type} [FloatOps F]
local notation "𝕄" => MT nD τ sig Unit (Elt F) ℕ UU ℕ
variable (m : (ℓ : Loc nD τ sig) → Buf (Elt F) ℓ) (ρ : Dev nD → PrngReg)

abbrev s₀ : MemSt nD τ sig (Elt F) := ⟨m, fun _ => 0, ρ⟩

/-! ## The pipeline's data -/

/-- What device `c` starts from but its send buffer. -/
def opening (c : Dev nD) : sProp 𝕄 :=
  iprop((∃ κ : Dev nD × P.K → ℕ, records P (pay m) ER κ ∗ hail P ER c ∗ bigSep Finset.univ fun i => todo P ER c i)
    ∗ levAts L P.lv ∗ semVal ((c : Thread nD τ), SemLoc.dma ls) 0 ∗ semVal ((c : Thread nD τ), SemLoc.dma gs) 0
    ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1_0 ↦{fullShare} m ((c : Thread nD τ).loc main_v1_0))
    ∗ ((c : Thread nD τ).loc main_v1_1 ↦{fullShare} m ((c : Thread nD τ).loc main_v1_1)))

/-- What device `c`'s body starts from, and what it ends with. -/
def Φ₀ (c : Dev nD) : sProp 𝕄 := iprop(opening m c ∗ ∃ f, (c : Thread nD τ).loc cc0_scratch0 ↦{fullShare} f)

def Φ₁ (c : Dev nD) : sProp 𝕄 :=
  iprop(counters P c ∗ semVal ((c : Thread nD τ), SemLoc.dma ls) 0 ∗ semVal ((c : Thread nD τ), SemLoc.dma gs) 0
    ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1_0 ↦{fullShare} sent m (peer c))
    ∗ ((c : Thread nD τ).loc main_v1_1 ↦{fullShare} both m c)
    ∗ ((c : Thread nD τ).loc cc0_scratch0 ↦{fullShare} sent m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => nums m c
  Φ t := match t with
    | ⟨0, _⟩ => Φ₀ m c
    | ⟨_ + 1, _⟩ => Φ₁ m c
  q _ := fullShare
  owed t := match t with
    | ⟨0, _⟩ => P.owed c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one block of the row numbers is the whole array. -/
theorem blk_read (c : Dev nD) : (win0_0.blk (0 : Fin 1)).view.read (Elt F) ((s₀ m ρ).mem ((c : Thread nD τ).loc main_arg2)) = nums m c :=
  Memref.read_access_unit_zero (Elt F) main_arg2 (funext fun a => by fin_cases a; rfl) _ _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (nums m c))

theorem body_run (hnn : ∀ c i, (0 : ℤ) ≤ (nums m c i).toInt) (c : Dev nD) :
    bodyPre m ρ c ⊢ wp frame (wpE (defs₀ (F := F)) Variants.none (c : Thread nD τ) none) Set.univ
      (cc0_body xM (Memref.isWhole_whole _) aM (Memref.isWhole_whole _) iM (Memref.isWhole_whole _) rM (Memref.isWhole_whole _) gM (Memref.isWhole_whole _)
        cM (Memref.isWhole_whole _) cc0_scratch1 cc0_scratch2 cc0_scratch3 cc0_scratch4)
      (fun _ => bodyPost m ρ c) := by
  have hK : iprop(((c : Thread nD τ).loc cc0_stg0_0 ↦{fullShare} nums m c) ∗ semVal ((c : Thread nD τ), SemLoc.dma gs) 0
      ∗ ((c : Thread nD τ).loc main_arg0 ↦{fullShare} m ((c : Thread nD τ).loc main_arg0)) ∗ levAts L P.lv) ⊢ kit m c := by
    unfold kit tools
    simp only [Memref.view_whole, View.set_whole]
    iintro ⟨H1, H2, H3, H4⟩
    isplitl [H1 H2 H3]
    · isplitl [H1]; · iexact H1
      isplitl [H2]; · iexact H2
      iexact H3
    iexact H4
  have hK' : kit m c ⊢ iprop(((c : Thread nD τ).loc cc0_stg0_0 ↦{fullShare} nums m c) ∗ semVal ((c : Thread nD τ), SemLoc.dma gs) 0
      ∗ ((c : Thread nD τ).loc main_arg0 ↦{fullShare} m ((c : Thread nD τ).loc main_arg0))) := by
    unfold kit tools
    simp only [Memref.view_whole, View.set_whole]
    iintro ⟨H, -⟩
    iexact H
  have hpost : iprop((∃ W, owes (c : Thread nD τ) 0 W) ∗ kit m c ∗ counters P c ∗ semVal ((c : Thread nD τ), SemLoc.dma ls) 0
      ∗ ((c : Thread nD τ).loc main_arg1 ↦{fullShare} m ((c : Thread nD τ).loc main_arg1))
      ∗ ((c : Thread nD τ).loc main_v1_0 ↦{fullShare} sent m (peer c)) ∗ ((c : Thread nD τ).loc main_v1_1 ↦{fullShare} both m c)
      ∗ ((c : Thread nD τ).loc cc0_scratch0 ↦{fullShare} sent m c))
      ⊢ bodyPost m ρ c := by
    unfold bodyPost Φ₁ Dat.owesAt Pipeline.owesWithin
    rw [show (dats m ρ 0 c).owed t₀.succ = 0 from rfl]
    iintro ⟨⟨%W, HO⟩, HK, Hc, Hl, Ha, Hv, Hw, Hs⟩
    ihave HK := hK' $$ HK
    icases HK with ⟨Hi, Hg, Hx⟩
    isplitl [Hc Hl Ha Hg Hx Hv Hw Hs]
    · isplitl [Hc]; · iexact Hc
      isplitl [Hl]; · iexact Hl
      isplitl [Hg]; · iexact Hg
      isplitl [Hx]; · iexact Hx
      isplitl [Ha]; · iexact Ha
      isplitl [Hv]; · iexact Hv
      isplitl [Hw]; · iexact Hw
      iexact Hs
    isplitl [HO]
    · iexists W
      isplitr; · ipureintro; exact fun _ _ => Or.inl trivial
      iexact HO
    iexists _; isplitr; · (ipureintro; rfl)
    iexact Hi
  refine (?_ : bodyPre m ρ c ⊢ _).trans (wp_mono _ _ _ fun _ => hpost)
  unfold bodyPre Φ₀ opening Dat.owesAt Pipeline.owesWithin
  iintro ⟨⟨⟨⟨%κ, #HR, HH, HT⟩, HL, Hl, Hg, Hx, Ha, Hv, Hw⟩, ⟨%f, Hs⟩⟩, ⟨%W, %hW, HO⟩, ⟨%d0, %g0, %hg0, Hi⟩⟩
  have hg : g0 = nums m c := by
    rw [hg0]; unfold Dat.before; rw [if_pos (fetch0_0 t₀)]; exact blk_read m ρ c
  subst hg
  iapply (sound_body m κ hnn c W f)
  isplitr; · iexact HR
  isplitl [HL Hg Hx Hi]
  · iapply hK
    isplitl [Hi]; · iexact Hi
    isplitl [Hg]; · iexact Hg
    isplitl [Hx]; · iexact Hx
    iexact HL
  isplitl [HO]; · iexact HO
  isplitl [HH]; · iexact HH
  isplitl [HT]; · iexact HT
  isplitl [Hl]; · iexact Hl
  isplitl [Ha]; · iexact Ha
  isplitl [Hv]; · iexact Hv
  isplitl [Hw]; · iexact Hw
  iexact Hs

/-- The pipeline's obligation on device `c`. -/
theorem body_obligation (hnn : ∀ c i, (0 : ℤ) ≤ (nums m c i).toInt) (c : Dev nD) :
    BodyObligation (dats (F := F) m ρ 0 c) (defs₀ (F := F)) Variants.none () Set.univ := fun t => by
  rw [fin_N0 t]
  rw [bigSep_W0, bigSep_W0]
  simp only [owns_whole_eq]
  exact body_run m ρ hnn c

/-! ## The launch -/

/-- The call's own semaphores: the local copy's, the gather's, the sends', the receives'. -/
abbrev osem : Fin 12 → SemLoc sig := fun i => .dma (⟨i.val + 1, by have := i.isLt; show i.val + 1 < 13; omega⟩ : Fin 13)

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf (cells P) (toks P), (1 : Counters)))

theorem fund : (ownU u₀ : sProp (MT nD τ sig Unit (Elt F) ℕ UU ℕ))
    ⊢ |={Set.univ}=> iprop(BI.own (EP (initOf (Pipeline.cells cfgs cellOf_inj) (Pipeline.launchToks cfgs cellOf_inj)))
      ∗ bigSep Finset.univ (dealt P (pay m) ER)) := by
  unfold u₀
  iintro Hu
  ihave H := (ownU_pair _ _) $$ Hu
  icases H with ⟨HP, HX⟩
  ihave HX := (own_pair_emb (embR (nD := nD) (τ := τ) (sig := sig) (Ix := Unit) (Val := Elt F) (Name := ℕ) (A := UR sig nD τ) (Lvl := ℕ)) _ _) $$ HX
  icases HX with ⟨HX, -⟩
  imod (fund_cells P (pay m) ER) $$ HX with HG
  imodintro
  isplitl [HP]; · iexact HP
  iexact HG

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma ls) 0 ∗ semVal ((c : Thread nD τ), SemLoc.dma gs) 0
      ∗ (semVal (P.cell c (P.kS (0 : Fin 5))) 0 ∗ semVal (P.cell c (P.kS (1 : Fin 5))) 0 ∗ semVal (P.cell c (P.kS (2 : Fin 5))) 0
        ∗ semVal (P.cell c (P.kS (3 : Fin 5))) 0 ∗ semVal (P.cell c (P.kS (4 : Fin 5))) 0
      ∗ semVal (P.cell c (P.kR (0 : Fin 5))) 0 ∗ semVal (P.cell c (P.kR (1 : Fin 5))) 0 ∗ semVal (P.cell c (P.kR (2 : Fin 5))) 0
        ∗ semVal (P.cell c (P.kR (3 : Fin 5))) 0 ∗ semVal (P.cell c (P.kR (4 : Fin 5))) 0)) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (P.cell c P.kB) 0 := by
  unfold unscopedSems0; rw [bigSep_eq_bigSepL_of_eq [SemLoc.reg bar] (by decide) (by decide)]; rfl

/-- The semaphores of a device: its cells' counters, the local copy's and the gather's. -/
theorem sems_split (c : Dev nD) :
    iprop(Pipeline.ownSems0 (Ix := Unit) (Name := ℕ) (U := UU) (Lvl := ℕ) (Val := Elt F) (τ := τ) osem c ∗ unscopedSems0 c)
      ⊢ (iprop(counters P c ∗ semVal ((c : Thread nD τ), SemLoc.dma ls) 0 ∗ semVal ((c : Thread nD τ), SemLoc.dma gs) 0) : sProp 𝕄) := by
  rw [ownSems0_eq, unscopedSems0_eq]
  iintro ⟨⟨Hl, Hg, H0, H1, H2, H3, H4, HR⟩, HB⟩
  isplitr [Hl Hg]
  · iapply (Entails.of_eq (all_counters c))
    isplitl [HB]; · iexact HB
    isplitr [HR]
    · isplitl [H0]; · iexact H0
      isplitl [H1]; · iexact H1
      isplitl [H2]; · iexact H2
      isplitl [H3]; · iexact H3
      iexact H4
    iexact HR
  isplitl [Hl]; · iexact Hl
  iexact Hg

/-- What the global step makes of the semaphores and the ghost state. -/
def G' (c : Dev nD) : sProp 𝕄 := iprop(given P (pay m) ER c ∗ semVal ((c : Thread nD τ), SemLoc.dma ls) 0 ∗ semVal ((c : Thread nD τ), SemLoc.dma gs) 0)

theorem glob :
    (bigSep Finset.univ fun c => iprop(Pipeline.ownSems0 (Ix := Unit) (Name := ℕ) (U := UU) (Lvl := ℕ) (Val := Elt F) (τ := τ) osem c ∗ unscopedSems0 c
        ∗ dealt P (pay m) ER c) : sProp 𝕄)
      ⊢ |={Set.univ}=> bigSep Finset.univ (G' m) :=
  (bigSep_mono fun c _ => show _ ⊢ iprop((Pipeline.ownSems0 (Ix := Unit) (Name := ℕ) (U := UU) (Lvl := ℕ) (Val := Elt F) (τ := τ) osem c ∗ unscopedSems0 c)
      ∗ dealt P (pay m) ER c) from BI.sep_assoc').trans (settle P (pay m) ER sems_split)

theorem opening_intro (c : Dev nD) :
    iprop(Pipeline.unscopedRestP Pipeline.Prefetch.none cfg0.spec c (fun b => m ((c : Thread nD τ).loc b)) ∗ levAts L P.lv
        ∗ Pipeline.launchCred P.owed c ∗ prngReg c (ρ c) ∗ G' m c)
      ⊢ |={Set.univ}=> iprop(opening m c ∗ emp) := by
  rw [Pipeline.unscopedRestP_none, unscopedRest0_eq]
  unfold G' given opening
  iintro ⟨⟨Hx, Ha, Hv, Hw⟩, HL, Hcr, -, ⟨%κ, #HR, Hpt⟩, Hl, Hg⟩
  ihave Hp := (ready P ER c) $$ [Hpt Hcr]
  · isplitl [Hpt]; · iexact Hpt
    iexact Hcr
  icases Hp with ⟨HH, HT⟩
  imodintro
  isplitl
  · isplitl [HH HT]
    · iexists κ
      isplitr; · iexact HR
      isplitl [HH]; · iexact HH
      iexact HT
    isplitl [HL]; · iexact HL
    isplitl [Hl]; · iexact Hl
    isplitl [Hg]; · iexact Hg
    isplitl [Hx]; · iexact Hx
    isplitl [Ha]; · iexact Ha
    isplitl [Hv]; · iexact Hv
    iexact Hw
  · iempintro

theorem phi0_intro (c : Dev nD) :
    iprop(opening m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What device `c` is left with outside the call's scope. -/
def left (c : Dev nD) : sProp 𝕄 :=
  iprop(unscopedSems0 c ∗ ((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_v1_0 ↦{fullShare} sent m (peer c)) ∗ ((c : Thread nD τ).loc main_v1_1 ↦{fullShare} both m c))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left
  rw [unscopedSems0_eq]
  iintro ⟨Hc, Hl, Hg, Hx, Ha, Hv, Hw, Hs⟩
  ihave Hc := (Entails.of_eq (all_counters c).symm) $$ Hc
  icases Hc with ⟨HB, ⟨H0, H1, H2, H3, H4⟩, HR⟩
  isplitl [HB Hx Ha Hv Hw]
  · isplitl [HB]; · iexact HB
    isplitl [Hx]; · iexact Hx
    isplitl [Ha]; · iexact Ha
    isplitl [Hv]; · iexact Hv
    iexact Hw
  isplitr [Hs]
  · isplitl [Hl]; · iexact Hl
    isplitl [Hg]; · iexact Hg
    isplitl [H0]; · iexact H0
    isplitl [H1]; · iexact H1
    isplitl [H2]; · iexact H2
    isplitl [H3]; · iexact H3
    isplitl [H4]; · iexact H4
    iexact HR
  iexists _; iexact Hs

theorem waits (c : Dev nD) : (levAts L P.lv : sProp 𝕄) ⊢ Pipeline.cellsWaits cfgs (dats m ρ) () 0 c :=
  Pipeline.cellsWaits_intro cfgs (dats m ρ) () 0 c fun w s t => by
    rcases t with ⟨_ | _, ht⟩
    · exact may_low_start P c (by fin_cases w <;> fin_cases s <;> decide) (by fin_cases w <;> fin_cases s <;> decide)
    · show _ ⊢ MayWait _ _ _ 0
      rw [MayWait_zero]; iintro -; iempintro

/-! ## The run -/

def Reads (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1_0) = sent m (peer c) ∧ s.mem ((c : Thread nD τ).loc main_v1_1) = both m c

theorem left_read (c : Dev nD) (s' : Phys nD τ sig (Elt F)) :
    iprop(left m c ∗ emp ∗ SI s')
      ⊢ |={Set.univ}=> iprop(⌜(∀ sm : SemLoc sig, sm.isScoped .tc = false → s'.mem.sem ((c.tc : Thread nD τ), sm) = 0) ∧ Reads m c s'.mem⌝ ∗ SI s') := by
  unfold left
  iintro ⟨⟨Hu, Hx, Ha, Hv, Hw⟩, -, HSI⟩
  icombine HSI Hx gives %hx
  icombine HSI Ha gives %ha
  icombine HSI Hv gives %hv
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ ha, Buf.eq_of_forall_mem_univ hv,
      Buf.eq_of_forall_mem_univ hw⟩
  iexact HSI

/-- What every final state holds. -/
def Done (s : MemSt nD τ sig (Elt F)) : Prop :=
  (∀ c : Dev nD, s.mem ((c : Thread nD τ).loc main_v1_0) = sent m (peer c)
    ∧ s.mem ((c : Thread nD τ).loc main_v1_1) = both m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)) ∧ s.sem = fun _ => 0

theorem run_main (hnn : ∀ c i, (0 : ℤ) ≤ (nums m c i).toInt) :
    θ_run defs (onTc (τ := τ) (main (F := F))) (s₀ m ρ) (fun r => Done m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ hnn) (hne := fun w => by fin_cases w; exact Nat.succ_pos _) (harr := arr_whole0) (hstage := stage_whole0) (hshare := share_eq m ρ)
    (hdistinct := winFacts0.arr_inj)
    (O₀ := P.owed) (howed₀ := fun _ => rfl) (howedN := fun _ => rfl)
    (L := L) (lv := P.lv) (hL := L_of_ne) (hwaits := waits m ρ)
    (G := dealt P (pay m) ER) (G' := G' m) (u₀ := u₀)
    (hu₀ := fund m)
    (hglob := glob m)
    (hA := fun _ _ => rfl) (hpf := fun _ k => k.elim0)
    (X := opening m) (Y := left m) (Z := fun _ => iprop(emp))
    (hX := opening_intro m ρ) (hin := phi0_intro m ρ) (hout := phi1_exit m ρ)
    (QY := fun c s => (∀ sm : SemLoc sig, sm.isScoped .tc = false → s.sem ((c.tc : Thread nD τ), sm) = 0) ∧ Reads m c s)
    (hY := left_read m)
    (hQ := fun s h hs => ⟨fun c => ⟨(h c).2.2.2.2.2.1, (h c).2.2.2.2.2.2, (h c).2.2.2.1, (h c).2.2.2.2.1,
      ((h c).1 0).trans ((dats (F := F) m ρ 0 c).arrAt_in (0 : Fin 1) rfl _)⟩, sem_eq_zero hs fun c => (h c).2.2.1⟩)

end Cert.DispatchProof

end
-- ==== Proof.TakeRows.lean ====
/-
The references' gather read at an index: the host's gather of whole rows, at nonnegative row numbers, is `rowsBy`; and
the halves of a two-part array are its blocks along the mesh's second axis.
-/
module

public import proofs.«01_k».proof.Proof.Chunk
public import Idealize.ShloMosaic.Lib.Layout
public import Idealize.ShloMosaic.Lib.ReduceAll
public import Idealize.ShloMosaic.Lib.Pointwise.SelectCore
public import Idealize.ShloMosaic.Lib.ValueIdxCore

@[expose] public section

noncomputable section

namespace Cert.TakeRows

open Idealize.ShloMosaic Cert.GatherProof

/-! ## Words -/

/-- A nonnegative word, read signed or unsigned, is one number. -/
theorem toInt_toNat (v : BitVec 32) (h : 0 ≤ v.toInt) : v.toInt.toNat = v.toNat := by
  rw [BitVec.toInt_eq_toNat_cond] at h ⊢
  have := v.isLt
  split at h <;> rename_i hc
  · rw [if_pos hc]; omega
  · omega

/-- Counting a negative number from the end leaves a nonnegative one alone. -/
theorem unwrapped (v w : BitVec 32) (h : 0 ≤ v.toInt) : Scalar.select (IntOp.cmpi .slt v 0#32) w v = v := by
  have hs : v.slt 0#32 = false := by
    rw [BitVec.slt]; simpa using h
  show Scalar.select (BitVec.ofBool (v.slt 0#32)) w v = v
  rw [hs]; rfl

/-- A word that compares at least zero is nonnegative. -/
theorem nonneg_of_sge (v : BitVec 32) (h : IntOp.cmpi .sge v 0#32 = 1#1) : 0 ≤ v.toInt := by
  have h' : BitVec.ofBool ((0#32).sle v) = 1#1 := h
  have hs : (0#32).sle v = true := by
    cases e : (0#32).sle v with
    | true => rfl
    | false => rw [e] at h'; exact absurd h' (by decide)
  rw [BitVec.sle] at hs; simpa using hs

/-! ## The gather of rows -/

variable {α : Type} {X R D : ℕ}

/-- The gather of whole rows: `R` row numbers, of a matrix of `X` rows of `D`. -/
abbrev rowDims (X R D : ℕ) (wf : GatherDims.WF ⟨2, ![X, D]⟩ ⟨2, ![R, 1]⟩ ⟨2, ![R, D]⟩ [1] [0] [] [0] [] 1 ![1, D]) :
    GatherDims ⟨2, ![X, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Entry `(i, j)` of the gather is the matrix's, at the row numbered, clipped. -/
theorem gather_at (hX : 0 < X) (wf) (x : (⟨2, ![X, D]⟩ : Shape).Idx → α) (w : IVec ⟨2, ![R, 1]⟩ 32)
    (j : (⟨2, ![R, D]⟩ : Shape).Idx) :
    Host.gather (rowDims X R D wf) x w j
      = x (at2 ⟨min (w (at2 (j 0) (0 : Fin 1))).toInt.toNat (X - 1), by omega⟩ (j 1)) := by
  unfold Host.gather
  refine congrArg x (funext fun a => Fin.ext ?_)
  show (rowDims X R D wf).start j w a + (rowDims X R D wf).batchCoord j a + (rowDims X R D wf).offCoord j a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 2) ∈ (rowDims X R D wf).startIndexMap from List.mem_singleton.mpr rfl)]
    have hsi : (rowDims X R D wf).siIdx j ⟨List.idxOf (0 : Fin 2) (rowDims X R D wf).startIndexMap,
        List.idxOf_lt_length_iff.2 (List.mem_singleton.mpr rfl)⟩ = at2 (j 0) (0 : Fin 1) := by
      funext b; refine Fin.ext ?_
      match b with
      | ⟨0, _⟩ => rfl
      | ⟨1, _⟩ => rfl
    exact congrArg (fun z => min (w z).toInt.toNat (X - 1)) hsi
  | ⟨1, _⟩ =>
    unfold GatherDims.start
    rw [dif_neg (show (⟨1, _⟩ : Fin 2) ∉ (rowDims X R D wf).startIndexMap from
      fun h => absurd (List.mem_singleton.mp h) (by simp))]
    unfold GatherDims.offCoord
    rw [dif_pos ((GatherDims.mem_sKept _ _).mpr ⟨fun h => absurd (List.mem_singleton.mp h) (by simp), List.not_mem_nil⟩)]
    exact (Nat.zero_add _).trans rfl

/-- The gather at nonnegative row numbers. -/
theorem gather_rowsBy (hX : 0 < X) (wf) (x : (⟨2, ![X, D]⟩ : Shape).Idx → α) (w : IVec ⟨2, ![R, 1]⟩ 32)
    (idx : (⟨1, ![R]⟩ : Shape).Idx → BitVec 32) (hw : ∀ i : Fin R, w (at2 i (0 : Fin 1)) = idx (at1 i))
    (hnn : ∀ i, 0 ≤ (idx i).toInt) : Host.gather (rowDims X R D wf) x w = rowsBy hX idx x := by
  funext j
  rw [gather_at hX]
  refine congrArg (fun r => x (at2 r (j 1))) (Fin.ext ?_)
  have e := hw (j 0)
  show min (w (at2 (j 0) (0 : Fin 1))).toInt.toNat (X - 1) = min (idx (at1 (j 0))).toNat (X - 1)
  rw [e, toInt_toNat _ (hnn _)]

/-! ## The block of a device: the half that its `y` coordinate names -/

/-- Device `c`'s block of a matrix cut in two along its rows by the mesh's second axis. -/
theorem half_row (c : Fin 4) : ((Layout.meshBlock [2, 2] ![[1], []] c) 0).val = c.val % 2 := by
  revert c; decide

theorem half_col (c : Fin 4) : ((Layout.meshBlock [2, 2] ![[1], []] c) 1).val = 0 := by
  revert c; decide

theorem half_one (c : Fin 4) : ((Layout.meshBlock [2, 2] ![[1]] c) 0).val = c.val % 2 := by
  revert c; decide

/-- Where place `j` of device `c`'s block of a matrix lies. -/
theorem half_at {T : ℕ} (c : Fin 4) (j : (⟨2, ![R, D]⟩ : Shape).Idx)
    (ht : Layout.TilesN ⟨2, ![R, D]⟩ ⟨2, ![T, D]⟩ fun b => Layout.cutSize [2, 2] ((![[1], []] : Fin 2 → List ℕ) b)) (k : (⟨2, ![T, D]⟩ : Shape).Idx)
    (h0 : (k 0).val = (c.val % 2) * R + (j 0).val) (h1 : (k 1).val = (j 1).val) :
    ht.idx (Layout.meshBlock [2, 2] ![[1], []] c) j = k := by
  refine funext fun b => Fin.ext ?_
  match b with
  | ⟨0, _⟩ =>
    refine (Layout.TilesN.idx_val ..).trans (Eq.trans ?_ h0.symm)
    exact congrArg (fun z => z * R + (j 0).val) (half_row c)
  | ⟨1, _⟩ =>
    refine (Layout.TilesN.idx_val ..).trans (Eq.trans ?_ h1.symm)
    refine (congrArg (fun z => z * D + (j 1).val) (half_col c)).trans ?_
    show 0 * D + (j 1).val = (j 1).val
    omega

/-- Where place `j` of device `c`'s block of a vector lies. -/
theorem half_at_one {T : ℕ} (c : Fin 4) (j : (⟨1, ![R]⟩ : Shape).Idx)
    (ht : Layout.TilesN ⟨1, ![R]⟩ ⟨1, ![T]⟩ fun b => Layout.cutSize [2, 2] ((![[1]] : Fin 1 → List ℕ) b)) (k : (⟨1, ![T]⟩ : Shape).Idx)
    (h0 : (k 0).val = (c.val % 2) * R + (j 0).val) :
    ht.idx (Layout.meshBlock [2, 2] ![[1]] c) j = k := by
  refine funext fun b => Fin.ext ?_
  match b with
  | ⟨0, _⟩ =>
    refine (Layout.TilesN.idx_val ..).trans (Eq.trans ?_ h0.symm)
    exact congrArg (fun z => z * R + (j 0).val) (half_one c)

/-- The block of two matrices laid one under the other. -/
theorem block_pair {T : ℕ} (c : Fin 4) (a b : (⟨2, ![R, D]⟩ : Shape).Idx → α)
    (hc : Shape.Concatenates [⟨2, ![R, D]⟩, ⟨2, ![R, D]⟩] ⟨2, ![T, D]⟩ 0)
    (ht : Layout.TilesN ⟨2, ![R, D]⟩ ⟨2, ![T, D]⟩ fun b => Layout.cutSize [2, 2] ((![[1], []] : Fin 2 → List ℕ) b)) :
    Layout.blockN ⟨2, ![R, D]⟩ ⟨2, ![T, D]⟩ (Layout.meshBlock [2, 2] ![[1], []] c)
        (concatenate ⟨2, ![T, D]⟩ 0 [⟨⟨2, ![R, D]⟩, a⟩, ⟨⟨2, ![R, D]⟩, b⟩] hc) ht
      = if c.val % 2 = 0 then a else b := by
  funext j
  rw [Layout.blockN_apply, concatenate_pair_apply]
  have e0 : (ht.idx (Layout.meshBlock [2, 2] ![[1], []] c) j 0).val = (c.val % 2) * R + (j 0).val := by
    rw [Layout.TilesN.idx_val]; exact congrArg (fun z => z * R + (j 0).val) (half_row c)
  have e1 : (ht.idx (Layout.meshBlock [2, 2] ![[1], []] c) j 1).val = (j 1).val := by
    rw [Layout.TilesN.idx_val]
    refine (congrArg (fun z => z * D + (j 1).val) (half_col c)).trans ?_
    show 0 * D + _ = _
    omega
  have hj : (j 0).val < R := (j 0).isLt
  by_cases h : c.val % 2 = 0
  · rw [if_pos h, dif_pos (by rw [e0, h]; show 0 * R + _ < R; omega)]
    refine congrArg a (funext fun k => Fin.ext ?_)
    match k with
    | ⟨0, _⟩ => refine e0.trans ?_; rw [h]; show 0 * R + (j 0).val = (j 0).val; omega
    | ⟨1, _⟩ => exact e1
  · have h1 : c.val % 2 = 1 := by omega
    rw [if_neg h, dif_neg (by rw [e0, h1]; show ¬ (1 * R + _ < R); omega)]
    refine congrArg b (funext fun k => Fin.ext ?_)
    match k with
    | ⟨0, _⟩ =>
      refine (congrArg (fun z => z - R) e0).trans ?_
      rw [h1]; show 1 * R + (j 0).val - R = (j 0).val; omega
    | ⟨1, _⟩ => exact e1

end Cert.TakeRows

end
-- ==== Proof.DispatchRef.lean ====
/-
The dispatch call against its reference: each device's results are its blocks of the reference's arrays.
-/
module

public import proofs.«01_k».proof.Proof.DispatchSetup
public import proofs.«01_k».proof.Proof.TakeRows
public import proofs.«01_k».proof.Proof.Gen.DispatchRefIdeal.Run
public import Idealize.ShloMosaic.Lib.Pipeline.Value
public import proofs.«01_k».proof.Proof.Gen.DispatchRefIdeal.Read
public import proofs.«01_k».proof.Proof.Gen.Pre_rows_nonneg_Dispatch

@[expose] public section

set_option maxRecDepth 16384

noncomputable section

namespace Cert.DispatchProof

open Idealize.ShloMosaic Cert.GatherProof Cert.TakeRows Cert.DispatchRefIdeal.Read
open Idealize.ShloMosaic.TcCoe

variable {F : FTy → Type} [FloatOps F]

/-! ## The precondition -/

instance : Subsingleton Cert.Pre_rows_nonneg_Dispatch.S_.Idx := ⟨fun a b => funext fun k => k.elim0⟩

/-- The precondition, read at a place: the row number is not negative. -/
theorem nums_of_pre (x : FVec F Cert.Pre_rows_nonneg_Dispatch.S4096x2048 .f32)
    (a : IVec Cert.Pre_rows_nonneg_Dispatch.S32x128 32) (idx : IVec Cert.Pre_rows_nonneg_Dispatch.S2304 32)
    (h : Cert.Pre_rows_nonneg_Dispatch.fn (F := F) x a idx = fun _ => 1#1) (i : Cert.Pre_rows_nonneg_Dispatch.S2304.Idx) :
    0 ≤ (idx i).toInt := by
  have h1 := congrFun h (fun k => k.elim0)
  exact nonneg_of_sge _ (Host.reduce_andi_all _ _ _ _ _ h1 i)

/-! ## The reference's halves -/

section Halves

variable (x0 : (⟨Cert.DispatchRefIdeal.S8192x2048, .f32⟩ : BufTy).Contents (Elt F)) (x2 : (⟨Cert.DispatchRefIdeal.S4608, .i32⟩ : BufTy).Contents (Elt F))

/-- The rows gathered from the first half, by the first half's row numbers. -/
theorem half0 (hnn : ∀ i, 0 ≤ (val_main_v1 (F := F) x2 i : BitVec 32).toInt) :
    val_main_v8 (F := F) x0 x2 = rowsBy (R := 2304) (X := 4096) (D := 2048) (by decide) (val_main_v1 (F := F) x2) (val_main_v0 (F := F) x0) := by
  refine gather_rowsBy (by decide) _ _ _ _ (fun i => ?_) hnn
  rw [val_main_v7_apply, val_main_v6_apply, val_main_v3_apply]
  have e : Cert.DispatchRefIdeal.Read.idx_main_v7 (at2 i (0 : Fin 1)) = at1 i := funext fun k => by
    match k with
    | ⟨0, _⟩ => rfl
  rw [e, val_main_v2_apply]
  exact unwrapped _ _ (hnn _)

/-- The rows gathered from the second half, by the second half's row numbers. -/
theorem half1 (hnn : ∀ i, 0 ≤ (val_main_v10 (F := F) x2 i : BitVec 32).toInt) :
    val_main_v17 (F := F) x0 x2 = rowsBy (R := 2304) (X := 4096) (D := 2048) (by decide) (val_main_v10 (F := F) x2) (val_main_v9 (F := F) x0) := by
  refine gather_rowsBy (by decide) _ _ _ _ (fun i => ?_) hnn
  rw [val_main_v16_apply, val_main_v15_apply, val_main_v12_apply]
  have e : Cert.DispatchRefIdeal.Read.idx_main_v16 (at2 i (0 : Fin 1)) = at1 i := funext fun k => by
    match k with
    | ⟨0, _⟩ => rfl
  rw [e, val_main_v11_apply]
  exact unwrapped _ _ (hnn _)

/-- Device `c`'s rows: the half that its `y` coordinate names. -/
theorem rows_block (c : Fin 4) :
    Layout.blockN ⟨2, ![4096, 2048]⟩ ⟨2, ![8192, 2048]⟩ (Layout.meshBlock [2, 2] ![[1], []] c) x0
      = if c.val % 2 = 0 then val_main_v0 (F := F) x0 else val_main_v9 (F := F) x0 := by
  funext j
  rw [Layout.blockN_apply]
  by_cases h : c.val % 2 = 0
  · rw [if_pos h, val_main_v0_apply]
    refine congrArg x0 (half_at c j _ _ ?_ rfl)
    rw [h]; show (j 0).val = 0 * 4096 + (j 0).val; rw [Nat.zero_mul, Nat.zero_add]
  · have h1 : c.val % 2 = 1 := by omega
    rw [if_neg h, val_main_v9_apply]
    refine congrArg x0 (half_at c j _ _ ?_ rfl)
    rw [h1]

/-- Device `c`'s row numbers: the half that its `y` coordinate names. -/
theorem nums_block (c : Fin 4) :
    Layout.blockN ⟨1, ![2304]⟩ ⟨1, ![4608]⟩ (Layout.meshBlock [2, 2] ![[1]] c) x2
      = if c.val % 2 = 0 then val_main_v1 (F := F) x2 else val_main_v10 (F := F) x2 := by
  funext j
  rw [Layout.blockN_apply]
  by_cases h : c.val % 2 = 0
  · rw [if_pos h, val_main_v1_apply]
    refine congrArg x2 (half_at_one c j _ _ ?_)
    rw [h]; show (j 0).val = 0 * 2304 + (j 0).val; omega
  · have h1 : c.val % 2 = 1 := by omega
    rw [if_neg h, val_main_v10_apply]
    refine congrArg x2 (half_at_one c j _ _ ?_)
    rw [h1]

/-- Device `c`'s block of the reference's result: the rows gathered from the other half. -/
theorem result_block (c : Fin 4) :
    Layout.blockN ⟨2, ![2304, 2048]⟩ ⟨2, ![4608, 2048]⟩ (Layout.meshBlock [2, 2] ![[1], []] c) (val_main_v20 (F := F) x0 x2)
      = if c.val % 2 = 0 then val_main_v17 (F := F) x0 x2 else val_main_v8 (F := F) x0 x2 :=
  block_pair c _ _ _ _

end Halves

section Lists

variable (x1 : (⟨Cert.DispatchRefIdeal.S64x128, .i32⟩ : BufTy).Contents (Elt F))

/-- Device `c`'s expert numbers: the half that its `y` coordinate names. -/
theorem experts_block (c : Fin 4) :
    Layout.blockN ⟨2, ![32, 128]⟩ ⟨2, ![64, 128]⟩ (Layout.meshBlock [2, 2] ![[1], []] c) x1
      = if c.val % 2 = 0 then val_main_v18 (F := F) x1 else val_main_v19 (F := F) x1 := by
  funext j
  rw [Layout.blockN_apply]
  by_cases h : c.val % 2 = 0
  · rw [if_pos h, val_main_v18_apply]
    refine congrArg x1 (half_at c j _ _ ?_ rfl)
    rw [h]; show (j 0).val = 0 * 32 + (j 0).val; rw [Nat.zero_mul, Nat.zero_add]
  · have h1 : c.val % 2 = 1 := by omega
    rw [if_neg h, val_main_v19_apply]
    refine congrArg x1 (half_at c j _ _ ?_ rfl)
    rw [h1]

/-- Four lists of expert numbers one under the other: the first two, then the second two. -/
theorem four_lists (a b d e : (⟨2, ![32, 128]⟩ : Shape).Idx → BitVec 32)
    (hc : Shape.Concatenates [⟨2, ![32, 128]⟩, ⟨2, ![32, 128]⟩, ⟨2, ![32, 128]⟩, ⟨2, ![32, 128]⟩] ⟨2, ![128, 128]⟩ 0)
    (J : (⟨2, ![128, 128]⟩ : Shape).Idx) (j : (⟨2, ![64, 128]⟩ : Shape).Idx) (z : ℕ) (hz : z < 2) (h0 : (J 0).val = z * 64 + (j 0).val) (h1 : (J 1).val = (j 1).val) :
    concatenate ⟨2, ![128, 128]⟩ 0 [⟨⟨2, ![32, 128]⟩, a⟩, ⟨⟨2, ![32, 128]⟩, b⟩, ⟨⟨2, ![32, 128]⟩, d⟩, ⟨⟨2, ![32, 128]⟩, e⟩] hc J
      = if z = 0 then under a b j else under d e j := by
  have hj : (j 0).val < 64 := (j 0).isLt
  have hoff : ∀ k : Fin 2, k.cast (rfl : (2 : ℕ) = 2) ≠ 0 →
      ((at2 ⟨(j 0).val % 32, Nat.mod_lt _ (by decide)⟩ (j 1) : (⟨2, ![32, 128]⟩ : Shape).Idx) k).val = (J (k.cast rfl)).val := fun k hk => by
    match k, hk with
    | ⟨0, _⟩, hk => exact absurd rfl hk
    | ⟨1, _⟩, _ => exact h1.symm
  unfold under
  by_cases hlow : (j 0).val < 32
  · rw [if_pos hlow, if_pos hlow]
    by_cases h : z = 0
    · rw [if_pos h]
      refine concatenate_apply_piece (t := ⟨2, ![128, 128]⟩) 0 _ (by exact hc) J 0 (by show 0 < 4; decide) ⟨2, ![32, 128]⟩ a rfl rfl 0 rfl _ hoff ?_
      rw [h0, h]; show 0 + (j 0).val % 32 = _; omega
    · rw [if_neg h]
      refine concatenate_apply_piece (t := ⟨2, ![128, 128]⟩) 0 _ (by exact hc) J 2 (by show 2 < 4; decide) ⟨2, ![32, 128]⟩ d rfl rfl 64 rfl _ hoff ?_
      rw [h0]; show 64 + (j 0).val % 32 = _; omega
  · rw [if_neg hlow, if_neg hlow]
    by_cases h : z = 0
    · rw [if_pos h]
      refine concatenate_apply_piece (t := ⟨2, ![128, 128]⟩) 0 _ (by exact hc) J 1 (by show 1 < 4; decide) ⟨2, ![32, 128]⟩ b rfl rfl 32 rfl _ hoff ?_
      rw [h0, h]; show 32 + (j 0).val % 32 = _; omega
    · rw [if_neg h]
      refine concatenate_apply_piece (t := ⟨2, ![128, 128]⟩) 0 _ (by exact hc) J 3 (by show 3 < 4; decide) ⟨2, ![32, 128]⟩ e rfl rfl 96 rfl _ hoff ?_
      rw [h0]; show 96 + (j 0).val % 32 = _; omega

/-- Device `c`'s block of the reference's second result: its own expert numbers over the other half's. -/
theorem lists_block (c : Fin 4) :
    Layout.blockN ⟨2, ![64, 128]⟩ ⟨2, ![128, 128]⟩ (Layout.meshBlock [2, 2] ![[1], []] c) (val_main_v21 (F := F) x1)
      = if c.val % 2 = 0 then under (val_main_v18 (F := F) x1) (val_main_v19 (F := F) x1) else under (val_main_v19 (F := F) x1) (val_main_v18 (F := F) x1) := by
  funext j
  rw [Layout.blockN_apply]
  unfold val_main_v21
  refine (four_lists _ _ _ _ _ _ j (c.val % 2) (Nat.mod_lt _ (by decide)) ?_ ?_).trans ?_
  · rw [Layout.TilesN.idx_val]; exact congrArg (fun z => z * 64 + (j 0).val) (half_row c)
  · rw [Layout.TilesN.idx_val]
    refine (congrArg (fun z => z * 128 + (j 1).val) (half_col c)).trans ?_
    show 0 * 128 + _ = _
    omega
  · by_cases h : c.val % 2 = 0
    · rw [if_pos h, if_pos h]
    · rw [if_neg h, if_neg h]

end Lists

/-! ## What a device receives -/

section Received

open Cert.DispatchIdeal

variable (m : (ℓ : Loc nD τ sig) → Buf (Elt F) ℓ)
  (x0 : (⟨Cert.DispatchRefIdeal.S8192x2048, .f32⟩ : BufTy).Contents (Elt F)) (x2 : (⟨Cert.DispatchRefIdeal.S4608, .i32⟩ : BufTy).Contents (Elt F))

theorem peer_half (c : Fin 4) : (peer c).val % 2 = 1 - c.val % 2 := by
  revert c; decide

/-- The rows that device `c` receives are its block of the reference's first result. -/
theorem received (hnn : ∀ c i, (0 : ℤ) ≤ (nums m c i).toInt)
    (h0 : ∀ c : Dev nD, rows m c = Layout.blockN ⟨2, ![4096, 2048]⟩ ⟨2, ![8192, 2048]⟩ (Layout.meshBlock [2, 2] ![[1], []] c) x0)
    (h1 : ∀ c : Dev nD, nums m c = Layout.blockN ⟨1, ![2304]⟩ ⟨1, ![4608]⟩ (Layout.meshBlock [2, 2] ![[1]] c) x2) (c : Dev nD) :
    sent m (peer c) = Layout.blockN ⟨2, ![2304, 2048]⟩ ⟨2, ![4608, 2048]⟩ (Layout.meshBlock [2, 2] ![[1], []] c) (val_main_v20 (F := F) x0 x2) := by
  have hp := peer_half c
  refine Eq.trans ?_ (result_block x0 x2 c).symm
  have e0 := (h0 (peer c)).trans (rows_block x0 (peer c))
  have e1 := (h1 (peer c)).trans (nums_block x2 (peer c))
  have hn := hnn (peer c)
  show rowsBy _ (nums m (peer c)) (rows m (peer c)) = _
  by_cases h : c.val % 2 = 0
  · have hq : ¬ (peer c).val % 2 = 0 := by omega
    rw [if_neg hq] at e0 e1
    rw [if_pos h]
    rw [e1] at hn
    rw [e0, e1]
    exact (half1 x0 x2 hn).symm
  · have hq : (peer c).val % 2 = 0 := by omega
    rw [if_pos hq] at e0 e1
    rw [if_neg h]
    rw [e1] at hn
    rw [e0, e1]
    exact (half0 x0 x2 hn).symm

/-- The expert numbers that device `c` ends with are its block of the reference's second result. -/
theorem listed (x1 : (⟨Cert.DispatchRefIdeal.S64x128, .i32⟩ : BufTy).Contents (Elt F))
    (h : ∀ c : Dev nD, experts m c = Layout.blockN ⟨2, ![32, 128]⟩ ⟨2, ![64, 128]⟩ (Layout.meshBlock [2, 2] ![[1], []] c) x1) (c : Dev nD) :
    both m c = Layout.blockN ⟨2, ![64, 128]⟩ ⟨2, ![128, 128]⟩ (Layout.meshBlock [2, 2] ![[1], []] c) (val_main_v21 (F := F) x1) := by
  have hp := peer_half c
  refine Eq.trans ?_ (lists_block x1 c).symm
  have e0 := (h c).trans (experts_block x1 c)
  have e1 := (h (peer c)).trans (experts_block x1 (peer c))
  show under (experts m c) (experts m (peer c)) = _
  by_cases hc : c.val % 2 = 0
  · have hq : ¬ (peer c).val % 2 = 0 := by omega
    rw [if_pos hc] at e0
    rw [if_neg hq] at e1
    rw [if_pos hc, e0, e1]
  · have hq : (peer c).val % 2 = 0 := by omega
    rw [if_neg hc] at e0
    rw [if_pos hq] at e1
    rw [if_neg hc, e0, e1]

end Received

end Cert.DispatchProof

end
-- ==== Proof.DispatchClaims.lean ====
/-
The claims about the dispatch call.
-/
module

public import proofs.«01_k».proof.Defs
public import proofs.«01_k».proof.Proof.DispatchRun
public import proofs.«01_k».proof.Proof.DispatchRef
public import proofs.«01_k».proof.Proof.Gen.Dispatch
public import proofs.«01_k».proof.Proof.Gen.Pre_rows_nonneg_DispatchRefIdeal

@[expose] public section

set_option maxRecDepth 16384

noncomputable section

namespace Cert.DispatchProof

open Idealize.ShloMosaic Idealize.SL.Sem

/-- The printed program and its reading with ideal numbers have one body table. -/
theorem bodies_eq {F : FTy → Type} [FloatOps F] : Cert.Dispatch.defs₀ (F := F) = Cert.DispatchIdeal.defs₀ (F := F) := by
  refine congrArg Defs.onTc (funext fun ℓ => funext fun a => ?_)
  match ℓ, a with
  | 0, (t, s) => rfl

theorem table_eq {F : FTy → Type} [FloatOps F] : Cert.Dispatch.defs (F := F) = Cert.DispatchIdeal.defs (F := F) :=
  congrArg (Pipeline.defs Cert.DispatchIdeal.pcfgs) bodies_eq

/-- The dispatch call, at words: it runs, leaves its arguments and every counter as they were. -/
theorem quiescent_words : Cert.quiescent_Dispatch := by
  intro m ρ hp
  have hnn : ∀ c i, (0 : ℤ) ≤ (nums (F := Bits) m c i).toInt := fun c i => nums_of_pre (F := Bits) _ _ _ (hp c) i
  rw [table_eq]
  exact (θ_run Cert.DispatchIdeal.defs _ _).mono (fun r h => ⟨fun c => (h.1 c).2.2, h.2⟩)
    (run_main (F := Bits) m ρ hnn)

/-- The same with ideal numbers. -/
theorem quiescent_ideal : Cert.quiescent_DispatchIdeal := fun m ρ hp =>
  (θ_run Cert.DispatchIdeal.defs _ _).mono (fun _ h => ⟨fun c => (h.1 c).2.2, h.2⟩)
    (run_main (F := Ideal) m ρ fun c i => nums_of_pre _ _ _ (hp c) i)

/-- The reference's run leaves its arguments alone and has no semaphores. -/
theorem quiescent_ref : Cert.quiescent_DispatchRefIdeal := fun m ρ _ =>
  (θ_run Cert.DispatchRefIdeal.defs _ _).mono (fun r h => ⟨fun c => (h c).2.2, sem_eq_zero_of_no_sems (by decide) r.2⟩)
    (Cert.DispatchRefIdeal.Value.run (F := Ideal) m ρ)

theorem quiescent_ref_pre : Cert.quiescent_DispatchRefIdeal_pre_rows_nonneg_DispatchRefIdeal := fun m ρ _ =>
  (θ_run Cert.DispatchRefIdeal.defs _ _).mono (fun r h => ⟨fun c => (h c).2.2, sem_eq_zero_of_no_sems (by decide) r.2⟩)
    (Cert.DispatchRefIdeal.Value.run (F := Ideal) m ρ)

/-- Every device's results are its blocks of the reference's. -/
theorem algebraic : Cert.algebraic_DispatchIdeal_DispatchRefIdeal := by
  intro m ρ m' ρ' hp hb
  have hnn : ∀ c i, (0 : ℤ) ≤ (nums m c i).toInt := fun c i => nums_of_pre _ _ _ (hp c) i
  refine ⟨Cert.DispatchRefIdeal.Read.val_main_v20 (F := Ideal)
    (m' (((0 : Dev Cert.DispatchRefIdeal.nD).tc : Thread Cert.DispatchRefIdeal.nD Cert.DispatchRefIdeal.τ).loc Cert.DispatchRefIdeal.main_arg0))
    (m' (((0 : Dev Cert.DispatchRefIdeal.nD).tc : Thread Cert.DispatchRefIdeal.nD Cert.DispatchRefIdeal.τ).loc Cert.DispatchRefIdeal.main_arg2)),
    Cert.DispatchRefIdeal.Read.val_main_v21 (F := Ideal)
    (m' (((0 : Dev Cert.DispatchRefIdeal.nD).tc : Thread Cert.DispatchRefIdeal.nD Cert.DispatchRefIdeal.τ).loc Cert.DispatchRefIdeal.main_arg1)), ?_, ?_⟩
  · refine (θ_run Cert.DispatchIdeal.defs _ _).mono (fun r h c => ⟨?_, ?_, (h.1 c).2.2⟩)
      (run_main (F := Ideal) m ρ hnn)
    · exact (h.1 c).1.trans (received m _ _ hnn (fun c => (hb c).1) (fun c => (hb c).2.2) c)
    · exact (h.1 c).2.1.trans (listed m _ (fun c => (hb c).2.1) c)
  · exact (θ_run Cert.DispatchRefIdeal.defs _ _).mono (fun r h => h (0 : Dev Cert.DispatchRefIdeal.nD))
      (Cert.DispatchRefIdeal.Value.run (F := Ideal) m' ρ')

end Cert.DispatchProof

end
-- ==== Proof.CombineSetup.lean ====
/-
The combine call: who talks to whom, what the buffers hold, and what each semaphore hands over.

Every device gathers 2304 rows of its own `yg` (the rows its slot numbers name, clipped) in four chunks of 576, and
sends each chunk to the device with the other `y` coordinate.
-/
module

public import proofs.«01_k».proof.Proof.Step
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Loops

@[expose] public section

set_option maxRecDepth 16384

noncomputable section

namespace Cert.CombineProof

open Cert.CombineIdeal Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof

variable {F : FTy → Type} [FloatOps F]

/-- The resource algebra: the pipeline's rounds, the exchange's rounds, the counters of the row copies. -/
abbrev UU : Type := UR sig nD τ × (URounds (GSem nD τ sig) Unit × Counters)

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := (Emb.inl).trans embR

/-! ## The buffers -/

abbrev iM : Memref sig .tc .smem S2304 .i32 := Memref.whole cc0_stg0_0
abbrev xM : Memref sig .tc .hbm S5120x2048 .f32 := Memref.whole main_arg0
abbrev rM : Memref sig .tc .hbm S2304x2048 .f32 := Memref.whole main_v1
abbrev cM : Memref sig .tc .vmem S2304x2048 .f32 := Memref.whole cc0_scratch0

/-- The first row of chunk `k`. -/
def first : Fin 4 → ℕ := ![0, 576, 1152, 1728]

theorem first_inb (k : Fin 4) : ∀ b, (![first k, 0] : Fin 2 → ℕ) b + (![576, 2048] : Fin 2 → ℕ) b ≤ (![2304, 2048] : Fin 2 → ℕ) b := by
  revert k; decide

theorem first_eq (k : Fin 4) : (![first k, 0] : Fin 2 → ℕ) 0 = k.val * 576 := by
  revert k; decide

/-- Chunk `k` of the send buffer and of the receive buffer. -/
abbrev cK (k : Fin 4) : Memref sig .tc .vmem ⟨2, ![576, 2048]⟩ .f32 := chunkM cM 576 ![first k, 0] (first_inb k)
abbrev rK (k : Fin 4) : Memref sig .tc .hbm ⟨2, ![576, 2048]⟩ .f32 := chunkM rM 576 ![first k, 0] (first_inb k)

/-! ## Who talks to whom -/

/-- The device with the same `x` and the other `y` coordinate. -/
def peer (c : Dev nD) : Dev nD := ⟨(2 * (c.val / 2) + 1) - c.val % 2, by have := c.isLt; unfold nD at this ⊢; omega⟩

abbrev gs : DmaSem sig := cc0_scratch1.sem
abbrev bar : Sem sig := (SemArray.scalar (sig.barrier 1 rfl) : Sems sig S_).sem
def snd (i : Fin 4) : DmaSem sig := (⟨2 + i.val, by have := i.isLt; show 2 + i.val < 10; omega⟩ : Fin 10)
def rcv (i : Fin 4) : DmaSem sig := (⟨6 + i.val, by have := i.isLt; show 6 + i.val < 10; omega⟩ : Fin 10)

def P : Talk nD τ sig where
  n := 4
  peer := peer
  peer_peer := by decide
  bar := bar
  snd := snd
  rcv := rcv
  snd_inj := by decide
  rcv_inj := by decide
  snd_ne_rcv := by decide
  N i := (rK i).view.dmaCredit
  N_pos i := View.dmaCredit_pos _ (by show 0 < (⟨2, ![576, 2048]⟩ : Shape).numel; decide)

variable (m : (ℓ : Loc nD τ sig) → Buf (Elt F) ℓ)

/-! ## The contents -/

/-- The slot numbers and the rows of device `c`. -/
abbrev slots (c : Dev nD) : S2304.Idx → BitVec 32 := m ((c : Thread nD τ).loc main_arg1)
abbrev rows (c : Dev nD) : S5120x2048.Idx → Elt F .f32 := m ((c : Thread nD τ).loc main_arg0)

/-- What device `c` gathers and sends. -/
def sent (c : Dev nD) : S2304x2048.Idx → Elt F .f32 := rowsBy (R := 2304) (X := 5120) (D := 2048) (by decide) (slots m c) (rows m c)

/-! ## What the semaphores hand over -/

/-- The barrier: the partner's whole receive buffer; a send: the chunk of the send buffer back; a receive: the chunk
    of the receive buffer, holding what the partner sent. -/
def pay : P.K → Dev nD → sProp 𝕄
  | .inl _, c => (peer c : Thread nD τ).loc main_v1 ↦{fullShare} m ((peer c : Thread nD τ).loc main_v1)
  | .inr (.inl i), c => cM.view.loc (c : Thread nD τ) ↦[(cK i).view.set]{fullShare} sent m c
  | .inr (.inr i), c => rM.view.loc (c : Thread nD τ) ↦[(rK i).view.set]{fullShare} sent m (peer c)

instance pay_storable (k : P.K) (c : Dev nD) : BI.Storable (upEmb : UEmb _ 𝕄) (pay m k c) := by
  rcases k with _ | i | i <;> (unfold pay; infer_instance)

theorem peer_peer (c : Dev nD) : peer (peer c) = c := P.peer_peer c

/-- The receive buffer whole, or in its four chunks. -/
theorem recv_chunks (c : Dev nD) (f : Buf (Elt F) ((c : Thread nD τ).loc main_v1)) :
    ((c : Thread nD τ).loc main_v1 ↦{fullShare} f : sProp 𝕄)
      = bigSep Finset.univ fun k : Fin 4 => rM.view.loc (c : Thread nD τ) ↦[(rK k).view.set]{fullShare} f :=
  chunks_pts c rM (View.set_whole main_v1) (fun k => ![first k, 0]) first_inb first_eq (fun _ => rfl) rfl (by decide) fullShare f

/-- The send buffer whole, or in its four chunks. -/
theorem send_chunks (c : Dev nD) (f : Buf (Elt F) ((c : Thread nD τ).loc cc0_scratch0)) :
    ((c : Thread nD τ).loc cc0_scratch0 ↦{fullShare} f : sProp 𝕄)
      = bigSep Finset.univ fun k : Fin 4 => cM.view.loc (c : Thread nD τ) ↦[(cK k).view.set]{fullShare} f :=
  chunks_pts c cM (View.set_whole cc0_scratch0) (fun k => ![first k, 0]) first_inb first_eq (fun _ => rfl) rfl (by decide) fullShare f

theorem four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

end Cert.CombineProof

end
-- ==== Proof.CombineBody.lean ====
/-
The body of the combine call, on one device.
-/
module

public import proofs.«01_k».proof.Proof.CombineSetup

@[expose] public section

set_option maxRecDepth 16384

noncomputable section

namespace Cert.CombineProof

open Cert.CombineIdeal Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof

variable {F : FTy → Type} [FloatOps F]
local notation "𝕄" => MT nD τ sig Unit (Elt F) ℕ UU ℕ
variable (m : (ℓ : Loc nD τ sig) → Buf (Elt F) ℓ)

/-- Every device names its partner the same way. -/
theorem dev_eq {v : ℕ} {h : v < nD} (c : Dev nD) (e : v = (2 * (c.val / 2) + 1) - c.val % 2) : (⟨v, h⟩ : Dev nD) = P.peer c := Fin.ext e

/-- A row offset's word, not negative, names the clipped row. -/
theorem off_row {o : Elt F .i32 → Fin 2 → ℕ} (ho : ∀ v : BitVec 32, o v = ![(Scalar.minsi v 5119#32).toNat, 0]) (v : BitVec 32) (hv : 0 ≤ v.toInt) :
    o v = ![(rowOf (X := 5120) (by decide) v).val, 0] := by
  rw [ho, minsi_toNat v _ hv (by decide)]; rfl

variable (κ : Dev nD × P.K → ℕ)

abbrev kit (c : Dev nD) : sProp 𝕄 :=
  tools (U := UU) (F := F) P c iM xM gs (slots m c) (rows m c) fullShare

/-- The levels allow the wait at the barrier. -/
theorem kit_bar (c : Dev nD) : kit m c ⊢ iprop(kit m c ∗ MayWait (c : Thread nD τ) (P.sem P.kB) () (P.owedFrom c 0)) := by
  unfold kit tools
  iintro ⟨HA, #HL⟩
  isplitl [HA]
  · isplitl [HA]; · iexact HA
    iexact HL
  iapply (may_bar (F := F) (U := UU) P c 0); iexact HL

theorem routes (c d : Dev nD) : τ.routes (c : Thread nD τ) (d : Thread nD τ) = true := by
  revert c d; decide

/-- What arrives at the partner is what the partner's receive semaphore hands over there. -/
theorem pay_recv (c : Dev nD) (i : Fin 4) :
    (rM.view.loc (P.peer c : Thread nD τ) ↦[(rK i).view.set]{fullShare} sent m c : sProp 𝕄) ⊢ pay m (P.kR i) (P.peer c) := by
  have h : peer (P.peer c) = c := peer_peer c
  show _ ⊢ (rM.view.loc (P.peer c : Thread nD τ) ↦[(rK i).view.set]{fullShare} sent m (peer (P.peer c)) : sProp 𝕄)
  rw [h]

theorem all_counters (c : Dev nD) :
    iprop(semVal (P.cell c P.kB) 0
      ∗ (semVal (P.cell c (P.kS (0 : Fin 4))) 0 ∗ semVal (P.cell c (P.kS (1 : Fin 4))) 0 ∗ semVal (P.cell c (P.kS (2 : Fin 4))) 0
        ∗ semVal (P.cell c (P.kS (3 : Fin 4))) 0)
      ∗ semVal (P.cell c (P.kR (0 : Fin 4))) 0 ∗ semVal (P.cell c (P.kR (1 : Fin 4))) 0 ∗ semVal (P.cell c (P.kR (2 : Fin 4))) 0
        ∗ semVal (P.cell c (P.kR (3 : Fin 4))) 0)
      ⊢ (counters P c : sProp 𝕄) := by
  unfold counters
  rw [bigSep_kinds]
  rw [show (bigSep Finset.univ fun i => semVal (P.cell c (P.kS i)) 0 : sProp 𝕄) = _ from four (F := F) _,
    show (bigSep Finset.univ fun i => semVal (P.cell c (P.kR i)) 0 : sProp 𝕄) = _ from four (F := F) _]

/-- Chunk `i` gathered and sent. -/
theorem chunk_send (hnn : ∀ c i, (0 : ℤ) ≤ (slots m c i).toInt) (c : Dev nD) (i : Fin 4) {lp lp' : Scf.Loop 32} (hok : lp.OK) (hok' : lp'.OK)
    (hT : lp.trips = 576) (hT' : lp'.trips = 576)
    (oI : Fin lp.trips → Fin 1 → ℕ) (hoI : ∀ k a, oI k a + (![1] : Fin 1 → ℕ) a ≤ (![2304] : Fin 1 → ℕ) a)
    (hI : ∀ k, (Rect.unit (s := ⟨1, ![2304]⟩) (oI k) ![1] (hoI k)).shape.numel = 1)
    (oC : Fin lp.trips → Fin 2 → ℕ) (hC : ∀ k a, oC k a + (![1, 2048] : Fin 2 → ℕ) a ≤ (![2304, 2048] : Fin 2 → ℕ) a)
    (chk : Elt F .i32 → Prop) (dec : ∀ v, Decidable (chk v))
    (oX : Elt F .i32 → Fin 2 → ℕ) (hX : ∀ v, chk v → ∀ a, oX v a + (![1, 2048] : Fin 2 → ℕ) a ≤ (![5120, 2048] : Fin 2 → ℕ) a)
    (eI : ∀ k, oI k = ![k.val + first i]) (eC : ∀ k, oC k = ![k.val + first i, 0])
    (eX : ∀ v : BitVec 32, oX v = ![(Scalar.minsi v 5119#32).toNat, 0])
    (hchk : ∀ v, (∀ b, oX v b + (![1, 2048] : Fin 2 → ℕ) b ≤ (![5120, 2048] : Fin 2 → ℕ) b) → chk v)
    (body : Fin lp.trips → Unit → Prog (TpuEff nD τ sig (Elt F) Λ₀ .tc) Unit)
    (hbody : ∀ k u, body k u = issueBody iM cM xM gs (fun k => Rect.unit (s := ⟨1, ![2304]⟩) (oI k) ![1] (hoI k)) hI oC hC chk dec oX hX k)
    (body' : Fin lp'.trips → Unit → Prog (TpuEff nD τ sig (Elt F) Λ₀ .tc) Unit)
    (vC : Memref sig .tc .vmem ⟨2, ![1, 2048]⟩ .f32) (vX : Memref sig .tc .hbm ⟨2, ![1, 2048]⟩ .f32)
    (hv : ∀ k, (dstRow cM oC hC k).view.dmaCredit = vC.view.dmaCredit) (hv0 : 0 < vC.view.dmaCredit)
    (hbody' : ∀ k u, body' k u = drainBody gs vC vX)
    (f₀ : Buf (Elt F) ((c : Thread nD τ).loc cc0_scratch0)) {d : Dev nD} (hd : d = P.peer c) {hsc : (rK i).view.ref.isScScratch = false}
    {sS sR : DmaSem sig} (hS : sS = snd i) (hR : sR = rcv i) {hsrc : (cK i).view.WordExact} {hdst : (rK i).view.WordExact}
    {hsem : DmaTarget.Typed .vmem (SemLoc.dma sR) (.remote (d : Thread nD τ) (rK i) (SemLoc.dma sS) hsc)}
    {β : Type} {Q : β → sProp (MT nD τ sig Unit (Elt F) ℕ UU ℕ)} {kk : PUnit → Prog (TpuEff nD τ sig (Elt F) Λ₀ .tc) β} :
    iprop(records P (pay m) ER κ ∗ kit m c ∗ todo P ER c i ∗ (cM.view.loc (c : Thread nD τ) ↦[(cK i).view.set]{fullShare} f₀)
        ∗ (rM.view.loc (peer c : Thread nD τ) ↦[(rK i).view.set]{fullShare} m ((peer c : Thread nD τ).loc main_v1))
        ∗ ∃ W, owes (c : Thread nD τ) (P.owedFrom c i.val) W)
      ⊢ iprop(((kit m c ∗ (sending P ER c i ∗ expecting P ER c i) ∗ ∃ W, owes (c : Thread nD τ) (P.owedFrom c (i.val + 1)) W)
            -∗ wp frame (wpE (defs₀ (F := F)) Variants.none (c : Thread nD τ) none) Set.univ (kk ⟨⟩) Q)
        -∗ wp frame (wpE (defs₀ (F := F)) Variants.none (c : Thread nD τ) none) Set.univ
          (Scf.Loop.for lp hok ⟨⟩ body >>= fun _ => Scf.Loop.for lp' hok' ⟨⟩ body' >>= fun _ =>
            .op (.enqueueDma (cK i) (.remote (d : Thread nD τ) (rK i) (SemLoc.dma sS) hsc) (SemLoc.dma sR) hsrc hdst hsem) kk) Q) :=
  gather_send (defs := defs₀ (F := F)) (hX0 := (by decide : 0 < 5120)) (T := 576) P (pay m) ER Variants.none κ c iM cM xM rM gs (slots m c) (rows m c) fullShare
    hok oI hoI hI oC hC chk dec oX hX (first i) hT (fun k => by rw [eI, Nat.add_comm]) (fun k => by rw [eC, Nat.add_comm]) (off_row eX) hchk
    (hnn c) (sent m c) (by decide) (first_inb i) rfl body hbody hok' hT' body' vC vX hv hv0 hbody'
    f₀ i hd hS hR (m ((peer c : Thread nD τ).loc main_v1)) (sent m c) rfl rfl (by decide) (by decide) Entails.rfl (pay_recv m c i) (routes c d)

theorem sound_body (hnn : ∀ c i, (0 : ℤ) ≤ (slots m c i).toInt) (c : Dev nD) (W₀ : Waits sig Unit) (f₀ : Buf (Elt F) ((c : Thread nD τ).loc cc0_scratch0)) :
    iprop(records P (pay m) ER κ ∗ kit m c ∗ owes (c : Thread nD τ) (P.owed c) W₀ ∗ hail P ER c ∗ (bigSep Finset.univ fun i => todo P ER c i)
        ∗ ((c : Thread nD τ).loc main_v1 ↦{fullShare} m ((c : Thread nD τ).loc main_v1))
        ∗ ((c : Thread nD τ).loc cc0_scratch0 ↦{fullShare} f₀))
      ⊢ wp frame (wpE (defs₀ (F := F)) Variants.none (c : Thread nD τ) none) Set.univ
          (cc0_body xM (Memref.isWhole_whole _) iM (Memref.isWhole_whole _) rM (Memref.isWhole_whole _) cM (Memref.isWhole_whole _) cc0_scratch1 cc0_scratch2 cc0_scratch3)
          (fun _ => iprop((∃ W, owes (c : Thread nD τ) 0 W) ∗ kit m c ∗ counters P c
            ∗ ((c : Thread nD τ).loc main_v1 ↦{fullShare} sent m (peer c))
            ∗ ((c : Thread nD τ).loc cc0_scratch0 ↦{fullShare} sent m c))) := by
  simp only [cc0_body_eq_skeleton]
  unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  have hB : ((c : Thread nD τ).loc main_v1 ↦{fullShare} m ((c : Thread nD τ).loc main_v1) : sProp 𝕄) ⊢ pay m P.kB (P.peer c) := by
    show _ ⊢ ((peer (peer c) : Thread nD τ).loc main_v1 ↦{fullShare} m ((peer (peer c) : Thread nD τ).loc main_v1))
    rw [peer_peer]
  have hT : (bigSep Finset.univ fun i => todo P ER c i : sProp 𝕄) ⊢ iprop(todo P ER c (0 : Fin 4) ∗ todo P ER c (1 : Fin 4) ∗ todo P ER c (2 : Fin 4) ∗ todo P ER c (3 : Fin 4)) :=
    Entails.of_eq (four (F := F) _)
  have hS : ((c : Thread nD τ).loc cc0_scratch0 ↦{fullShare} f₀ : sProp 𝕄) ⊢ _ := Entails.of_eq ((send_chunks c f₀).trans (four (F := F) _))
  iintro ⟨#HR, HK, HO, HH, HT, Hv, HS⟩
  ihave HT := hT $$ HT
  icases HT with ⟨Ht0, Ht1, Ht2, Ht3⟩
  ihave HS := hS $$ HS
  icases HS with ⟨Hs0, Hs1, Hs2, Hs3⟩
  have hH : (hail P ER c : sProp 𝕄) ⊢ iprop(atPos ER (P.cell c P.kB) 0 ∅ 0 ∗ dutyTok ER (P.cell (P.peer c) P.kB) 0 () ∗ cred (tallyAt (P.cell c P.kB) () 1)) := Entails.rfl
  ihave HH := hH $$ HH
  icases HH with ⟨HbA, HbD, HbC⟩
  -- The receive buffer goes to the partner with the barrier's signal.
  iapply (wp_hail P (pay m) ER Variants.none κ c (dev_eq c (k0_dev1_eq c)) rfl rfl W₀) $$ [HO HbD Hv]
  · isplitr; · iexact HR
    isplitl [HO]; · iexact HO
    isplitl [HbD]; · iexact HbD
    iapply hB; iexact Hv
  iintro HO
  ihave HK := (kit_bar m c) $$ HK
  icases HK with ⟨HK, HM⟩
  -- The partner's signal brings the partner's receive buffer.
  iapply (wp_take P (pay m) ER Variants.none κ c P.kB rfl rfl
    (fun K => wpE_semWait_eq (defs := defs₀ (F := F)) Variants.none (c : Thread nD τ) none Set.univ (K := K)) (P.owedFrom c 0) W₀) $$ [HO HbA HbC HM]
  · isplitr; · iexact HR
    isplitl [HbA HbC]
    · isplitl [HbA]; · iexact HbA
      iexact HbC
    isplitl [HO]; · iexact HO
    iexact HM
  iintro ⟨HO, HvB, HP⟩
  have hP : pay m P.kB c ⊢ _ := Entails.of_eq ((recv_chunks (peer c) (m ((peer c : Thread nD τ).loc main_v1))).trans (four (F := F) _))
  ihave HP := hP $$ HP
  icases HP with ⟨Hr0, Hr1, Hr2, Hr3⟩
  -- The four chunks.
  iapply (chunk_send m κ hnn c 0 k0_t1_ok k0_t2_ok (by decide) (by decide) k0_off1 k0_off1_inb (fun _ => numel1_S1) k0_off2 k0_off2_inb k0_chk1 k0_chk1.dec
    k0_off3 k0_off3_inb k0_off1_eq k0_off2_eq (fun _ => rfl) (fun _ h => h) _ (fun _ _ => rfl) _ _ _ (fun _ => rfl) (by decide) (fun _ _ => rfl)
    f₀ (dev_eq c (k0_dev2_eq c)) rfl rfl) $$ [HK Ht0 Hs0 Hr0 HO]
  · isplitr; · iexact HR
    isplitl [HK]; · iexact HK
    isplitl [Ht0]; · iexact Ht0
    isplitl [Hs0]; · iexact Hs0
    isplitl [Hr0]; · iexact Hr0
    iexact HO
  iintro ⟨HK, ⟨Hq0, He0⟩, HO⟩
  iapply (chunk_send m κ hnn c 1 k0_t3_ok k0_t4_ok (by decide) (by decide) k0_off4 k0_off4_inb (fun _ => numel1_S1) k0_off5 k0_off5_inb k0_chk2 k0_chk2.dec
    k0_off6 k0_off6_inb k0_off4_eq k0_off5_eq (fun _ => rfl) (fun _ h => h) _ (fun _ _ => rfl) _ _ _ (fun _ => rfl) (by decide) (fun _ _ => rfl)
    f₀ (dev_eq c (k0_dev3_eq c)) rfl rfl) $$ [HK Ht1 Hs1 Hr1 HO]
  · isplitr; · iexact HR
    isplitl [HK]; · iexact HK
    isplitl [Ht1]; · iexact Ht1
    isplitl [Hs1]; · iexact Hs1
    isplitl [Hr1]; · iexact Hr1
    iexact HO
  iintro ⟨HK, ⟨Hq1, He1⟩, HO⟩
  iapply (chunk_send m κ hnn c 2 k0_t5_ok k0_t6_ok (by decide) (by decide) k0_off7 k0_off7_inb (fun _ => numel1_S1) k0_off8 k0_off8_inb k0_chk3 k0_chk3.dec
    k0_off9 k0_off9_inb k0_off7_eq k0_off8_eq (fun _ => rfl) (fun _ h => h) _ (fun _ _ => rfl) _ _ _ (fun _ => rfl) (by decide) (fun _ _ => rfl)
    f₀ (dev_eq c (k0_dev4_eq c)) rfl rfl) $$ [HK Ht2 Hs2 Hr2 HO]
  · isplitr; · iexact HR
    isplitl [HK]; · iexact HK
    isplitl [Ht2]; · iexact Ht2
    isplitl [Hs2]; · iexact Hs2
    isplitl [Hr2]; · iexact Hr2
    iexact HO
  iintro ⟨HK, ⟨Hq2, He2⟩, HO⟩
  iapply (chunk_send m κ hnn c 3 k0_t7_ok k0_t8_ok (by decide) (by decide) k0_off10 k0_off10_inb (fun _ => numel1_S1) k0_off11 k0_off11_inb k0_chk4 k0_chk4.dec
    k0_off12 k0_off12_inb k0_off10_eq k0_off11_eq (fun _ => rfl) (fun _ h => h) _ (fun _ _ => rfl) _ _ _ (fun _ => rfl) (by decide) (fun _ _ => rfl)
    f₀ (dev_eq c (k0_dev5_eq c)) rfl rfl) $$ [HK Ht3 Hs3 Hr3 HO]
  · isplitr; · iexact HR
    isplitl [HK]; · iexact HK
    isplitl [Ht3]; · iexact Ht3
    isplitl [Hs3]; · iexact Hs3
    isplitl [Hr3]; · iexact Hr3
    iexact HO
  iintro ⟨HK, ⟨Hq3, He3⟩, HO⟩
  have hend : iprop(∃ W, owes (c : Thread nD τ) (P.owedFrom c ((3 : Fin 4).val + 1)) W) ⊢ (iprop(∃ W, owes (c : Thread nD τ) 0 W) : sProp 𝕄) :=
    Entails.of_eq (by rw [show (3 : Fin 4).val + 1 = P.n from rfl, P.owedFrom_end c])
  ihave HO := hend $$ HO
  -- The waits: each send gives its chunk back, each receive the chunk that came.
  iapply (take_send P (pay m) ER Variants.none κ c (0 : Fin 4) rfl rfl) $$ [Hq0 HO]
  · isplitr; · iexact HR
    isplitl [Hq0]; · iexact Hq0
    iexact HO
  iintro ⟨HO, HvS0, Hs0⟩
  iapply (take_recv P (pay m) ER Variants.none κ c (0 : Fin 4) rfl rfl) $$ [He0 HO]
  · isplitr; · iexact HR
    isplitl [He0]; · iexact He0
    iexact HO
  iintro ⟨HO, HvR0, Hr0⟩
  iapply (take_send P (pay m) ER Variants.none κ c (1 : Fin 4) rfl rfl) $$ [Hq1 HO]
  · isplitr; · iexact HR
    isplitl [Hq1]; · iexact Hq1
    iexact HO
  iintro ⟨HO, HvS1, Hs1⟩
  iapply (take_recv P (pay m) ER Variants.none κ c (1 : Fin 4) rfl rfl) $$ [He1 HO]
  · isplitr; · iexact HR
    isplitl [He1]; · iexact He1
    iexact HO
  iintro ⟨HO, HvR1, Hr1⟩
  iapply (take_send P (pay m) ER Variants.none κ c (2 : Fin 4) rfl rfl) $$ [Hq2 HO]
  · isplitr; · iexact HR
    isplitl [Hq2]; · iexact Hq2
    iexact HO
  iintro ⟨HO, HvS2, Hs2⟩
  iapply (take_recv P (pay m) ER Variants.none κ c (2 : Fin 4) rfl rfl) $$ [He2 HO]
  · isplitr; · iexact HR
    isplitl [He2]; · iexact He2
    iexact HO
  iintro ⟨HO, HvR2, Hr2⟩
  iapply (take_send P (pay m) ER Variants.none κ c (3 : Fin 4) rfl rfl) $$ [Hq3 HO]
  · isplitr; · iexact HR
    isplitl [Hq3]; · iexact Hq3
    iexact HO
  iintro ⟨HO, HvS3, Hs3⟩
  iapply (take_recv P (pay m) ER Variants.none κ c (3 : Fin 4) rfl rfl) $$ [He3 HO]
  · isplitr; · iexact HR
    isplitl [He3]; · iexact He3
    iexact HO
  iintro ⟨HO, HvR3, Hr3⟩
  have hr : iprop(pay m (P.kR (0 : Fin 4)) c ∗ pay m (P.kR (1 : Fin 4)) c ∗ pay m (P.kR (2 : Fin 4)) c ∗ pay m (P.kR (3 : Fin 4)) c)
      ⊢ ((c : Thread nD τ).loc main_v1 ↦{fullShare} sent m (peer c) : sProp 𝕄) :=
    Entails.of_eq ((recv_chunks c (sent m (peer c))).trans (four (F := F) _)).symm
  have hs : iprop(pay m (P.kS (0 : Fin 4)) c ∗ pay m (P.kS (1 : Fin 4)) c ∗ pay m (P.kS (2 : Fin 4)) c ∗ pay m (P.kS (3 : Fin 4)) c)
      ⊢ ((c : Thread nD τ).loc cc0_scratch0 ↦{fullShare} sent m c : sProp 𝕄) :=
    Entails.of_eq ((send_chunks c (sent m c)).trans (four (F := F) _)).symm
  rw [wp_ret]
  imodintro
  isplitl [HO]; · iexact HO
  isplitl [HK]; · iexact HK
  isplitl [HvB HvS0 HvS1 HvS2 HvS3 HvR0 HvR1 HvR2 HvR3]
  · iapply (all_counters c)
    isplitl [HvB]; · iexact HvB
    isplitl [HvS0 HvS1 HvS2 HvS3]
    · isplitl [HvS0]; · iexact HvS0
      isplitl [HvS1]; · iexact HvS1
      isplitl [HvS2]; · iexact HvS2
      iexact HvS3
    isplitl [HvR0]; · iexact HvR0
    isplitl [HvR1]; · iexact HvR1
    isplitl [HvR2]; · iexact HvR2
    iexact HvR3
  isplitl [Hr0 Hr1 Hr2 Hr3]
  · iapply hr
    isplitl [Hr0]; · iexact Hr0
    isplitl [Hr1]; · iexact Hr1
    isplitl [Hr2]; · iexact Hr2
    iexact Hr3
  iapply hs
  isplitl [Hs0]; · iexact Hs0
  isplitl [Hs1]; · iexact Hs1
  isplitl [Hs2]; · iexact Hs2
  iexact Hs3

end Cert.CombineProof
end
-- ==== Proof.CombineRun.lean ====
/-
The combine call's launch on the four devices: every execution ends, the arguments are unchanged, the counters are
zero, and each device's result holds the rows its partner gathered.
-/
module

public import proofs.«01_k».proof.Proof.CombineBody
public import Idealize.ShloMosaic.Lib.Pipeline.CollectiveSegs

@[expose] public section

set_option maxRecDepth 16384

noncomputable section

namespace Cert.CombineProof

open Cert.CombineIdeal Cert.CombineIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatherProof Cert.ExchangeProof Talk

variable {F : FTy → Type} [FloatOps F]
local notation "𝕄" => MT nD τ sig Unit (Elt F) ℕ UU ℕ
variable (m : (ℓ : Loc nD τ sig) → Buf (Elt F) ℓ) (ρ : Dev nD → PrngReg)

abbrev s₀ : MemSt nD τ sig (Elt F) := ⟨m, fun _ => 0, ρ⟩

/-! ## The pipeline's data -/

/-- What device `c` starts from but its send buffer. -/
def start (c : Dev nD) : sProp 𝕄 :=
  iprop((∃ κ : Dev nD × P.K → ℕ, records P (pay m) ER κ ∗ hail P ER c ∗ bigSep Finset.univ fun i => todo P ER c i)
    ∗ levAts L P.lv ∗ semVal ((c : Thread nD τ), SemLoc.dma gs) 0
    ∗ ((c : Thread nD τ).loc main_arg0 ↦{fullShare} m ((c : Thread nD τ).loc main_arg0))
    ∗ ((c : Thread nD τ).loc main_v1 ↦{fullShare} m ((c : Thread nD τ).loc main_v1)))

/-- What device `c`'s body starts from, and what it ends with. -/
def Φ₀ (c : Dev nD) : sProp 𝕄 := iprop(start m c ∗ ∃ f, (c : Thread nD τ).loc cc0_scratch0 ↦{fullShare} f)

def Φ₁ (c : Dev nD) : sProp 𝕄 :=
  iprop(counters P c ∗ semVal ((c : Thread nD τ), SemLoc.dma gs) 0
    ∗ ((c : Thread nD τ).loc main_arg0 ↦{fullShare} m ((c : Thread nD τ).loc main_arg0))
    ∗ ((c : Thread nD τ).loc main_v1 ↦{fullShare} sent m (peer c))
    ∗ ((c : Thread nD τ).loc cc0_scratch0 ↦{fullShare} sent m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => slots m c
  Φ t := match t with
    | ⟨0, _⟩ => Φ₀ m c
    | ⟨_ + 1, _⟩ => Φ₁ m c
  q _ := fullShare
  owed t := match t with
    | ⟨0, _⟩ => P.owed c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one block of the slot numbers is the whole array. -/
theorem blk_read (c : Dev nD) : (win0_0.blk (0 : Fin 1)).view.read (Elt F) ((s₀ m ρ).mem ((c : Thread nD τ).loc main_arg1)) = slots m c :=
  Memref.read_access_unit_zero (Elt F) main_arg1 (funext fun a => by fin_cases a; rfl) _ _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (slots m c))

theorem body_run (hnn : ∀ c i, (0 : ℤ) ≤ (slots m c i).toInt) (c : Dev nD) :
    bodyPre m ρ c ⊢ wp frame (wpE (defs₀ (F := F)) Variants.none (c : Thread nD τ) none) Set.univ
      (cc0_body xM (Memref.isWhole_whole _) iM (Memref.isWhole_whole _) rM (Memref.isWhole_whole _) cM (Memref.isWhole_whole _) cc0_scratch1 cc0_scratch2 cc0_scratch3)
      (fun _ => bodyPost m ρ c) := by
  have hK : iprop(((c : Thread nD τ).loc cc0_stg0_0 ↦{fullShare} slots m c) ∗ semVal ((c : Thread nD τ), SemLoc.dma gs) 0
      ∗ ((c : Thread nD τ).loc main_arg0 ↦{fullShare} m ((c : Thread nD τ).loc main_arg0)) ∗ levAts L P.lv) ⊢ kit m c := by
    unfold kit tools
    simp only [Memref.view_whole, View.set_whole]
    iintro ⟨H1, H2, H3, H4⟩
    isplitl [H1 H2 H3]
    · isplitl [H1]; · iexact H1
      isplitl [H2]; · iexact H2
      iexact H3
    iexact H4
  have hK' : kit m c ⊢ iprop(((c : Thread nD τ).loc cc0_stg0_0 ↦{fullShare} slots m c) ∗ semVal ((c : Thread nD τ), SemLoc.dma gs) 0
      ∗ ((c : Thread nD τ).loc main_arg0 ↦{fullShare} m ((c : Thread nD τ).loc main_arg0))) := by
    unfold kit tools
    simp only [Memref.view_whole, View.set_whole]
    iintro ⟨H, -⟩
    iexact H
  have hpost : iprop((∃ W, owes (c : Thread nD τ) 0 W) ∗ kit m c ∗ counters P c
      ∗ ((c : Thread nD τ).loc main_v1 ↦{fullShare} sent m (peer c)) ∗ ((c : Thread nD τ).loc cc0_scratch0 ↦{fullShare} sent m c))
      ⊢ bodyPost m ρ c := by
    unfold bodyPost Φ₁ Dat.owesAt Pipeline.owesWithin
    rw [show (dats m ρ 0 c).owed t₀.succ = 0 from rfl]
    iintro ⟨⟨%W, HO⟩, HK, Hc, Hv, Hs⟩
    ihave HK := hK' $$ HK
    icases HK with ⟨Hi, Hg, Hx⟩
    isplitl [Hc Hg Hx Hv Hs]
    · isplitl [Hc]; · iexact Hc
      isplitl [Hg]; · iexact Hg
      isplitl [Hx]; · iexact Hx
      isplitl [Hv]; · iexact Hv
      iexact Hs
    isplitl [HO]
    · iexists W
      isplitr; · ipureintro; exact fun _ _ => Or.inl trivial
      iexact HO
    iexists _; isplitr; · (ipureintro; rfl)
    iexact Hi
  refine (?_ : bodyPre m ρ c ⊢ _).trans (wp_mono _ _ _ fun _ => hpost)
  unfold bodyPre Φ₀ start Dat.owesAt Pipeline.owesWithin
  iintro ⟨⟨⟨⟨%κ, #HR, HH, HT⟩, HL, Hg, Hx, Hv⟩, ⟨%f, Hs⟩⟩, ⟨%W, %hW, HO⟩, ⟨%d0, %g0, %hg0, Hi⟩⟩
  have hg : g0 = slots m c := by
    rw [hg0]; unfold Dat.before; rw [if_pos (fetch0_0 t₀)]; exact blk_read m ρ c
  subst hg
  iapply (sound_body m κ hnn c W f)
  isplitr; · iexact HR
  isplitl [HL Hg Hx Hi]
  · iapply hK
    isplitl [Hi]; · iexact Hi
    isplitl [Hg]; · iexact Hg
    isplitl [Hx]; · iexact Hx
    iexact HL
  isplitl [HO]; · iexact HO
  isplitl [HH]; · iexact HH
  isplitl [HT]; · iexact HT
  isplitl [Hv]; · iexact Hv
  iexact Hs

/-- The pipeline's obligation on device `c`. -/
theorem body_obligation (hnn : ∀ c i, (0 : ℤ) ≤ (slots m c i).toInt) (c : Dev nD) :
    BodyObligation (dats (F := F) m ρ 0 c) (defs₀ (F := F)) Variants.none () Set.univ := fun t => by
  rw [fin_N0 t]
  rw [bigSep_W0, bigSep_W0]
  simp only [owns_whole_eq]
  exact body_run m ρ hnn c

/-! ## The launch -/

/-- The call's own semaphores: the gather's, the sends', the receives'. -/
abbrev osem : Fin 9 → SemLoc sig := fun i => .dma (⟨i.val + 1, by have := i.isLt; show i.val + 1 < 10; omega⟩ : Fin 10)

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf (cells P) (toks P), (1 : Counters)))

theorem fund : (ownU u₀ : sProp (MT nD τ sig Unit (Elt F) ℕ UU ℕ))
    ⊢ |={Set.univ}=> iprop(BI.own (EP (initOf (Pipeline.cells cfgs cellOf_inj) (Pipeline.launchToks cfgs cellOf_inj)))
      ∗ bigSep Finset.univ (dealt P (pay m) ER)) := by
  unfold u₀
  iintro Hu
  ihave H := (ownU_pair _ _) $$ Hu
  icases H with ⟨HP, HX⟩
  ihave HX := (own_pair_emb (embR (nD := nD) (τ := τ) (sig := sig) (Ix := Unit) (Val := Elt F) (Name := ℕ) (A := UR sig nD τ) (Lvl := ℕ)) _ _) $$ HX
  icases HX with ⟨HX, -⟩
  imod (fund_cells P (pay m) ER) $$ HX with HG
  imodintro
  isplitl [HP]; · iexact HP
  iexact HG

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma gs) 0
      ∗ (semVal (P.cell c (P.kS (0 : Fin 4))) 0 ∗ semVal (P.cell c (P.kS (1 : Fin 4))) 0 ∗ semVal (P.cell c (P.kS (2 : Fin 4))) 0
        ∗ semVal (P.cell c (P.kS (3 : Fin 4))) 0
      ∗ semVal (P.cell c (P.kR (0 : Fin 4))) 0 ∗ semVal (P.cell c (P.kR (1 : Fin 4))) 0 ∗ semVal (P.cell c (P.kR (2 : Fin 4))) 0
        ∗ semVal (P.cell c (P.kR (3 : Fin 4))) 0)) := by
  rw [Pipeline.ownSems0_eq_of_list c osem [0, 1, 2, 3, 4, 5, 6, 7, 8] (by decide) (by decide)]; rfl

theorem unscopedSems0_eq (c : Dev nD) : (unscopedSems0 c : sProp 𝕄) = semVal (P.cell c P.kB) 0 := by
  unfold unscopedSems0; rw [bigSep_eq_bigSepL_of_eq [SemLoc.reg bar] (by decide) (by decide)]; rfl

/-- The semaphores of a device: its cells' counters and the gather's. -/
theorem sems_split (c : Dev nD) :
    iprop(Pipeline.ownSems0 (Ix := Unit) (Name := ℕ) (U := UU) (Lvl := ℕ) (Val := Elt F) (τ := τ) osem c ∗ unscopedSems0 c)
      ⊢ (iprop(counters P c ∗ semVal ((c : Thread nD τ), SemLoc.dma gs) 0) : sProp 𝕄) := by
  rw [ownSems0_eq, unscopedSems0_eq]
  iintro ⟨⟨Hg, H0, H1, H2, H3, HR⟩, HB⟩
  isplitr [Hg]
  · iapply (all_counters c)
    isplitl [HB]; · iexact HB
    isplitr [HR]
    · isplitl [H0]; · iexact H0
      isplitl [H1]; · iexact H1
      isplitl [H2]; · iexact H2
      iexact H3
    iexact HR
  iexact Hg

theorem counters_split (c : Dev nD) :
    (counters P c : sProp 𝕄) ⊢ iprop(semVal (P.cell c P.kB) 0
      ∗ (semVal (P.cell c (P.kS (0 : Fin 4))) 0 ∗ semVal (P.cell c (P.kS (1 : Fin 4))) 0 ∗ semVal (P.cell c (P.kS (2 : Fin 4))) 0
        ∗ semVal (P.cell c (P.kS (3 : Fin 4))) 0)
      ∗ semVal (P.cell c (P.kR (0 : Fin 4))) 0 ∗ semVal (P.cell c (P.kR (1 : Fin 4))) 0 ∗ semVal (P.cell c (P.kR (2 : Fin 4))) 0
        ∗ semVal (P.cell c (P.kR (3 : Fin 4))) 0) := by
  unfold counters
  rw [bigSep_kinds]
  rw [show (bigSep Finset.univ fun i => semVal (P.cell c (P.kS i)) 0 : sProp 𝕄) = _ from four (F := F) _,
    show (bigSep Finset.univ fun i => semVal (P.cell c (P.kR i)) 0 : sProp 𝕄) = _ from four (F := F) _]

/-- What the global step makes of the semaphores and the ghost state. -/
def G' (c : Dev nD) : sProp 𝕄 := iprop(given P (pay m) ER c ∗ semVal ((c : Thread nD τ), SemLoc.dma gs) 0)

theorem glob :
    (bigSep Finset.univ fun c => iprop(Pipeline.ownSems0 (Ix := Unit) (Name := ℕ) (U := UU) (Lvl := ℕ) (Val := Elt F) (τ := τ) osem c ∗ unscopedSems0 c
        ∗ dealt P (pay m) ER c) : sProp 𝕄)
      ⊢ |={Set.univ}=> bigSep Finset.univ (G' m) :=
  (bigSep_mono fun c _ => show _ ⊢ iprop((Pipeline.ownSems0 (Ix := Unit) (Name := ℕ) (U := UU) (Lvl := ℕ) (Val := Elt F) (τ := τ) osem c ∗ unscopedSems0 c)
      ∗ dealt P (pay m) ER c) from BI.sep_assoc').trans (settle P (pay m) ER sems_split)

theorem start_intro (c : Dev nD) :
    iprop(Pipeline.unscopedRestP Pipeline.Prefetch.none cfg0.spec c (fun b => m ((c : Thread nD τ).loc b)) ∗ levAts L P.lv
        ∗ Pipeline.launchCred P.owed c ∗ prngReg c (ρ c) ∗ G' m c)
      ⊢ |={Set.univ}=> iprop(start m c ∗ emp) := by
  rw [Pipeline.unscopedRestP_none, unscopedRest0_eq]
  unfold G' given start
  iintro ⟨⟨Hx, Hv⟩, HL, Hcr, -, ⟨%κ, #HR, Hpt⟩, Hg⟩
  ihave Hp := (ready P ER c) $$ [Hpt Hcr]
  · isplitl [Hpt]; · iexact Hpt
    iexact Hcr
  icases Hp with ⟨HH, HT⟩
  imodintro
  isplitl
  · isplitl [HH HT]
    · iexists κ
      isplitr; · iexact HR
      isplitl [HH]; · iexact HH
      iexact HT
    isplitl [HL]; · iexact HL
    isplitl [Hg]; · iexact Hg
    isplitl [Hx]; · iexact Hx
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What device `c` is left with outside the call's scope. -/
def left (c : Dev nD) : sProp 𝕄 :=
  iprop(unscopedSems0 c ∗ ((c : Thread nD τ).loc main_arg0 ↦{fullShare} m ((c : Thread nD τ).loc main_arg0))
    ∗ ((c : Thread nD τ).loc main_v1 ↦{fullShare} sent m (peer c)))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left
  rw [unscopedSems0_eq]
  iintro ⟨Hc, Hg, Hx, Hv, Hs⟩
  ihave Hc := (counters_split c) $$ Hc
  icases Hc with ⟨HB, ⟨H0, H1, H2, H3⟩, HR⟩
  isplitl [HB Hx Hv]
  · isplitl [HB]; · iexact HB
    isplitl [Hx]; · iexact Hx
    iexact Hv
  isplitr [Hs]
  · isplitl [Hg]; · iexact Hg
    isplitl [H0]; · iexact H0
    isplitl [H1]; · iexact H1
    isplitl [H2]; · iexact H2
    isplitl [H3]; · iexact H3
    iexact HR
  iexists _; iexact Hs

theorem waits (c : Dev nD) : (levAts L P.lv : sProp 𝕄) ⊢ Pipeline.cellsWaits cfgs (dats m ρ) () 0 c :=
  Pipeline.cellsWaits_intro cfgs (dats m ρ) () 0 c fun w s t => by
    rcases t with ⟨_ | _, ht⟩
    · exact may_low_start P c (by fin_cases w <;> fin_cases s <;> decide) (by fin_cases w <;> fin_cases s <;> decide)
    · show _ ⊢ MayWait _ _ _ 0
      rw [MayWait_zero]; iintro -; iempintro

/-! ## The run -/

def Reads (c : Dev nD) (s : MemSt nD τ sig (Elt F)) : Prop :=
  s.mem ((c : Thread nD τ).loc main_arg0) = m ((c : Thread nD τ).loc main_arg0) ∧ s.mem ((c : Thread nD τ).loc main_v1) = sent m (peer c)

theorem left_read (c : Dev nD) (s' : Phys nD τ sig (Elt F)) :
    iprop(left m c ∗ emp ∗ SI s')
      ⊢ |={Set.univ}=> iprop(⌜(∀ sm : SemLoc sig, sm.isScoped .tc = false → s'.mem.sem ((c.tc : Thread nD τ), sm) = 0) ∧ Reads m c s'.mem⌝ ∗ SI s') := by
  unfold left
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ hv⟩
  iexact HSI

/-- What every final state holds. -/
def Done (s : MemSt nD τ sig (Elt F)) : Prop :=
  (∀ c : Dev nD, s.mem ((c : Thread nD τ).loc main_v1) = sent m (peer c)
    ∧ s.mem ((c : Thread nD τ).loc main_arg0) = m ((c : Thread nD τ).loc main_arg0)
    ∧ s.mem ((c : Thread nD τ).loc main_arg1) = m ((c : Thread nD τ).loc main_arg1)) ∧ s.sem = fun _ => 0

theorem run_main (hnn : ∀ c i, (0 : ℤ) ≤ (slots m c i).toInt) :
    θ_run defs (onTc (τ := τ) (main (F := F))) (s₀ m ρ) (fun r => Done m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ hnn) (hne := fun w => by fin_cases w; exact Nat.succ_pos _) (harr := arr_whole0) (hstage := stage_whole0) (hshare := share_eq m ρ)
    (hdistinct := winFacts0.arr_inj)
    (O₀ := P.owed) (howed₀ := fun _ => rfl) (howedN := fun _ => rfl)
    (L := L) (lv := P.lv) (hL := L_of_ne) (hwaits := waits m ρ)
    (G := dealt P (pay m) ER) (G' := G' m) (u₀ := u₀)
    (hu₀ := fund m)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Reads m c s)
    (hY := left_read m)
    (hQ := fun s h hs => ⟨fun c => ⟨(h c).2.2.2.2, (h c).2.2.2.1,
      ((h c).1 0).trans ((dats (F := F) m ρ 0 c).arrAt_in (0 : Fin 1) rfl _)⟩, sem_eq_zero hs fun c => (h c).2.2.1⟩)

end Cert.CombineProof

end
-- ==== Proof.CombineRef.lean ====
/-
The combine call against its reference: each device's result is its block of the reference's array.
-/
module

public import proofs.«01_k».proof.Proof.CombineSetup
public import proofs.«01_k».proof.Proof.TakeRows
public import proofs.«01_k».proof.Proof.Gen.CombineRefIdeal.Run
public import proofs.«01_k».proof.Proof.Gen.CombineRefIdeal.Read
public import proofs.«01_k».proof.Proof.Gen.Pre_slots_nonneg_Combine

@[expose] public section

set_option maxRecDepth 16384

noncomputable section

namespace Cert.CombineProof

open Idealize.ShloMosaic Cert.GatherProof Cert.TakeRows Cert.CombineRefIdeal.Read
open Idealize.ShloMosaic.TcCoe

variable {F : FTy → Type} [FloatOps F]

/-! ## The precondition -/

instance : Subsingleton Cert.Pre_slots_nonneg_Combine.S_.Idx := ⟨fun a b => funext fun k => k.elim0⟩

/-- The precondition, read at a place: the slot number is not negative. -/
theorem slots_of_pre (x : FVec F Cert.Pre_slots_nonneg_Combine.S5120x2048 .f32) (idx : IVec Cert.Pre_slots_nonneg_Combine.S2304 32)
    (h : Cert.Pre_slots_nonneg_Combine.fn (F := F) x idx = fun _ => 1#1) (i : Cert.Pre_slots_nonneg_Combine.S2304.Idx) :
    0 ≤ (idx i).toInt := by
  have h1 := congrFun h (fun k => k.elim0)
  exact nonneg_of_sge _ (Host.reduce_andi_all _ _ _ _ _ h1 i)

/-! ## The reference's halves -/

section Halves

variable (x0 : (⟨Cert.CombineRefIdeal.S10240x2048, .f32⟩ : BufTy).Contents (Elt F)) (x1 : (⟨Cert.CombineRefIdeal.S4608, .i32⟩ : BufTy).Contents (Elt F))

/-- The rows gathered from the first half, by the first half's slot numbers. -/
theorem half0 (hnn : ∀ i, 0 ≤ (val_main_v1 (F := F) x1 i : BitVec 32).toInt) :
    val_main_v8 (F := F) x0 x1 = rowsBy (R := 2304) (X := 5120) (D := 2048) (by decide) (val_main_v1 (F := F) x1) (val_main_v0 (F := F) x0) := by
  refine gather_rowsBy (by decide) _ _ _ _ (fun i => ?_) hnn
  rw [val_main_v7_apply, val_main_v6_apply, val_main_v3_apply]
  have e : Cert.CombineRefIdeal.Read.idx_main_v7 (at2 i (0 : Fin 1)) = at1 i := funext fun k => by
    match k with
    | ⟨0, _⟩ => rfl
  rw [e, val_main_v2_apply]
  exact unwrapped _ _ (hnn _)

/-- The rows gathered from the second half, by the second half's slot numbers. -/
theorem half1 (hnn : ∀ i, 0 ≤ (val_main_v10 (F := F) x1 i : BitVec 32).toInt) :
    val_main_v17 (F := F) x0 x1 = rowsBy (R := 2304) (X := 5120) (D := 2048) (by decide) (val_main_v10 (F := F) x1) (val_main_v9 (F := F) x0) := by
  refine gather_rowsBy (by decide) _ _ _ _ (fun i => ?_) hnn
  rw [val_main_v16_apply, val_main_v15_apply, val_main_v12_apply]
  have e : Cert.CombineRefIdeal.Read.idx_main_v16 (at2 i (0 : Fin 1)) = at1 i := funext fun k => by
    match k with
    | ⟨0, _⟩ => rfl
  rw [e, val_main_v11_apply]
  exact unwrapped _ _ (hnn _)

/-- Device `c`'s rows: the half that its `y` coordinate names. -/
theorem rows_block (c : Fin 4) :
    Layout.blockN ⟨2, ![5120, 2048]⟩ ⟨2, ![10240, 2048]⟩ (Layout.meshBlock [2, 2] ![[1], []] c) x0
      = if c.val % 2 = 0 then val_main_v0 (F := F) x0 else val_main_v9 (F := F) x0 := by
  funext j
  rw [Layout.blockN_apply]
  by_cases h : c.val % 2 = 0
  · rw [if_pos h, val_main_v0_apply]
    refine congrArg x0 (half_at c j _ _ ?_ rfl)
    rw [h]; show (j 0).val = 0 * 5120 + (j 0).val; rw [Nat.zero_mul, Nat.zero_add]
  · have h1 : c.val % 2 = 1 := by omega
    rw [if_neg h, val_main_v9_apply]
    refine congrArg x0 (half_at c j _ _ ?_ rfl)
    rw [h1]

/-- Device `c`'s slot numbers: the half that its `y` coordinate names. -/
theorem slots_block (c : Fin 4) :
    Layout.blockN ⟨1, ![2304]⟩ ⟨1, ![4608]⟩ (Layout.meshBlock [2, 2] ![[1]] c) x1
      = if c.val % 2 = 0 then val_main_v1 (F := F) x1 else val_main_v10 (F := F) x1 := by
  funext j
  rw [Layout.blockN_apply]
  by_cases h : c.val % 2 = 0
  · rw [if_pos h, val_main_v1_apply]
    refine congrArg x1 (half_at_one c j _ _ ?_)
    rw [h]; show (j 0).val = 0 * 2304 + (j 0).val; omega
  · have h1 : c.val % 2 = 1 := by omega
    rw [if_neg h, val_main_v10_apply]
    refine congrArg x1 (half_at_one c j _ _ ?_)
    rw [h1]

/-- Device `c`'s block of the reference's result: the rows gathered from the other half. -/
theorem result_block (c : Fin 4) :
    Layout.blockN ⟨2, ![2304, 2048]⟩ ⟨2, ![4608, 2048]⟩ (Layout.meshBlock [2, 2] ![[1], []] c) (val_main_v18 (F := F) x0 x1)
      = if c.val % 2 = 0 then val_main_v17 (F := F) x0 x1 else val_main_v8 (F := F) x0 x1 :=
  block_pair c _ _ _ _

end Halves

/-! ## What a device receives -/

section Received

open Cert.CombineIdeal

variable (m : (ℓ : Loc nD τ sig) → Buf (Elt F) ℓ)
  (x0 : (⟨Cert.CombineRefIdeal.S10240x2048, .f32⟩ : BufTy).Contents (Elt F)) (x1 : (⟨Cert.CombineRefIdeal.S4608, .i32⟩ : BufTy).Contents (Elt F))

theorem peer_half (c : Fin 4) : (peer c).val % 2 = 1 - c.val % 2 := by
  revert c; decide

/-- What device `c` receives is its block of the reference's result. -/
theorem received (hnn : ∀ c i, (0 : ℤ) ≤ (slots m c i).toInt)
    (h0 : ∀ c : Dev nD, rows m c = Layout.blockN ⟨2, ![5120, 2048]⟩ ⟨2, ![10240, 2048]⟩ (Layout.meshBlock [2, 2] ![[1], []] c) x0)
    (h1 : ∀ c : Dev nD, slots m c = Layout.blockN ⟨1, ![2304]⟩ ⟨1, ![4608]⟩ (Layout.meshBlock [2, 2] ![[1]] c) x1) (c : Dev nD) :
    sent m (peer c) = Layout.blockN ⟨2, ![2304, 2048]⟩ ⟨2, ![4608, 2048]⟩ (Layout.meshBlock [2, 2] ![[1], []] c) (val_main_v18 (F := F) x0 x1) := by
  have hp := peer_half c
  refine Eq.trans ?_ (result_block x0 x1 c).symm
  have e0 := (h0 (peer c)).trans (rows_block x0 (peer c))
  have e1 := (h1 (peer c)).trans (slots_block x1 (peer c))
  have hn := hnn (peer c)
  show rowsBy _ (slots m (peer c)) (rows m (peer c)) = _
  by_cases h : c.val % 2 = 0
  · have hq : ¬ (peer c).val % 2 = 0 := by omega
    rw [if_neg hq] at e0 e1
    rw [if_pos h]
    rw [e1] at hn
    rw [e0, e1]
    exact (half1 x0 x1 hn).symm
  · have hq : (peer c).val % 2 = 0 := by omega
    rw [if_pos hq] at e0 e1
    rw [if_neg h]
    rw [e1] at hn
    rw [e0, e1]
    exact (half0 x0 x1 hn).symm

end Received

end Cert.CombineProof

end
-- ==== Proof.CombineClaims.lean ====
/-
The claims about the combine call.
-/
module

public import proofs.«01_k».proof.Defs
public import proofs.«01_k».proof.Proof.CombineRun
public import proofs.«01_k».proof.Proof.CombineRef
public import proofs.«01_k».proof.Proof.Gen.Combine
public import proofs.«01_k».proof.Proof.Gen.Pre_slots_nonneg_CombineRefIdeal

@[expose] public section

set_option maxRecDepth 16384

noncomputable section

namespace Cert.CombineProof

open Idealize.ShloMosaic Idealize.SL.Sem

/-- The printed program and its reading with ideal numbers have one body table. -/
theorem bodies_eq {F : FTy → Type} [FloatOps F] : Cert.Combine.defs₀ (F := F) = Cert.CombineIdeal.defs₀ (F := F) := by
  refine congrArg Defs.onTc (funext fun ℓ => funext fun a => ?_)
  match ℓ, a with
  | 0, (t, s) => rfl

theorem table_eq {F : FTy → Type} [FloatOps F] : Cert.Combine.defs (F := F) = Cert.CombineIdeal.defs (F := F) :=
  congrArg (Pipeline.defs Cert.CombineIdeal.pcfgs) bodies_eq

/-- The combine call, at words: it runs, leaves its arguments and every counter as they were. -/
theorem quiescent_words : Cert.quiescent_Combine := by
  intro m ρ hp
  have hnn : ∀ c i, (0 : ℤ) ≤ (slots (F := Bits) m c i).toInt := fun c i => slots_of_pre (F := Bits) _ _ (hp c) i
  rw [table_eq]
  exact (θ_run Cert.CombineIdeal.defs _ _).mono (fun r h => ⟨fun c => ⟨(h.1 c).2.1, (h.1 c).2.2⟩, h.2⟩)
    (run_main (F := Bits) m ρ hnn)

/-- The same with ideal numbers. -/
theorem quiescent_ideal : Cert.quiescent_CombineIdeal := fun m ρ hp =>
  (θ_run Cert.CombineIdeal.defs _ _).mono (fun _ h => ⟨fun c => ⟨(h.1 c).2.1, (h.1 c).2.2⟩, h.2⟩)
    (run_main (F := Ideal) m ρ fun c i => slots_of_pre _ _ (hp c) i)

/-- The reference's run leaves its arguments alone and has no semaphores. -/
theorem quiescent_ref : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

theorem quiescent_ref_pre : Cert.quiescent_CombineRefIdeal_pre_slots_nonneg_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- Every device's result is its block of the reference's. -/
theorem algebraic : Cert.algebraic_CombineIdeal_CombineRefIdeal := by
  intro m ρ m' ρ' hp hb
  have hnn : ∀ c i, (0 : ℤ) ≤ (slots m c i).toInt := fun c i => slots_of_pre _ _ (hp c) i
  refine ⟨Cert.CombineRefIdeal.Read.val_main_v18 (F := Ideal)
    (m' (((0 : Dev Cert.CombineRefIdeal.nD).tc : Thread Cert.CombineRefIdeal.nD Cert.CombineRefIdeal.τ).loc Cert.CombineRefIdeal.main_arg0))
    (m' (((0 : Dev Cert.CombineRefIdeal.nD).tc : Thread Cert.CombineRefIdeal.nD Cert.CombineRefIdeal.τ).loc Cert.CombineRefIdeal.main_arg1)), ?_, ?_⟩
  · refine (θ_run Cert.CombineIdeal.defs _ _).mono (fun r h c => ⟨?_, (h.1 c).2.1, (h.1 c).2.2⟩)
      (run_main (F := Ideal) m ρ hnn)
    exact (h.1 c).1.trans (received m _ _ hnn (fun c => (hb c).1) (fun c => (hb c).2) c)
  · exact (θ_run Cert.CombineRefIdeal.defs _ _).mono (fun r h => h (0 : Dev Cert.CombineRefIdeal.nD))
      (Cert.CombineRefIdeal.Value.run (F := Ideal) m' ρ')

end Cert.CombineProof

end
-- ==== Proof.ExpertsBody.lean ====
/-
  What the body of `_moe` leaves in its accumulator and in the output's block, at one grid point, as functions of the
  three blocks it reads: at the first hidden tile the tile's product, at a later one the accumulator plus the tile's
  product, and at the last one the same again in the output's block.
-/
module

public import proofs.«01_k».proof.Defs
public import proofs.«01_k».proof.Proof.Gen.ExpertsIdeal.Frame
public import proofs.«01_k».proof.Proof.Gen.ExpertsIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ExpertsProof

open Idealize.ShloMosaic Idealize.ShloMosaic.TcCoe Idealize.SL.Sem
open Cert.ExpertsIdeal Cert.ExpertsIdeal.Gen

variable {F : FTy → Type} [FloatOps F]

/-- Two zero offsets are the zero function. -/
theorem zeros2 : (![0, 0] : Fin 2 → Nat) = fun _ => 0 := funext fun a => by fin_cases a <;> rfl
/-- Three zero offsets are the zero function. -/
theorem zeros3 : (![0, 0, 0] : Fin 3 → Nat) = fun _ => 0 := funext fun a => by fin_cases a <;> rfl

/-- The product of one hidden tile: the rows' block against the tile's columns of the first weights, cut at zero, then
    against the tile's rows of the second weights. -/
abbrev tile (x : Vec F S1x640x2048 .f32) (w1 : Vec F S1x2048x512 .f32) (w2 : Vec F S1x512x2048 .f32) : Vec F S640x2048 .f32 :=
  k0_pay1 x w1 w2

variable (c : Dev nD) (i : grid0.Coords)
  (a3 : Memref sig .tc .vmem S1x640x2048 .f32) (h3 : a3.IsWhole) (a4 : Memref sig .tc .vmem S1x2048x512 .f32) (h4 : a4.IsWhole)
  (a5 : Memref sig .tc .vmem S1x512x2048 .f32) (h5 : a5.IsWhole) (a6 : Memref sig .tc .vmem S1x640x2048 .f32) (h6 : a6.IsWhole)
  (a7 : Memref sig .tc .vmem S640x2048 .f32) (h7 : a7.IsWhole)
  (x : Vec F S1x640x2048 .f32) (w1 : Vec F S1x2048x512 .f32) (w2 : Vec F S1x512x2048 .f32) (acc : Vec F S640x2048 .f32)

/-- At the first hidden tile the accumulator ends at the tile's product, whatever it held. -/
theorem acc_first (hc0 : cond0_0 i) (hc1 : ¬cond0_1 i) (hc2 : ¬cond0_2 i) :
    sout0_A_0 c i a3 h3 a4 h4 a5 h5 a6 h6 a7 h7 hc0 hc1 hc2 x w1 w2 = tile x w1 w2 := by
  unfold sout0_A_0
  rw [View.read_writes_eq_canon _ _ _ (scover0_A_0 c i a3 h3 a4 h4 a5 h5 a6 h6 a7 h7 hc0 hc1 hc2 x w1 w2)]
  unfold kernelRun0_A
  dsimp only
  rw [View.canon_unit_zero zeros2]
  unfold k0_pay2
  simp only [View.readAt_eq_ld, h3.read_unread, h4.read_unread, h5.read_unread, View.ld_unit_zero (S := S1x640x2048) zeros3,
    View.ld_unit_zero (S := S1x2048x512) zeros3, View.ld_unit_zero (S := S1x512x2048) zeros3, shapeCast_self]

/-- At a hidden tile in between the accumulator gains the tile's product. -/
theorem acc_mid (hc0 : ¬cond0_0 i) (hc1 : cond0_1 i) (hc2 : ¬cond0_2 i) :
    sout0_B_0 c i a3 h3 a4 h4 a5 h5 a6 h6 a7 h7 hc0 hc1 hc2 x w1 w2 acc = addf acc (tile x w1 w2) := by
  unfold sout0_B_0
  rw [View.read_writes_eq_canon _ _ _ (scover0_B_0 c i a3 h3 a4 h4 a5 h5 a6 h6 a7 h7 hc0 hc1 hc2 x w1 w2 acc)]
  unfold kernelRun0_B
  dsimp only
  rw [View.canon_unit_zero zeros2]
  unfold k0_pay3
  simp only [View.readAt_eq_ld, h3.read_unread, h4.read_unread, h5.read_unread, h7.read_unread, View.ld_unit_zero (S := S1x640x2048) zeros3,
    View.ld_unit_zero (S := S1x2048x512) zeros3, View.ld_unit_zero (S := S1x512x2048) zeros3, View.ld_unit_zero (S := S640x2048) zeros2, shapeCast_self]

/-- At the last hidden tile the output's block ends at the accumulator plus the tile's product. -/
theorem out_last (hc0 : ¬cond0_0 i) (hc1 : cond0_1 i) (hc2 : cond0_2 i) :
    out0_C_3 c i a3 h3 a4 h4 a5 h5 a6 h6 a7 h7 hc0 hc1 hc2 x w1 w2 acc
      = shapeCast S1x640x2048 (addf acc (tile x w1 w2)) shapeCasts_S640x2048_S1x640x2048 := by
  unfold out0_C_3
  rw [View.read_writes_eq_canon _ _ _ (cover0_C_3 c i a3 h3 a4 h4 a5 h5 a6 h6 a7 h7 hc0 hc1 hc2 x w1 w2 acc)]
  unfold kernelRun0_C
  dsimp only
  sl_unfold_words
  rw [View.canon_unit_zero zeros3, View.readCov_unit_zero (S := S640x2048) _ zeros2]
  unfold k0_pay4 k0_pay3
  simp only [View.readAt_eq_ld, h3.read_unread, h4.read_unread, h5.read_unread, h7.read_unread, View.ld_unit_zero (S := S1x640x2048) zeros3,
    View.ld_unit_zero (S := S1x2048x512) zeros3, View.ld_unit_zero (S := S1x512x2048) zeros3, View.ld_unit_zero (S := S640x2048) zeros2, shapeCast_self]

end Cert.ExpertsProof

end
-- ==== Proof.ExpertsValue.lean ====
/-
  The array `_moe` leaves, read at an index on the extended reals: the sum over all 4096 hidden units, whatever the tiling.
  A grid point adds 512 of them, the eight points of a block are added in the accumulator.
-/
module

public import proofs.«01_k».proof.Proof.ExpertsBody
public import Idealize.ShloMosaic.Lib.Pointwise

@[expose] public section

set_option maxRecDepth 16384

noncomputable section

namespace Cert.ExpertsProof

open Idealize.ShloMosaic Idealize.ShloMosaic.TcCoe Idealize.SL.Sem
open Cert.ExpertsIdeal Cert.ExpertsIdeal.Gen Cert.ExpertsIdeal.Value

/-! ## One tile at an index -/

/-- One tile's product at row `y 0`, column `y 1`: over the tile's 512 hidden units, the unit's value cut at zero times its
    weight. -/
theorem tile_apply (x : Vec Ideal S1x640x2048 .f32) (w1 : Vec Ideal S1x2048x512 .f32) (w2 : Vec Ideal S1x512x2048 .f32) (y : S640x2048.Idx) :
    tile x w1 w2 y = ∑ k : Fin 512, max (∑ j : Fin 2048, x (ix3 0 (y 0) j) * w1 (ix3 0 j k)) 0 * w2 (ix3 0 k (y 1)) := by
  unfold tile k0_pay1
  simp only [pointwise, zero_add]

/-! ## The blocks a point reads -/

/-- The block indices of the three inputs at grid point `t`: expert `t / 16`, row tile `t / 8 % 2`, hidden tile `t % 8`. -/
theorem block_index : ∀ t : Fin cfg0.N,
    win0_0.index t (0 : Fin 3) = t.val / 16 ∧ win0_0.index t (1 : Fin 3) = t.val / 8 % 2 ∧ win0_0.index t (2 : Fin 3) = 0
    ∧ win0_1.index t (0 : Fin 3) = t.val / 16 ∧ win0_1.index t (1 : Fin 3) = 0 ∧ win0_1.index t (2 : Fin 3) = t.val % 8
    ∧ win0_2.index t (0 : Fin 3) = t.val / 16 ∧ win0_2.index t (1 : Fin 3) = t.val % 8 ∧ win0_2.index t (2 : Fin 3) = 0 :=
  (by decide +kernel : ∀ t : Fin grid0.N, _)

variable (m : (ℓ : Loc nD τ sig) → Buf (Elt Ideal) ℓ) (c : Dev nD)

/-- The rows, as launched. -/
abbrev rowsIn : Vec Ideal S4x1280x2048 .f32 := m ((c : Thread nD τ).loc main_arg0)
/-- The first weights, as launched. -/
abbrev upIn : Vec Ideal S4x2048x4096 .f32 := m ((c : Thread nD τ).loc main_arg1)
/-- The second weights, as launched. -/
abbrev downIn : Vec Ideal S4x4096x2048 .f32 := m ((c : Thread nD τ).loc main_arg2)
/-- The block of rows point `t` reads. -/
abbrev rowsAt (t : Fin cfg0.N) : Vec Ideal S1x640x2048 .f32 := iblk m c 0 t
/-- The block of first weights point `t` reads. -/
abbrev upAt (t : Fin cfg0.N) : Vec Ideal S1x2048x512 .f32 := iblk m c 1 t
/-- The block of second weights point `t` reads. -/
abbrev downAt (t : Fin cfg0.N) : Vec Ideal S1x512x2048 .f32 := iblk m c 2 t

/-- The rows' block at an index is the array at the index moved by the block. -/
theorem rowsAt_apply (t : Fin cfg0.N) (r : Fin 640) (j : Fin 2048) (e : Fin 4) (he : e.val = t.val / 16)
    (R : Fin 1280) (hR : R.val = 640 * (t.val / 8 % 2) + r.val) : rowsAt m c t (ix3 0 r j) = rowsIn m c (ix3 e R j) := by
  obtain ⟨e0, e1, e2, -⟩ := block_index t
  refine congrArg (rowsIn m c) (funext fun a => Fin.ext ?_)
  match a with
  | ⟨0, _⟩ => show win0_0.index t (0 : Fin 3) * 1 + 1 * 0 = e.val; omega
  | ⟨1, _⟩ => show win0_0.index t (1 : Fin 3) * 640 + 1 * r.val = R.val; omega
  | ⟨2, _⟩ => show win0_0.index t (2 : Fin 3) * 2048 + 1 * j.val = j.val; omega

/-- The first weights' block at an index. -/
theorem upAt_apply (t : Fin cfg0.N) (j : Fin 2048) (k : Fin 512) (e : Fin 4) (he : e.val = t.val / 16)
    (H : Fin 4096) (hH : H.val = t.val % 8 * 512 + k.val) : upAt m c t (ix3 0 j k) = upIn m c (ix3 e j H) := by
  obtain ⟨-, -, -, e0, e1, e2, -⟩ := block_index t
  refine congrArg (upIn m c) (funext fun a => Fin.ext ?_)
  match a with
  | ⟨0, _⟩ => show win0_1.index t (0 : Fin 3) * 1 + 1 * 0 = e.val; omega
  | ⟨1, _⟩ => show win0_1.index t (1 : Fin 3) * 2048 + 1 * j.val = j.val; omega
  | ⟨2, _⟩ => show win0_1.index t (2 : Fin 3) * 512 + 1 * k.val = H.val; omega

/-- The second weights' block at an index. -/
theorem downAt_apply (t : Fin cfg0.N) (k : Fin 512) (d : Fin 2048) (e : Fin 4) (he : e.val = t.val / 16)
    (H : Fin 4096) (hH : H.val = t.val % 8 * 512 + k.val) : downAt m c t (ix3 0 k d) = downIn m c (ix3 e H d) := by
  obtain ⟨-, -, -, -, -, -, e0, e1, e2⟩ := block_index t
  refine congrArg (downIn m c) (funext fun a => Fin.ext ?_)
  match a with
  | ⟨0, _⟩ => show win0_2.index t (0 : Fin 3) * 1 + 1 * 0 = e.val; omega
  | ⟨1, _⟩ => show win0_2.index t (1 : Fin 3) * 512 + 1 * k.val = H.val; omega
  | ⟨2, _⟩ => show win0_2.index t (2 : Fin 3) * 2048 + 1 * d.val = d.val; omega

/-! ## The sum over the hidden units -/

/-- What hidden unit `h` adds to element `(e, R, d)` of the result: its value at row `R` cut at zero, times its weight. -/
def unit (e : Fin 4) (R : Fin 1280) (d : Fin 2048) (h : Fin 4096) : EReal :=
  max (∑ j : Fin 2048, rowsIn m c (ix3 e R j) * upIn m c (ix3 e j h)) 0 * downIn m c (ix3 e h d)

/-- The 512 hidden units of tile `s`, added. -/
def unitsOf (e : Fin 4) (R : Fin 1280) (d : Fin 2048) (s : ℕ) : EReal :=
  ∑ k : Fin 512, unit m c e R d ⟨(s * 512 + k.val) % 4096, Nat.mod_lt _ (by decide)⟩

/-- What grid point `t` adds at row `r`, column `d` of its block. -/
theorem tile_at (t : Fin cfg0.N) (r : Fin 640) (d : Fin 2048) (e : Fin 4) (he : e.val = t.val / 16)
    (R : Fin 1280) (hR : R.val = 640 * (t.val / 8 % 2) + r.val) :
    tile (rowsAt m c t) (upAt m c t) (downAt m c t) (ix2 r d) = unitsOf m c e R d (t.val % 8) := by
  rw [tile_apply]
  refine Finset.sum_congr rfl fun k _ => ?_
  have hH : (t.val % 8 * 512 + k.val) % 4096 = t.val % 8 * 512 + k.val := Nat.mod_eq_of_lt (by omega)
  show max (∑ j : Fin 2048, rowsAt m c t (ix3 0 r j) * upAt m c t (ix3 0 j k)) 0 * downAt m c t (ix3 0 k d) = unit m c e R d _
  unfold unit
  rw [downAt_apply m c t k d e he ⟨_, Nat.mod_lt _ (by decide)⟩ hH]
  refine congrArg (fun z => max z 0 * _) (Finset.sum_congr rfl fun j _ => ?_)
  rw [rowsAt_apply m c t r j e he R hR, upAt_apply m c t j k e he ⟨_, Nat.mod_lt _ (by decide)⟩ hH]

/-- Before the last hidden tile, the accumulator after tile `f` of block `b` holds the units of the tiles `0 … f`. -/
theorem acc_at (b : ℕ) (hb : b < 8) (r : Fin 640) (d : Fin 2048) (e : Fin 4) (he : e.val = b / 2)
    (R : Fin 1280) (hR : R.val = 640 * (b % 2) + r.val) : ∀ (f : ℕ) (hf : f < 7) (hN : 8 * b + f < cfg0.N),
    (outsAt0 m c (8 * b + f) hN).2 (ix2 r d) = ∑ s ∈ Finset.range (f + 1), unitsOf m c e R d s
  | 0, hf, hN => by
    have h := outsAt0_A m c ⟨8 * b + 0, hN⟩ (by dsimp only; omega) (by dsimp only; omega) (by dsimp only; omega)
    have h' := congrArg (fun p => p.2 (ix2 r d)) h
    rw [acc_first] at h'
    refine h'.trans ((tile_at m c ⟨8 * b + 0, hN⟩ r d e (by dsimp only; omega) R (by dsimp only; omega)).trans ?_)
    rw [show (8 * b + 0) % 8 = 0 by omega, Finset.sum_range_one]
  | f + 1, hf, hN => by
    have ih := acc_at b hb r d e he R hR f (by omega) (by omega)
    have h := outsAt0_B m c ⟨8 * b + (f + 1), hN⟩ (by dsimp only; omega) (by dsimp only; omega) (by dsimp only; omega)
    have h' := congrArg (fun p => p.2 (ix2 r d)) h
    rw [acc_mid] at h'
    refine h'.trans ?_
    rw [Finset.sum_range_succ]
    refine congr (congrArg HAdd.hAdd ih) ((tile_at m c ⟨8 * b + (f + 1), hN⟩ r d e (by dsimp only; omega) R (by dsimp only; omega)).trans ?_)
    rw [show (8 * b + (f + 1)) % 8 = f + 1 by omega]

/-- After the last hidden tile of block `b`, the output's block holds the units of all eight tiles. -/
theorem out_at (b : ℕ) (hb : b < 8) (r : Fin 640) (d : Fin 2048) (e : Fin 4) (he : e.val = b / 2)
    (R : Fin 1280) (hR : R.val = 640 * (b % 2) + r.val) (hN : 8 * b + 7 < cfg0.N) :
    (outsAt0 m c (8 * b + 7) hN).1 (ix3 0 r d) = ∑ s ∈ Finset.range 8, unitsOf m c e R d s := by
  have hacc := acc_at m c b hb r d e he R hR 6 (by omega) (by omega)
  have h := outsAt0_C m c ⟨8 * b + 7, hN⟩ (by dsimp only; omega) (by dsimp only; omega) (by dsimp only; omega)
  have h' := congrArg (fun p => p.1 (ix3 0 r d)) h
  rw [out_last] at h'
  refine h'.trans ?_
  dsimp only
  rw [show ∀ v : Vec Ideal S640x2048 .f32, shapeCast S1x640x2048 v shapeCasts_S640x2048_S1x640x2048 (ix3 0 r d) = v (ix2 r d) from
    fun v => by simp only [pointwise], Finset.sum_range_succ]
  refine congr (congrArg HAdd.hAdd hacc) ((tile_at m c ⟨8 * b + 7, hN⟩ r d e (by dsimp only; omega) R (by dsimp only; omega)).trans ?_)
  rw [show (8 * b + 7) % 8 = 7 by omega]

/-- The eight tiles' units are all 4096 hidden units. -/
theorem units_all (e : Fin 4) (R : Fin 1280) (d : Fin 2048) :
    ∑ s ∈ Finset.range 8, unitsOf m c e R d s = ∑ h : Fin 4096, unit m c e R d h := by
  rw [← Fin.sum_univ_eq_sum_range]
  refine Fin.sum_mul_add_congr (fun s k hl => ?_)
  exact congrArg (unit m c e R d) (Fin.ext (Nat.mod_eq_of_lt hl))

/-- The array `_moe` leaves, at an index: the sum over all hidden units. -/
theorem result_at (i : S4x1280x2048.Idx) : G3 m c i = ∑ h : Fin 4096, unit m c (i 0) (i 1) (i 2) h := by
  have h0 : (i 0).val < 4 := (i 0).isLt
  have h1 : (i 1).val < 1280 := (i 1).isLt
  have h2 : (i 2).val < 2048 := (i 2).isLt
  have hb : run3Of i = 2 * (i 0).val + (i 1).val / 640 := by unfold run3Of; omega
  have hN : pt3Of i < cfg0.N := lt_of_lt_of_eq (by unfold pt3Of; omega) N_0.symm
  unfold G3
  rw [dif_pos hN, ← outsAt0_sweep m c (pt3Of i) hN,
    show loc3Of i = ix3 0 ⟨(i 1).val % 640, Nat.mod_lt _ (by decide)⟩ (i 2) from funext fun a => Fin.ext (by
      match a with
      | ⟨0, _⟩ => exact Nat.mod_one _
      | ⟨1, _⟩ => rfl
      | ⟨2, _⟩ => exact Nat.mod_eq_of_lt h2)]
  exact (out_at m c (run3Of i) (by omega) _ (i 2) (i 0) (by omega) (i 1) (by dsimp only; omega) hN).trans
    (units_all m c (i 0) (i 1) (i 2))

end Cert.ExpertsProof

end
-- ==== Proof.ExpertsClaims.lean ====
/-
  The claims about `_moe`: the program and its ideal form end with their arguments unchanged and every counter at zero, so
  does the reference, and on the extended reals the two leave the same array.
-/
module

public import proofs.«01_k».proof.Proof.ExpertsValue
public import proofs.«01_k».proof.Proof.Gen.Experts.Frame
public import proofs.«01_k».proof.Proof.Gen.ExpertsRefIdeal.Run
public import proofs.«01_k».proof.Proof.Gen.ExpertsRefIdeal.Read
public import Idealize.ShloMosaic.Lib.Quiescent

@[expose] public section

set_option maxRecDepth 16384

noncomputable section

namespace Cert.ExpertsProof

open Idealize.ShloMosaic Idealize.ShloMosaic.TcCoe Idealize.SL.Sem

/-- `_moe` ends with its arguments unchanged and every counter at zero. -/
theorem quiescent_words : Cert.quiescent_Experts (hExperts := Cert.Experts.Gen.facts) :=
  fun m ρ _ => Cert.Experts.Gen.frame m ρ

/-- So does its ideal form. -/
theorem quiescent_ideal : Cert.quiescent_ExpertsIdeal (hExpertsIdeal := Cert.ExpertsIdeal.Gen.facts) :=
  fun m ρ _ => Cert.ExpertsIdeal.Gen.frame m ρ

/-- So does the reference. -/
theorem quiescent_ref : Cert.quiescent_ExpertsRefIdeal (hExpertsRefIdeal := Cert.ExpertsRefIdeal.Gen.facts) :=
  fun m ρ _ => (θ_run Cert.ExpertsRefIdeal.defs _ _).mono
    (fun r h => ⟨fun c => (h c).2, sem_eq_zero_of_no_sems (by decide) r.2⟩) (Cert.ExpertsRefIdeal.Value.run (F := Ideal) m ρ)

open Cert.ExpertsRefIdeal.Read in
/-- The reference's array at an index: the sum over all hidden units. -/
theorem reference_at (m : (ℓ : Loc Cert.ExpertsIdeal.nD Cert.ExpertsIdeal.τ Cert.ExpertsIdeal.sig) → Buf (Elt Ideal) ℓ) (c : Dev Cert.ExpertsIdeal.nD)
    (i : Cert.ExpertsRefIdeal.S4x1280x2048.Idx) :
    val_main_v3 (F := Ideal) (rowsIn m c) (upIn m c) (downIn m c) i
      = ∑ h : Fin 4096, unit m c (i 0) (i 1) (i 2) h := by
  unfold val_main_v3 val_main_v2 val_main_v1 val_main_v0 val_main_cst unit
  simp only [pointwise, zero_add]

/-- From the same arguments the kernel and the reference leave the same array. -/
theorem algebraic : Cert.algebraic_ExpertsIdeal_ExpertsRefIdeal
    (hExpertsIdeal := Cert.ExpertsIdeal.Gen.facts) (hExpertsRefIdeal := Cert.ExpertsRefIdeal.Gen.facts) := by
  intro m ρ m' ρ' _ hb
  refine ⟨fun c => Cert.ExpertsIdeal.Value.G3 m c, Cert.ExpertsIdeal.Value.run (F := Ideal) m ρ, ?_⟩
  refine (θ_run Cert.ExpertsRefIdeal.defs _ _).mono (fun r h c => ⟨?_, (h c).2⟩) (Cert.ExpertsRefIdeal.Value.run (F := Ideal) m' ρ')
  refine (h c).1.trans ((Cert.ExpertsRefIdeal.Read.val_main_v3_eq _ _ _).trans (funext fun i => ?_))
  rw [(hb c).1, (hb c).2.1, (hb c).2.2]
  exact (reference_at m c i).trans (result_at m c i).symm

end Cert.ExpertsProof

end
-- ==== Proof.Sorted.lean ====
/-
Copies on two semaphores, where which of the two a trip of a loop uses depends on data: the trips are sorted by the
semaphore they use, each semaphore holding one batch, of the trips that use it in their order.

Stated once, for any signature and any number of trips.
-/
module

public import Idealize.ShloMosaic.PureOps
public import Idealize.ShloMosaic.Lib.Batch
public import Idealize.ShloMosaic.Lib.Tactic
public import Mathlib.Data.Nat.Count

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The trips of one side -/

section Trips

variable {n : ℕ} (side : Fin n → Bool)

/-- The trip of this number is on side `b`. -/
def OnSide (b : Bool) (i : ℕ) : Prop := ∃ h : i < n, side ⟨i, h⟩ = b

instance (b : Bool) : DecidablePred (OnSide side b) := fun i => inferInstanceAs (Decidable (∃ h : i < n, side ⟨i, h⟩ = b))

/-- How many of the first `k` trips are on side `b`. -/
abbrev tripsOn (b : Bool) (k : ℕ) : ℕ := Nat.count (OnSide side b) k

/-- Every number below the count is the number of some trip of the side. -/
theorem exists_nthOn (b : Bool) (j : ℕ) : ∀ m, m ≤ n → j < tripsOn side b m → ∃ k : Fin n, side k = b ∧ tripsOn side b k.val = j
  | 0, _, h => absurd h (Nat.not_lt_zero j)
  | m + 1, hm, h => by
    rw [tripsOn, Nat.count_succ] at h
    by_cases hj : j < tripsOn side b m
    · exact exists_nthOn b j m (Nat.le_of_succ_le hm) hj
    · by_cases hs : OnSide side b m
      · rw [if_pos hs] at h
        obtain ⟨h1, h2⟩ := hs
        exact ⟨⟨m, h1⟩, h2, by show Nat.count _ m = j; unfold tripsOn at hj; omega⟩
      · rw [if_neg hs] at h
        exact absurd h hj

/-- The trip that is the `j`-th on side `b`. -/
def nthOn (b : Bool) (j : Fin (tripsOn side b n)) : Fin n := (exists_nthOn side b j.val n (Nat.le_refl n) j.isLt).choose

theorem nthOn_side (b : Bool) (j : Fin (tripsOn side b n)) : side (nthOn side b j) = b :=
  (exists_nthOn side b j.val n (Nat.le_refl n) j.isLt).choose_spec.1

theorem tripsOn_nthOn (b : Bool) (j : Fin (tripsOn side b n)) : tripsOn side b (nthOn side b j).val = j.val :=
  (exists_nthOn side b j.val n (Nat.le_refl n) j.isLt).choose_spec.2

theorem onSide_self {b : Bool} {k : Fin n} (h : side k = b) : OnSide side b k.val := ⟨k.isLt, h⟩

theorem tripsOn_succ {b : Bool} {k : Fin n} (h : side k = b) : tripsOn side b (k.val + 1) = tripsOn side b k.val + 1 := by
  rw [tripsOn, Nat.count_succ, if_pos (onSide_self side h)]

theorem tripsOn_other {b : Bool} {k : Fin n} (h : side k ≠ b) : tripsOn side b (k.val + 1) = tripsOn side b k.val := by
  rw [tripsOn, Nat.count_succ, if_neg (fun ⟨_, e⟩ => h e), Nat.add_zero]

theorem tripsOn_lt {b : Bool} {k : Fin n} (h : side k = b) : tripsOn side b k.val < tripsOn side b n := by
  have h1 := tripsOn_succ side h
  have h2 : tripsOn side b (k.val + 1) ≤ tripsOn side b n := Nat.count_monotone _ k.isLt
  omega

theorem nthOn_tripsOn {b : Bool} {k : Fin n} (h : side k = b) : nthOn side b ⟨tripsOn side b k.val, tripsOn_lt side h⟩ = k :=
  Fin.ext (Nat.count_injective (onSide_self side (nthOn_side side b _)) (onSide_self side h) (tripsOn_nthOn side b _))

theorem nthOn_injective (b : Bool) : Function.Injective (nthOn side b) := fun j j' h =>
  Fin.ext (by rw [← tripsOn_nthOn side b j, ← tripsOn_nthOn side b j', h])

theorem nthOn_image (b : Bool) : Finset.univ.image (nthOn side b) = Finset.univ.filter fun k => side k = b := by
  ext k
  rw [Finset.mem_image, Finset.mem_filter]
  constructor
  · rintro ⟨j, -, rfl⟩; exact ⟨Finset.mem_univ _, nthOn_side side b j⟩
  · rintro ⟨-, h⟩; exact ⟨_, Finset.mem_univ _, nthOn_tripsOn side h⟩

/-- A family over the trips of one side, counted along that side. -/
theorem bigSep_nthOn {M : Type} [URA M] (b : Bool) (D : Fin n → sProp M) :
    bigSep Finset.univ (fun j => D (nthOn side b j)) = bigSep (Finset.univ.filter fun k => side k = b) D := by
  have h : ∀ s : Finset (Fin (tripsOn side b n)), bigSep s (fun j => D (nthOn side b j)) = bigSep (s.image (nthOn side b)) D := by
    intro s
    induction s using Finset.induction_on with
    | empty => rw [Finset.image_empty, BI.bigSep_empty, BI.bigSep_empty]
    | insert a t ha ih =>
      have ha' : nthOn side b a ∉ t.image (nthOn side b) := fun hm => by
        obtain ⟨a', hm', e⟩ := Finset.mem_image.mp hm
        exact ha (nthOn_injective side b e ▸ hm')
      rw [Finset.image_insert, BI.bigSep_insert ha, BI.bigSep_insert ha', ih]
  rw [h, nthOn_image]

/-- The two sides together are all the trips. -/
theorem bigSep_sides {M : Type} [URA M] (D : Fin n → sProp M) :
    bigSep Finset.univ D = iprop(bigSep Finset.univ (fun j => D (nthOn side true j)) ∗ bigSep Finset.univ (fun j => D (nthOn side false j))) := by
  rw [bigSep_nthOn, bigSep_nthOn, BI.bigSep_filter_split Finset.univ fun k => side k = true]
  simp only [Bool.not_eq_true]
  rfl

end Trips

/-! ## The batch of one side -/

section Side

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

variable (c : Dev nD) {n : ℕ} (side : Fin n → Bool) (b : Bool) (g : DmaSem sig) (N : ℕ) (D : Fin n → sProp (MT nD τ sig Unit (Elt F) ℕ U ℕ))

/-- The copies of side `b` on their semaphore, `j` of them started and `u` units consumed; once all units are consumed,
    the semaphore at zero and everything delivered. -/
def flying (j u : ℕ) : sProp (MT nD τ sig Unit (Elt F) ℕ U ℕ) :=
  if u < N * tripsOn side b n then
    Transfers.Batch (countersEmb (U := U)) (c : Thread nD τ) (.dma g) () N (fun i => D (nthOn side b i)) j u
  else iprop(semVal ((c : Thread nD τ), SemLoc.dma g) 0 ∗ bigSep Finset.univ fun i => D (nthOn side b i))

theorem flying_open {j u : ℕ} (h : u < N * tripsOn side b n) : flying c side b g N D j u
    = Transfers.Batch (countersEmb (U := U)) (c : Thread nD τ) (.dma g) () N (fun i => D (nthOn side b i)) j u := if_pos h

theorem flying_done {j u : ℕ} (h : ¬ u < N * tripsOn side b n) : flying c side b g N D j u
    = iprop(semVal ((c : Thread nD τ), SemLoc.dma g) 0 ∗ bigSep Finset.univ fun i => D (nthOn side b i)) := if_neg h

/-- Before any copy. -/
theorem flying_alloc (hN : 0 < N) [∀ k, Storable (upEmb : UEmb _ (MT nD τ sig Unit (Elt F) ℕ U ℕ)) (D k)] :
    (semVal ((c : Thread nD τ), SemLoc.dma g) 0 : sProp (MT nD τ sig Unit (Elt F) ℕ U ℕ))
      ⊢ |={Set.univ}=> flying c side b g N D 0 0 := by
  rcases Nat.eq_zero_or_pos (tripsOn side b n) with h0 | h0
  · rw [flying_done _ _ _ _ _ _ (by rw [h0]; exact Nat.lt_irrefl 0)]
    iintro Hs
    imodintro
    isplitl [Hs]; · iexact Hs
    rw [show (Finset.univ : Finset (Fin (tripsOn side b n))) = ∅ by rw [Finset.univ_eq_empty_iff, h0]; infer_instance, BI.bigSep_empty]
    iempintro
  · rw [flying_open _ _ _ _ _ _ (Nat.mul_pos hN h0)]
    exact Transfers.batch_alloc' (countersEmb (U := U)) (c : Thread nD τ) () N fun i => D (nthOn side b i)

variable {sp sp' : Space} {s : Shape} {e : EltTy} {α : Type} {Q : α → sProp (MT nD τ sig Unit (Elt F) ℕ U ℕ)}

/-- Trip `k`, on side `b`, starts its copy. -/
theorem flying_issue (hN0 : 0 < N) {k : Fin n} (hk : side k = b)
    {src : Memref sig .tc sp s e} {dst : Memref sig .tc sp' s e}
    {hsrc : src.view.WordExact} {hdst : dst.view.WordExact} {hsem : DmaTarget.Typed (nD := nD) (p := (.tc : Proc τ)) sp (SemLoc.dma g) (.here dst)}
    {kk : PUnit → Prog (TpuEff nD τ sig (Elt F) Λ .tc) α} {q : PosShare TreeShare} {fs : Buf (Elt F) (src.view.loc (c : Thread nD τ))}
    {fd : Buf (Elt F) (dst.view.loc (c : Thread nD τ))} (hN : dst.view.dmaCredit = N)
    (hD : iprop((dst.view.loc (c : Thread nD τ) ↦[dst.view.set]{fullShare} (dst.view.write (Elt F) fd (src.view.read (Elt F) fs) Finset.univ))
        ∗ (src.view.loc (c : Thread nD τ) ↦[src.view.set]{q} fs)) ⊢ D k) :
    iprop((src.view.loc (c : Thread nD τ) ↦[src.view.set]{q} fs) ∗ (dst.view.loc (c : Thread nD τ) ↦[dst.view.set]{fullShare} fd)
        ∗ flying c side b g N D (tripsOn side b k.val) 0)
      ⊢ iprop((flying c side b g N D (tripsOn side b (k.val + 1)) 0 -∗ wp frame (wpE defs 𝒱 (c : Thread nD τ) none) Set.univ (kk ⟨⟩) Q)
          -∗ wp frame (wpE defs 𝒱 (c : Thread nD τ) none) Set.univ (.op (.enqueueDma src (.here dst) (.dma g) hsrc hdst hsem) kk) Q) := by
  have hlt := tripsOn_lt side hk
  have h0 : 0 < N * tripsOn side b n := Nat.mul_pos hN0 (Nat.lt_of_le_of_lt (Nat.zero_le _) hlt)
  rw [flying_open _ _ _ _ _ _ h0, flying_open _ _ _ _ _ _ h0, tripsOn_succ side hk]
  exact Transfers.wp_dmaBatch (countersEmb (U := U)) 𝒱 (c : Thread nD τ) none
    (src := src) (via := .same) (dst := dst) (sm := .dma g) (Sd := dst.view.set) (fs := fs) (fd := fd) (q := q)
    (D := fun i => D (nthOn side b i)) (j := tripsOn side b k.val) (u := 0)
    () N hN (Finset.Subset.refl _) hlt (Nat.zero_le _) (by rw [nthOn_tripsOn side hk]; exact hD)

/-- Trip `k`, on side `b`, waits for one copy of its side. -/
theorem flying_wait (hN0 : 0 < N) {k : Fin n} (hk : side k = b)
    {vX : Memref sig .tc sp s e} {vC : Memref sig .tc sp' s e} {hsrc : vX.view.WordExact} {hdst : vC.view.WordExact}
    {kk : PUnit → Prog (TpuEff nD τ sig (Elt F) Λ .tc) α} (hN : vC.view.dmaCredit = N) {O : CellTallies nD τ sig Unit} {W : Waits sig Unit} :
    iprop(flying c side b g N D (tripsOn side b n) (tripsOn side b k.val * N) ∗ owes (c : Thread nD τ) O W ∗ MayWait (c : Thread nD τ) (.dma g) () O)
      ⊢ iprop((iprop(flying c side b g N D (tripsOn side b n) (tripsOn side b (k.val + 1) * N) ∗ ∃ W', owes (c : Thread nD τ) O W')
            -∗ wp frame (wpE defs 𝒱 (c : Thread nD τ) none) Set.univ (kk ⟨⟩) Q)
          -∗ wp frame (wpE defs 𝒱 (c : Thread nD τ) none) Set.univ (.op (.waitDma2 g vX vC hsrc hdst) kk) Q) := by
  have hlt := tripsOn_lt side hk
  have hm : tripsOn side b k.val * N + N ≤ N * tripsOn side b n := by
    rw [← Nat.succ_mul, Nat.mul_comm]; exact Nat.mul_le_mul_left N hlt
  rw [flying_open c side b g N D (u := tripsOn side b k.val * N) (by omega), tripsOn_succ side hk,
    show (tripsOn side b k.val + 1) * N = tripsOn side b k.val * N + N from Nat.succ_mul _ _]
  iintro ⟨HB, HO, HM⟩ Hk
  by_cases h1 : tripsOn side b k.val * N + N < N * tripsOn side b n
  · rw [flying_open _ _ _ _ _ _ h1]
    iapply (Transfers.wp_waitBatchO (countersEmb (U := U)) 𝒱 (c : Thread nD τ) none () hN h1) $$ [HB HO HM]
    · isplitl [HB]; · iexact HB
      isplitl [HO]; · iexact HO
      iexact HM
    iintro ⟨HB, HO⟩
    iapply Hk
    isplitl [HB]; · iexact HB
    iexists _; iexact HO
  · rw [flying_done _ _ _ _ _ _ h1]
    iapply (Transfers.wp_waitBatchLastO (countersEmb (U := U)) 𝒱 (c : Thread nD τ) none () hN hN0 (D := fun i => D (nthOn side b i))
      (show tripsOn side b k.val * N + N = N * tripsOn side b n by omega)) $$ [HB HO HM]
    · isplitl [HB]; · iexact HB
      isplitl [HO]; · iexact HO
      iexact HM
    iintro ⟨HD, Hv, HO⟩
    iapply Hk
    isplitl [Hv HD]
    · isplitl [Hv]; · iexact Hv
      iexact HD
    iexists _; iexact HO

/-- After every wait of both sides: the two semaphores at zero and every trip's delivery. -/
theorem flying_end (g' : DmaSem sig) :
    iprop(flying c side true g N D (tripsOn side true n) (tripsOn side true n * N) ∗ flying c side false g' N D (tripsOn side false n) (tripsOn side false n * N))
      ⊢ iprop(semVal ((c : Thread nD τ), SemLoc.dma g) 0 ∗ semVal ((c : Thread nD τ), SemLoc.dma g') 0 ∗ bigSep Finset.univ D) := by
  rw [flying_done _ _ _ _ _ _ (by rw [Nat.mul_comm]; exact Nat.lt_irrefl _), flying_done _ _ _ _ _ _ (by rw [Nat.mul_comm]; exact Nat.lt_irrefl _),
    bigSep_sides side D]
  iintro ⟨⟨Hs, HD⟩, Hs', HD'⟩
  isplitl [Hs]; · iexact Hs
  isplitl [Hs']; · iexact Hs'
  isplitl [HD]; · iexact HD
  iexact HD'

end Side

end Cert.GatherProof
-- ==== Proof.TwoSources.lean ====
/-
A gather of single rows out of two source arrays, as two counted loops: a trip of the first starts one copy, out of the
array its index word chooses, on that array's semaphore; a trip of the second reads the word again and waits once on
the semaphore the word chooses. Together they fill the destination rows and give back everything they borrowed.

Stated once, for any signature and any number of trips.
-/
module

public import proofs.«01_k».proof.Proof.Gather
public import proofs.«01_k».proof.Proof.Sorted

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Tokens

variable {nD : Nat} {τ : Topo} {sig : RefSig} {F : FTy → Type} {U : Type} [URA U]

local notation "𝕄" => MT nD τ sig Unit (Elt F) ℕ U ℕ

/-- A buffer under a share is what remains after one read token a trip and, for each trip, the token's part on the
    trip's set and its part off it. -/
theorem toks_on {ℓ : Loc nD τ sig} (S : Finset (Idx ℓ)) {n : ℕ} (P : Fin n → Finset (Idx ℓ)) (hP : ∀ k, P k ⊆ S) (q : PosShare TreeShare) (f : Buf (Elt F) ℓ) :
    (ℓ ↦[S]{q} f : sProp 𝕄)
      ⊣⊢ iprop(((ℓ ↦[S]{Transfers.shareDrop q n} f) ∗ bigSep Finset.univ fun k => ℓ ↦[S \ P k]{Transfers.shareTokN q k.val} f)
        ∗ bigSep Finset.univ fun k => ℓ ↦[P k]{Transfers.shareTokN q k.val} f) := by
  have h : (bigSep Finset.univ fun k : Fin n => iprop((ℓ ↦[P k]{Transfers.shareTokN q k.val} f : sProp 𝕄) ∗ ℓ ↦[S \ P k]{Transfers.shareTokN q k.val} f))
      = bigSep Finset.univ fun k : Fin n => (ℓ ↦[S]{Transfers.shareTok q n k} f : sProp 𝕄) :=
    bigSep_congr fun k _ => (Entails.antisymm (pointsTo_split_subset (hP k)).1 (pointsTo_split_subset (hP k)).2).symm
  rw [bigSep_sep'] at h
  have ht := Transfers.pointsTo_toks (nD := nD) (τ := τ) (sig := sig) (Ix := Unit) (Val := Elt F) (Name := ℕ) (U := U) (Lvl := ℕ) (ℓ := ℓ) (S := S) (f := f) q n
  rw [← h] at ht
  constructor
  · refine ht.1.trans ?_
    iintro ⟨H, HP, HS⟩
    isplitl [H HS]
    · isplitl [H]; · iexact H
      iexact HS
    iexact HP
  · refine BIBase.Entails.trans ?_ ht.2
    iintro ⟨⟨H, HS⟩, HP⟩
    isplitl [H]; · iexact H
    isplitl [HP]; · iexact HP
    iexact HS

end Tokens

section Two

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

section Trip

variable (c : Dev nD)
variable {sI : Shape} {dC dX dY : Fin 2 → ℕ}
variable (iM : Memref sig .tc .smem sI .i32) (cM : Memref sig .tc .vmem ⟨2, dC⟩ .f32)
variable (xM : Memref sig .tc .hbm ⟨2, dX⟩ .f32) (yM : Memref sig .tc .hbm ⟨2, dY⟩ .f32) (gx gy : DmaSem sig)
variable {n : ℕ} {sz : Fin 2 → ℕ}
variable (rI : Fin n → Rect sI) (hI : ∀ k, (rI k).shape.numel = 1)
variable (oC : Fin n → Fin 2 → ℕ) (hC : ∀ k a, oC k a + sz a ≤ dC a)
variable (chk : Elt F .i32 → Prop) (dec : ∀ v, Decidable (chk v)) (cx cy : Elt F .i32 → BitVec 1)
variable (oX : Elt F .i32 → Fin 2 → ℕ) (hX : ∀ v, chk v → cx v = 1#1 → ∀ a, oX v a + sz a ≤ dX a)
variable (oY : Elt F .i32 → Fin 2 → ℕ) (hY : ∀ v, chk v → cy v = 1#1 → ∀ a, oY v a + sz a ≤ dY a)

/-- One trip of the loop that starts the copies. -/
abbrev startBody (k : Fin n) : Prog (TpuEff nD τ sig (Elt F) Λ .tc) Unit := do
  let v ← smemLoad iM (rI k) (hI k) rfl
  have hw : chk v := (← Prog.lift (TpuEff.assume (chk v) (dec v))).down
  if h : cx v = 1#1 then do
    Prog.lift (.enqueueDma (xM.slice (Rect.unit (s := ⟨2, dX⟩) (oX v) sz (hX v hw h)) (fun _ => rfl)) (.here (dstRow cM oC hC k)) (.dma gx) (View.wordExact_bits rfl) (View.wordExact_bits rfl) ⟨Or.inl rfl, trivial⟩)
    pure ⟨⟩
  else do
    pure ⟨⟩
  if h : cy v = 1#1 then do
    Prog.lift (.enqueueDma (yM.slice (Rect.unit (s := ⟨2, dY⟩) (oY v) sz (hY v hw h)) (fun _ => rfl)) (.here (dstRow cM oC hC k)) (.dma gy) (View.wordExact_bits rfl) (View.wordExact_bits rfl) ⟨Or.inl rfl, trivial⟩)
    pure ⟨⟩
  else do
    pure ⟨⟩
  pure ⟨⟩

/-- One trip of the loop that waits, on any views of one row. -/
abbrev awaitBody (vC : Memref sig .tc .vmem ⟨2, sz⟩ .f32) (vX vY : Memref sig .tc .hbm ⟨2, sz⟩ .f32) (k : Fin n) : Prog (TpuEff nD τ sig (Elt F) Λ .tc) Unit := do
  let v ← smemLoad iM (rI k) (hI k) rfl
  if cx v = 1#1 then do
    Prog.lift (.waitDma2 gx vX vC (View.wordExact_bits rfl) (View.wordExact_bits rfl))
    pure ⟨⟩
  else do
    pure ⟨⟩
  if cy v = 1#1 then do
    Prog.lift (.waitDma2 gy vY vC (View.wordExact_bits rfl) (View.wordExact_bits rfl))
    pure ⟨⟩
  else do
    pure ⟨⟩
  pure ⟨⟩

variable (fI : Buf (Elt F) (iM.view.loc (c : Thread nD τ))) (hchk : ∀ k, chk (word c iM rI hI fI k))

/-- Whether a trip copies out of the first array. -/
def fromX (k : Fin n) : Bool := decide (cx (word c iM rI hI fI k) = 1#1)

/-- The places a trip's copy reads of the first array: none, when it reads the second. -/
def partX (k : Fin n) : Finset (Idx (xM.view.loc (c : Thread nD τ))) :=
  if h : cx (word c iM rI hI fI k) = 1#1 then
    (xM.slice (Rect.unit (s := ⟨2, dX⟩) (oX (word c iM rI hI fI k)) sz (hX _ (hchk k) h)) (fun _ => rfl)).view.set
  else ∅

/-- The places a trip's copy reads of the second array. -/
def partY (k : Fin n) : Finset (Idx (yM.view.loc (c : Thread nD τ))) :=
  if h : cy (word c iM rI hI fI k) = 1#1 then
    (yM.slice (Rect.unit (s := ⟨2, dY⟩) (oY (word c iM rI hI fI k)) sz (hY _ (hchk k) h)) (fun _ => rfl)).view.set
  else ∅

theorem partX_subset (k : Fin n) : partX c iM xM rI hI chk cx oX hX fI hchk k ⊆ xM.view.set := by
  unfold partX
  split
  · exact View.set_slice_subset _ _
  · exact Finset.empty_subset _

theorem partY_subset (k : Fin n) : partY c iM yM rI hI chk cy oY hY fI hchk k ⊆ yM.view.set := by
  unfold partY
  split
  · exact View.set_slice_subset _ _
  · exact Finset.empty_subset _

variable (fX : Buf (Elt F) (xM.view.loc (c : Thread nD τ))) (fY : Buf (Elt F) (yM.view.loc (c : Thread nD τ))) (qx qy : PosShare TreeShare)

/-- What a trip's copy borrows of the two arrays, under the trip's own read tokens. -/
abbrev loan (k : Fin n) : sProp 𝕄 :=
  iprop((xM.view.loc (c : Thread nD τ) ↦[partX c iM xM rI hI chk cx oX hX fI hchk k]{Transfers.shareTokN qx k.val} fX)
    ∗ (yM.view.loc (c : Thread nD τ) ↦[partY c iM yM rI hI chk cy oY hY fI hchk k]{Transfers.shareTokN qy k.val} fY))

variable (G : Buf (Elt F) (cM.view.loc (c : Thread nD τ)))

/-- A trip's destination row, at contents `f`, with what the trip borrows: handed to its copy, and by it handed over. -/
abbrev parcel (f : Buf (Elt F) (cM.view.loc (c : Thread nD τ))) (k : Fin n) : sProp 𝕄 :=
  iprop(rowAt (U := U) c cM oC hC f k ∗ loan (U := U) c iM xM yM rI hI chk cx cy oX hX oY hY fI hchk fX fY qx qy k)

/-- The batches of the two semaphores: of each side `j` copies started and `u` units consumed. -/
abbrev both (N : ℕ) (j u : Bool → ℕ) : sProp 𝕄 :=
  iprop(flying (U := U) c (fromX c iM rI hI cx fI) true gx N (parcel (U := U) c iM cM xM yM rI hI oC hC chk cx cy oX hX oY hY fI hchk fX fY qx qy G) (j true) (u true)
    ∗ flying (U := U) c (fromX c iM rI hI cx fI) false gy N (parcel (U := U) c iM cM xM yM rI hI oC hC chk cx cy oX hX oY hY fI hchk fX fY qx qy G) (j false) (u false))

/-- Before trip `k` of the loop that starts the copies. -/
def startAt (N : ℕ) (f₀ : Buf (Elt F) (cM.view.loc (c : Thread nD τ))) (k : ℕ) (_ : Unit) : sProp 𝕄 :=
  iprop((iM.view.loc (c : Thread nD τ) ↦[iM.view.set]{fullShare} fI)
    ∗ both (U := U) c iM cM xM yM gx gy rI hI oC hC chk cx cy oX hX oY hY fI hchk fX fY qx qy G N (fun b => tripsOn (fromX c iM rI hI cx fI) b k) (fun _ => 0)
    ∗ bigSep (Ring.rangeSet n k n) (parcel (U := U) c iM cM xM yM rI hI oC hC chk cx cy oX hX oY hY fI hchk fX fY qx qy f₀))

variable (hxy : ∀ k, cy (word c iM rI hI fI k) = 1#1 ↔ ¬ cx (word c iM rI hI fI k) = 1#1)

include hxy in
theorem start_step (N : ℕ) (hN0 : 0 < N) (hN : ∀ k, credit cM oC hC k = N) (f₀ : Buf (Elt F) (cM.view.loc (c : Thread nD τ)))
    (hrowX : ∀ k h, (dstRow cM oC hC k).view.read (Elt F) G
      = (xM.slice (Rect.unit (s := ⟨2, dX⟩) (oX (word c iM rI hI fI k)) sz (hX _ (hchk k) h)) (fun _ => rfl)).view.read (Elt F) fX)
    (hrowY : ∀ k h, (dstRow cM oC hC k).view.read (Elt F) G
      = (yM.slice (Rect.unit (s := ⟨2, dY⟩) (oY (word c iM rI hI fI k)) sz (hY _ (hchk k) h)) (fun _ => rfl)).view.read (Elt F) fY)
    (k : Fin n) (acc : Unit) :
    startAt (U := U) c iM cM xM yM gx gy rI hI oC hC chk cx cy oX hX oY hY fI hchk fX fY qx qy G N f₀ k.val acc
      ⊢ wp frame (wpE defs 𝒱 (c : Thread nD τ) none) Set.univ (startBody iM cM xM yM gx gy rI hI oC hC chk dec cx cy oX hX oY hY k)
        (startAt (U := U) c iM cM xM yM gx gy rI hI oC hC chk cx cy oX hX oY hY fI hchk fX fY qx qy G N f₀ (k.val + 1)) := by
  unfold startAt
  rw [Ring.bigSep_rangeSet_head (Φ := parcel (U := U) c iM cM xM yM rI hI oC hC chk cx cy oX hX oY hY fI hchk fX fY qx qy f₀) k.isLt k.isLt]
  iintro ⟨HI, ⟨HBx, HBy⟩, ⟨HR, HX, HY⟩, HPs⟩
  simp only [startBody, smemLoad, smemLoadElt, Prog.lift, Prog.bind_op, Prog.bind_ret, Prog.pure_eq_ret]
  iapply (wp_load_rect 𝒱 (c : Thread nD τ) none Set.univ (m := iM) (r := rI k) (S := iM.view.set) (q := fullShare) (f := fI)
    (View.set_slice_subset _ _)) $$ HI
  iintro HI
  iapply (wp_assume 𝒱 (c : Thread nD τ) none Set.univ (hchk k))
  by_cases h : cx (word c iM rI hI fI k) = 1#1
  · have hy : ¬ cy (word c iM rI hI fI k) = 1#1 := fun e => (hxy k).mp e h
    have hs : fromX c iM rI hI cx fI k = true := decide_eq_true h
    have ey : partY c iM yM rI hI chk cy oY hY fI hchk k = ∅ := dif_neg hy
    have ex : partX c iM xM rI hI chk cx oX hX fI hchk k
      = (xM.slice (Rect.unit (s := ⟨2, dX⟩) (oX (word c iM rI hI fI k)) sz (hX _ (hchk k) h)) (fun _ => rfl)).view.set := dif_pos h
    have hD : iprop((cM.view.loc (c : Thread nD τ) ↦[(dstRow cM oC hC k).view.set]{fullShare}
          ((dstRow cM oC hC k).view.write (Elt F) f₀
            ((xM.slice (Rect.unit (s := ⟨2, dX⟩) (oX (word c iM rI hI fI k)) sz (hX _ (hchk k) h)) (fun _ => rfl)).view.read (Elt F) fX) Finset.univ))
        ∗ (xM.view.loc (c : Thread nD τ) ↦[partX c iM xM rI hI chk cx oX hX fI hchk k]{Transfers.shareTokN qx k.val} fX))
        ⊢ parcel (U := U) c iM cM xM yM rI hI oC hC chk cx cy oX hX oY hY fI hchk fX fY qx qy G k := by
      rw [pointsTo_congr (write_eq_on (dstRow cM oC hC k).view f₀ G _ (hrowX k h))]
      unfold parcel loan
      rw [ey, pointsTo_empty]
      iintro ⟨HR, HX⟩
      isplitl [HR]; · iexact HR
      isplitl [HX]; · iexact HX
      iempintro
    rw [ex] at hD ⊢
    rw [dif_pos (show cx ((iM.access (rI k)).read (Elt F) fI (Shape.Idx.first (show 0 < (rI k).shape.numel from (hI k).symm ▸ Nat.one_pos))) = 1#1 from h)]
    iapply (flying_issue (defs := defs) (U := U) 𝒱 c (fromX c iM rI hI cx fI) true gx N
      (parcel (U := U) c iM cM xM yM rI hI oC hC chk cx cy oX hX oY hY fI hchk fX fY qx qy G) hN0 hs
      (src := xM.slice (Rect.unit (s := ⟨2, dX⟩) (oX (word c iM rI hI fI k)) sz (hX _ (hchk k) h)) (fun _ => rfl)) (dst := dstRow cM oC hC k)
      (fs := fX) (fd := f₀) (q := Transfers.shareTokN qx k.val) (hN k) hD) $$ [HX HR HBx]
    · isplitl [HX]; · iexact HX
      isplitl [HR]; · iexact HR
      iexact HBx
    iintro HBx
    rw [dif_neg (show ¬ cy ((iM.access (rI k)).read (Elt F) fI (Shape.Idx.first (show 0 < (rI k).shape.numel from (hI k).symm ▸ Nat.one_pos))) = 1#1 from hy)]
    rw [wp_ret]
    imodintro
    isplitl [HI]; · iexact HI
    isplitl [HBx HBy]
    · rw [← tripsOn_other _ (show fromX c iM rI hI cx fI k ≠ false by rw [hs]; decide)]
      isplitl [HBx]; · iexact HBx
      iexact HBy
    iexact HPs
  · have hy : cy (word c iM rI hI fI k) = 1#1 := (hxy k).mpr h
    have hs : fromX c iM rI hI cx fI k = false := decide_eq_false h
    have ex : partX c iM xM rI hI chk cx oX hX fI hchk k = ∅ := dif_neg h
    have ey : partY c iM yM rI hI chk cy oY hY fI hchk k
      = (yM.slice (Rect.unit (s := ⟨2, dY⟩) (oY (word c iM rI hI fI k)) sz (hY _ (hchk k) hy)) (fun _ => rfl)).view.set := dif_pos hy
    have hD : iprop((cM.view.loc (c : Thread nD τ) ↦[(dstRow cM oC hC k).view.set]{fullShare}
          ((dstRow cM oC hC k).view.write (Elt F) f₀
            ((yM.slice (Rect.unit (s := ⟨2, dY⟩) (oY (word c iM rI hI fI k)) sz (hY _ (hchk k) hy)) (fun _ => rfl)).view.read (Elt F) fY) Finset.univ))
        ∗ (yM.view.loc (c : Thread nD τ) ↦[partY c iM yM rI hI chk cy oY hY fI hchk k]{Transfers.shareTokN qy k.val} fY))
        ⊢ parcel (U := U) c iM cM xM yM rI hI oC hC chk cx cy oX hX oY hY fI hchk fX fY qx qy G k := by
      rw [pointsTo_congr (write_eq_on (dstRow cM oC hC k).view f₀ G _ (hrowY k hy))]
      unfold parcel loan
      rw [ex, pointsTo_empty]
      iintro ⟨HR, HY⟩
      isplitl [HR]; · iexact HR
      isplitr; · iempintro
      iexact HY
    rw [ey] at hD ⊢
    rw [dif_neg (show ¬ cx ((iM.access (rI k)).read (Elt F) fI (Shape.Idx.first (show 0 < (rI k).shape.numel from (hI k).symm ▸ Nat.one_pos))) = 1#1 from h), dif_pos (show cy ((iM.access (rI k)).read (Elt F) fI (Shape.Idx.first (show 0 < (rI k).shape.numel from (hI k).symm ▸ Nat.one_pos))) = 1#1 from hy)]
    iapply (flying_issue (defs := defs) (U := U) 𝒱 c (fromX c iM rI hI cx fI) false gy N
      (parcel (U := U) c iM cM xM yM rI hI oC hC chk cx cy oX hX oY hY fI hchk fX fY qx qy G) hN0 hs
      (src := yM.slice (Rect.unit (s := ⟨2, dY⟩) (oY (word c iM rI hI fI k)) sz (hY _ (hchk k) hy)) (fun _ => rfl)) (dst := dstRow cM oC hC k)
      (fs := fY) (fd := f₀) (q := Transfers.shareTokN qy k.val) (hN k) hD) $$ [HY HR HBy]
    · isplitl [HY]; · iexact HY
      isplitl [HR]; · iexact HR
      iexact HBy
    iintro HBy
    rw [wp_ret]
    imodintro
    isplitl [HI]; · iexact HI
    isplitl [HBx HBy]
    · rw [← tripsOn_other _ (show fromX c iM rI hI cx fI k ≠ true by rw [hs]; decide)]
      isplitl [HBx]; · iexact HBx
      iexact HBy
    iexact HPs

/-- Before trip `k` of the loop that waits. -/
def awaitAt (N : ℕ) (O : CellTallies nD τ sig Unit) (k : ℕ) (_ : Unit) : sProp 𝕄 :=
  iprop((iM.view.loc (c : Thread nD τ) ↦[iM.view.set]{fullShare} fI) ∗ (∃ W, owes (c : Thread nD τ) O W)
    ∗ MayWait (c : Thread nD τ) (.dma gx) () O ∗ MayWait (c : Thread nD τ) (.dma gy) () O
    ∗ both (U := U) c iM cM xM yM gx gy rI hI oC hC chk cx cy oX hX oY hY fI hchk fX fY qx qy G N
        (fun b => tripsOn (fromX c iM rI hI cx fI) b n) (fun b => tripsOn (fromX c iM rI hI cx fI) b k * N))

include hxy in
theorem await_step (N : ℕ) (hN0 : 0 < N) (O : CellTallies nD τ sig Unit)
    (vC : Memref sig .tc .vmem ⟨2, sz⟩ .f32) (vX vY : Memref sig .tc .hbm ⟨2, sz⟩ .f32) (hv : vC.view.dmaCredit = N) (k : Fin n) (acc : Unit) :
    awaitAt (U := U) c iM cM xM yM gx gy rI hI oC hC chk cx cy oX hX oY hY fI hchk fX fY qx qy G N O k.val acc
      ⊢ wp frame (wpE defs 𝒱 (c : Thread nD τ) none) Set.univ (awaitBody iM gx gy rI hI cx cy vC vX vY k)
        (awaitAt (U := U) c iM cM xM yM gx gy rI hI oC hC chk cx cy oX hX oY hY fI hchk fX fY qx qy G N O (k.val + 1)) := by
  unfold awaitAt
  iintro ⟨HI, ⟨%W, HO⟩, #HMx, #HMy, HBx, HBy⟩
  simp only [awaitBody, smemLoad, smemLoadElt, Prog.lift, Prog.bind_op, Prog.bind_ret, Prog.pure_eq_ret]
  iapply (wp_load_rect 𝒱 (c : Thread nD τ) none Set.univ (m := iM) (r := rI k) (S := iM.view.set) (q := fullShare) (f := fI)
    (View.set_slice_subset _ _)) $$ HI
  iintro HI
  by_cases h : cx (word c iM rI hI fI k) = 1#1
  · have hy : ¬ cy (word c iM rI hI fI k) = 1#1 := fun e => (hxy k).mp e h
    have hs : fromX c iM rI hI cx fI k = true := decide_eq_true h
    rw [if_pos (show cx ((iM.access (rI k)).read (Elt F) fI (Shape.Idx.first (show 0 < (rI k).shape.numel from (hI k).symm ▸ Nat.one_pos))) = 1#1 from h)]
    iapply (flying_wait (defs := defs) (U := U) 𝒱 c (fromX c iM rI hI cx fI) true gx N
      (parcel (U := U) c iM cM xM yM rI hI oC hC chk cx cy oX hX oY hY fI hchk fX fY qx qy G) hN0 hs hv) $$ [HBx HO]
    · isplitl [HBx]; · iexact HBx
      isplitl [HO]; · iexact HO
      iexact HMx
    iintro ⟨HBx, HO⟩
    rw [if_neg (show ¬ cy ((iM.access (rI k)).read (Elt F) fI (Shape.Idx.first (show 0 < (rI k).shape.numel from (hI k).symm ▸ Nat.one_pos))) = 1#1 from hy)]
    rw [wp_ret]
    imodintro
    isplitl [HI]; · iexact HI
    isplitl [HO]; · iexact HO
    isplitr; · iexact HMx
    isplitr; · iexact HMy
    rw [← tripsOn_other _ (show fromX c iM rI hI cx fI k ≠ false by rw [hs]; decide)]
    isplitl [HBx]; · iexact HBx
    iexact HBy
  · have hy : cy (word c iM rI hI fI k) = 1#1 := (hxy k).mpr h
    have hs : fromX c iM rI hI cx fI k = false := decide_eq_false h
    rw [if_neg (show ¬ cx ((iM.access (rI k)).read (Elt F) fI (Shape.Idx.first (show 0 < (rI k).shape.numel from (hI k).symm ▸ Nat.one_pos))) = 1#1 from h), if_pos (show cy ((iM.access (rI k)).read (Elt F) fI (Shape.Idx.first (show 0 < (rI k).shape.numel from (hI k).symm ▸ Nat.one_pos))) = 1#1 from hy)]
    iapply (flying_wait (defs := defs) (U := U) 𝒱 c (fromX c iM rI hI cx fI) false gy N
      (parcel (U := U) c iM cM xM yM rI hI oC hC chk cx cy oX hX oY hY fI hchk fX fY qx qy G) hN0 hs hv) $$ [HBy HO]
    · isplitl [HBy]; · iexact HBy
      isplitl [HO]; · iexact HO
      iexact HMy
    iintro ⟨HBy, HO⟩
    rw [wp_ret]
    imodintro
    isplitl [HI]; · iexact HI
    isplitl [HO]; · iexact HO
    isplitr; · iexact HMx
    isplitr; · iexact HMy
    rw [← tripsOn_other _ (show fromX c iM rI hI cx fI k ≠ true by rw [hs]; decide)]
    isplitl [HBx]; · iexact HBx
    iexact HBy

end Trip

section Loops

variable (c : Dev nD)
variable {sI : Shape} {dC dX dY : Fin 2 → ℕ}
variable (iM : Memref sig .tc .smem sI .i32) (cM : Memref sig .tc .vmem ⟨2, dC⟩ .f32)
variable (xM : Memref sig .tc .hbm ⟨2, dX⟩ .f32) (yM : Memref sig .tc .hbm ⟨2, dY⟩ .f32) (gx gy : DmaSem sig)
variable {lp : Scf.Loop 32} (hok : lp.OK) {sz : Fin 2 → ℕ}
variable (rI : Fin lp.trips → Rect sI) (hI : ∀ k, (rI k).shape.numel = 1)
variable (oC : Fin lp.trips → Fin 2 → ℕ) (hC : ∀ k a, oC k a + sz a ≤ dC a)
variable (chk : Elt F .i32 → Prop) (dec : ∀ v, Decidable (chk v)) (cx cy : Elt F .i32 → BitVec 1)
variable (oX : Elt F .i32 → Fin 2 → ℕ) (hX : ∀ v, chk v → cx v = 1#1 → ∀ a, oX v a + sz a ≤ dX a)
variable (oY : Elt F .i32 → Fin 2 → ℕ) (hY : ∀ v, chk v → cy v = 1#1 → ∀ a, oY v a + sz a ≤ dY a)
variable (fI : Buf (Elt F) (iM.view.loc (c : Thread nD τ))) (hchk : ∀ k, chk (word c iM rI hI fI k))
variable (fX : Buf (Elt F) (xM.view.loc (c : Thread nD τ))) (fY : Buf (Elt F) (yM.view.loc (c : Thread nD τ))) (qx qy : PosShare TreeShare)
variable (G : Buf (Elt F) (cM.view.loc (c : Thread nD τ)))
variable (hxy : ∀ k, cy (word c iM rI hI fI k) = 1#1 ↔ ¬ cx (word c iM rI hI fI k) = 1#1)
variable (SC : Finset (Idx (cM.view.loc (c : Thread nD τ))))
  (hdis : ∀ k k' : Fin lp.trips, k ≠ k' → Disjoint (dstRow cM oC hC k).view.set (dstRow cM oC hC k').view.set)
  (hSC : Finset.univ.biUnion (fun k : Fin lp.trips => (dstRow cM oC hC k).view.set) = SC)

include hxy hdis hSC in
/-- The two loops, at the head of a program: the destination rows gathered, everything else as it was. -/
theorem gather_two {β : Type} {kk : Unit → Prog (TpuEff nD τ sig (Elt F) Λ .tc) β} {Q : β → sProp 𝕄}
    (body body' : Fin lp.trips → Unit → Prog (TpuEff nD τ sig (Elt F) Λ .tc) Unit)
    (vC : Memref sig .tc .vmem ⟨2, sz⟩ .f32) (vX vY : Memref sig .tc .hbm ⟨2, sz⟩ .f32)
    (hbody : ∀ k u, body k u = startBody iM cM xM yM gx gy rI hI oC hC chk dec cx cy oX hX oY hY k)
    (hbody' : ∀ k u, body' k u = awaitBody iM gx gy rI hI cx cy vC vX vY k)
    (hN : ∀ k, credit cM oC hC k = vC.view.dmaCredit) (hN0 : 0 < vC.view.dmaCredit) (f₀ : Buf (Elt F) (cM.view.loc (c : Thread nD τ)))
    (hrowX : ∀ k h, (dstRow cM oC hC k).view.read (Elt F) G
      = (xM.slice (Rect.unit (s := ⟨2, dX⟩) (oX (word c iM rI hI fI k)) sz (hX _ (hchk k) h)) (fun _ => rfl)).view.read (Elt F) fX)
    (hrowY : ∀ k h, (dstRow cM oC hC k).view.read (Elt F) G
      = (yM.slice (Rect.unit (s := ⟨2, dY⟩) (oY (word c iM rI hI fI k)) sz (hY _ (hchk k) h)) (fun _ => rfl)).view.read (Elt F) fY)
    (O : CellTallies nD τ sig Unit) (W : Waits sig Unit) :
    iprop((iM.view.loc (c : Thread nD τ) ↦[iM.view.set]{fullShare} fI)
      ∗ (semVal ((c : Thread nD τ), SemLoc.dma gx) 0 ∗ semVal ((c : Thread nD τ), SemLoc.dma gy) 0)
      ∗ (cM.view.loc (c : Thread nD τ) ↦[SC]{fullShare} f₀)
      ∗ ((xM.view.loc (c : Thread nD τ) ↦[xM.view.set]{qx} fX) ∗ (yM.view.loc (c : Thread nD τ) ↦[yM.view.set]{qy} fY))
      ∗ owes (c : Thread nD τ) O W ∗ MayWait (c : Thread nD τ) (.dma gx) () O ∗ MayWait (c : Thread nD τ) (.dma gy) () O)
    ⊢ iprop((iprop((iM.view.loc (c : Thread nD τ) ↦[iM.view.set]{fullShare} fI)
          ∗ (semVal ((c : Thread nD τ), SemLoc.dma gx) 0 ∗ semVal ((c : Thread nD τ), SemLoc.dma gy) 0)
          ∗ (cM.view.loc (c : Thread nD τ) ↦[SC]{fullShare} G)
          ∗ ((xM.view.loc (c : Thread nD τ) ↦[xM.view.set]{qx} fX) ∗ (yM.view.loc (c : Thread nD τ) ↦[yM.view.set]{qy} fY))
          ∗ ∃ W', owes (c : Thread nD τ) O W')
        -∗ wp frame (wpE defs 𝒱 (c : Thread nD τ) none) Set.univ (kk ⟨⟩) Q)
      -∗ wp frame (wpE defs 𝒱 (c : Thread nD τ) none) Set.univ
          (Scf.Loop.for lp hok ⟨⟩ body >>= fun _ => Scf.Loop.for lp hok ⟨⟩ body' >>= kk) Q) := by
  have hstep : ∀ (k : Fin lp.trips) (acc : Unit), startAt (U := U) c iM cM xM yM gx gy rI hI oC hC chk cx cy oX hX oY hY fI hchk fX fY qx qy G vC.view.dmaCredit f₀ k.val acc
      ⊢ wp frame (wpE defs 𝒱 (c : Thread nD τ) none) Set.univ (body k acc)
        (startAt (U := U) c iM cM xM yM gx gy rI hI oC hC chk cx cy oX hX oY hY fI hchk fX fY qx qy G vC.view.dmaCredit f₀ (k.val + 1)) := fun k acc => by
    rw [hbody]
    exact start_step 𝒱 c iM cM xM yM gx gy rI hI oC hC chk dec cx cy oX hX oY hY fI hchk fX fY qx qy G hxy _ hN0 hN f₀ hrowX hrowY k acc
  have hstep' : ∀ (k : Fin lp.trips) (acc : Unit), awaitAt (U := U) c iM cM xM yM gx gy rI hI oC hC chk cx cy oX hX oY hY fI hchk fX fY qx qy G vC.view.dmaCredit O k.val acc
      ⊢ wp frame (wpE defs 𝒱 (c : Thread nD τ) none) Set.univ (body' k acc)
        (awaitAt (U := U) c iM cM xM yM gx gy rI hI oC hC chk cx cy oX hX oY hY fI hchk fX fY qx qy G vC.view.dmaCredit O (k.val + 1)) := fun k acc => by
    rw [hbody']
    exact await_step 𝒱 c iM cM xM yM gx gy rI hI oC hC chk cx cy oX hX oY hY fI hchk fX fY qx qy G hxy _ hN0 O vC vX vY rfl k acc
  rw [Ring.pointsTo_sub_blocks (fun k : Fin lp.trips => (dstRow cM oC hC k).view.set) hdis SC hSC f₀,
    Ring.pointsTo_sub_blocks (fun k : Fin lp.trips => (dstRow cM oC hC k).view.set) hdis SC hSC G]
  have tx := toks_on (U := U) xM.view.set (partX c iM xM rI hI chk cx oX hX fI hchk) (partX_subset c iM xM rI hI chk cx oX hX fI hchk) qx fX
  have ty := toks_on (U := U) yM.view.set (partY c iM yM rI hI chk cy oY hY fI hchk) (partY_subset c iM yM rI hI chk cy oY hY fI hchk) qy fY
  have hD : bigSep Finset.univ (parcel (U := U) c iM cM xM yM rI hI oC hC chk cx cy oX hX oY hY fI hchk fX fY qx qy G)
      ⊢ iprop(bigSep Finset.univ (rowAt (U := U) c cM oC hC G)
        ∗ bigSep Finset.univ (fun k : Fin lp.trips => (xM.view.loc (c : Thread nD τ) ↦[partX c iM xM rI hI chk cx oX hX fI hchk k]{Transfers.shareTokN qx k.val} fX : sProp 𝕄))
        ∗ bigSep Finset.univ (fun k : Fin lp.trips => (yM.view.loc (c : Thread nD τ) ↦[partY c iM yM rI hI chk cy oY hY fI hchk k]{Transfers.shareTokN qy k.val} fY : sProp 𝕄))) := by
    unfold parcel loan
    rw [bigSep_sep', bigSep_sep']
  iintro ⟨HI, ⟨Hsx, Hsy⟩, HC, ⟨HX, HY⟩, HO, #HMx, #HMy⟩ Hk
  ihave HX := tx.1 $$ HX
  icases HX with ⟨HXr, HX⟩
  ihave HY := ty.1 $$ HY
  icases HY with ⟨HYr, HY⟩
  imod (flying_alloc (U := U) c (fromX c iM rI hI cx fI) true gx vC.view.dmaCredit
    (parcel (U := U) c iM cM xM yM rI hI oC hC chk cx cy oX hX oY hY fI hchk fX fY qx qy G) hN0) $$ Hsx with HBx
  imod (flying_alloc (U := U) c (fromX c iM rI hI cx fI) false gy vC.view.dmaCredit
    (parcel (U := U) c iM cM xM yM rI hI oC hC chk cx cy oX hX oY hY fI hchk fX fY qx qy G) hN0) $$ Hsy with HBy
  iapply (Scf.wp_for_bind frame (wpE defs 𝒱 (c : Thread nD τ) none) Set.univ lp.lb lp.ub lp.st hok ⟨⟩ body
    (startAt (U := U) c iM cM xM yM gx gy rI hI oC hC chk cx cy oX hX oY hY fI hchk fX fY qx qy G vC.view.dmaCredit f₀)
    hstep) $$ [HI HBx HBy HC HX HY]
  · unfold startAt parcel loan
    rw [Ring.rangeSet_univ, bigSep_sep', bigSep_sep']
    simp only [tripsOn, Nat.count_zero]
    isplitl [HI]; · iexact HI
    isplitl [HBx HBy]
    · isplitl [HBx]; · iexact HBx
      iexact HBy
    isplitl [HC]; · iexact HC
    isplitl [HX]; · iexact HX
    iexact HY
  iintro %acc HA
  unfold startAt
  icases HA with ⟨HI, ⟨HBx, HBy⟩, -⟩
  iapply (Scf.wp_for_bind frame (wpE defs 𝒱 (c : Thread nD τ) none) Set.univ lp.lb lp.ub lp.st hok ⟨⟩ body'
    (awaitAt (U := U) c iM cM xM yM gx gy rI hI oC hC chk cx cy oX hX oY hY fI hchk fX fY qx qy G vC.view.dmaCredit O)
    hstep') $$ [HI HBx HBy HO]
  · unfold awaitAt
    simp only [tripsOn, Nat.count_zero, Nat.zero_mul]
    isplitl [HI]; · iexact HI
    isplitl [HO]; · iexists _; iexact HO
    isplitr; · iexact HMx
    isplitr; · iexact HMy
    isplitl [HBx]; · iexact HBx
    iexact HBy
  iintro %acc' HA
  unfold awaitAt
  icases HA with ⟨HI, HO, -, -, HB⟩
  ihave HB := (flying_end (U := U) c (fromX c iM rI hI cx fI) gx vC.view.dmaCredit
    (parcel (U := U) c iM cM xM yM rI hI oC hC chk cx cy oX hX oY hY fI hchk fX fY qx qy G) gy) $$ HB
  icases HB with ⟨Hsx, Hsy, HD⟩
  ihave HD := hD $$ HD
  icases HD with ⟨HC, HX, HY⟩
  iapply Hk
  isplitl [HI]; · iexact HI
  isplitl [Hsx Hsy]
  · isplitl [Hsx]; · iexact Hsx
    iexact Hsy
  isplitl [HC]; · iexact HC
  isplitl [HX HXr HY HYr]
  · isplitl [HX HXr]
    · iapply tx.2
      isplitl [HXr]; · iexact HXr
      iexact HX
    · iapply ty.2
      isplitl [HYr]; · iexact HYr
      iexact HY
  iexact HO

end Loops

end Two

end Cert.GatherProof
-- ==== Proof.TwoRows.lean ====
/-
Which rows the two loops of a gather out of two arrays leave in the destination: the index word counts through the
first array's rows and on through the second's, a word past both being clipped to the last row.

Stated for any signature and any extents: `R` index words, of which the loops read `T` from word `a` on; `X` and `Y`
rows in the two sources; rows of `D` numbers.
-/
module

public import proofs.«01_k».proof.Proof.Chunk
public import proofs.«01_k».proof.Proof.TwoSources

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Spec

variable {X Y D : ℕ} {α : Type}

/-- The number at column `j` of the row that word `v` names in the first array followed by the second. -/
def rowOfTwo (hY : 0 < Y) (x : (⟨2, ![X, D]⟩ : Shape).Idx → α) (y : (⟨2, ![Y, D]⟩ : Shape).Idx → α) (v : BitVec 32) (j : Fin D) : α :=
  if h : v.toNat < X then x (at2 ⟨v.toNat, h⟩ j) else y (at2 ⟨min (v.toNat - X) (Y - 1), by omega⟩ j)

end Spec

section Rows

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

/-- A one-row window read at a column is the buffer's row there. -/
theorem slice_row_read {sp : Space} {et : EltTy} {X D : ℕ} (M : Memref sig .tc sp ⟨2, ![X, D]⟩ et) (o : Fin 2 → ℕ)
    (h : ∀ b, o b + (![1, D] : Fin 2 → ℕ) b ≤ (![X, D] : Fin 2 → ℕ) b) (r : ℕ) (hr : r < X) (e : o = ![r, 0])
    (f : M.view.ty.Contents (Elt F)) (x : (⟨2, ![1, D]⟩ : Shape).Idx) :
    (M.slice (Rect.unit (s := ⟨2, ![X, D]⟩) o ![1, D] h) (fun _ => rfl)).view.read (Elt F) f x = M.view.read (Elt F) f (at2 ⟨r, hr⟩ (x 1)) := by
  have hl : (M.slice (Rect.unit (s := ⟨2, ![X, D]⟩) o ![1, D] h) (fun _ => rfl)).view.read (Elt F) f x
      = M.view.read (Elt F) f ((Rect.unit (s := ⟨2, ![X, D]⟩) o ![1, D] h).emb x) := rfl
  have hx0 : (x 0).val = 0 := Nat.lt_one_iff.mp (x 0).isLt
  rw [hl]
  congr 1
  funext b
  refine Fin.ext ?_
  rw [Rect.emb_apply]
  match b with
  | ⟨0, _⟩ =>
    show o 0 + 1 * (x 0).val = r
    rw [e, hx0]; rfl
  | ⟨1, _⟩ =>
    show o 1 + 1 * (x 1).val = (x 1).val
    rw [e, Nat.one_mul]; exact Nat.zero_add _

variable {R X Y D T : ℕ} (hY0 : 0 < Y)
variable (c : Dev nD)
variable (iM : Memref sig .tc .smem ⟨1, ![R]⟩ .i32) (cM : Memref sig .tc .vmem ⟨2, ![T, D]⟩ .f32)
variable (xM : Memref sig .tc .hbm ⟨2, ![X, D]⟩ .f32) (yM : Memref sig .tc .hbm ⟨2, ![Y, D]⟩ .f32)
variable (gx gy : DmaSem sig) {lp : Scf.Loop 32} (hok : lp.OK)
variable (oI : Fin lp.trips → Fin 1 → ℕ) (hoI : ∀ k b, oI k b + (![1] : Fin 1 → ℕ) b ≤ (![R] : Fin 1 → ℕ) b)
variable (hI : ∀ k, (Rect.unit (s := ⟨1, ![R]⟩) (oI k) ![1] (hoI k)).shape.numel = 1)
variable (oC : Fin lp.trips → Fin 2 → ℕ) (hC : ∀ k b, oC k b + (![1, D] : Fin 2 → ℕ) b ≤ (![T, D] : Fin 2 → ℕ) b)
variable (chk : Elt F .i32 → Prop) (dec : ∀ v, Decidable (chk v)) (cx cy : Elt F .i32 → BitVec 1)
variable (oX : Elt F .i32 → Fin 2 → ℕ) (hX : ∀ v, chk v → cx v = 1#1 → ∀ b, oX v b + (![1, D] : Fin 2 → ℕ) b ≤ (![X, D] : Fin 2 → ℕ) b)
variable (oY : Elt F .i32 → Fin 2 → ℕ) (hY : ∀ v, chk v → cy v = 1#1 → ∀ b, oY v b + (![1, D] : Fin 2 → ℕ) b ≤ (![Y, D] : Fin 2 → ℕ) b)
variable (a : ℕ) (hT : lp.trips = T) (haT : a + T ≤ R)
variable (eI : ∀ k, oI k = ![a + k.val]) (eC : ∀ k, oC k = ![k.val, 0])
variable (ecx : ∀ v : BitVec 32, 0 ≤ v.toInt → (cx v = 1#1 ↔ v.toNat < X)) (ecy : ∀ v : BitVec 32, 0 ≤ v.toInt → (cy v = 1#1 ↔ ¬ v.toNat < X))
variable (eX : ∀ v : BitVec 32, oX v = ![v.toNat, 0])
variable (eY : ∀ v : BitVec 32, 0 ≤ v.toInt → ¬ v.toNat < X → oY v = ![min (v.toNat - X) (Y - 1), 0])
variable (hchk0 : ∀ v, (cx v = 1#1 → ∀ b, oX v b + (![1, D] : Fin 2 → ℕ) b ≤ (![X, D] : Fin 2 → ℕ) b)
  → (cy v = 1#1 → ∀ b, oY v b + (![1, D] : Fin 2 → ℕ) b ≤ (![Y, D] : Fin 2 → ℕ) b) → chk v)
variable (fI : Buf (Elt F) (iM.view.loc (c : Thread nD τ))) (hnn : ∀ i, (0 : ℤ) ≤ (show BitVec 32 from iM.view.read (Elt F) fI i).toInt)
variable (fX : Buf (Elt F) (xM.view.loc (c : Thread nD τ))) (fY : Buf (Elt F) (yM.view.loc (c : Thread nD τ))) (qx qy : PosShare TreeShare)
variable (G : Buf (Elt F) (cM.view.loc (c : Thread nD τ)))

include hY0 hT haT eI eC ecx ecy eX eY hchk0 hnn in
/-- The two loops: from the index words, the two semaphores at zero, the destination at any contents and the two
    source arrays to the same with the destination gathered. -/
theorem gather_two_rows {β : Type} {kk : Unit → Prog (TpuEff nD τ sig (Elt F) Λ .tc) β} {Q : β → sProp (MT nD τ sig Unit (Elt F) ℕ U ℕ)}
    (hG : ∀ (k : Fin T) (j : Fin D), cM.view.read (Elt F) G (at2 k j)
      = rowOfTwo hY0 (xM.view.read (Elt F) fX) (yM.view.read (Elt F) fY) (iM.view.read (Elt F) fI (at1 ⟨a + k.val, by omega⟩)) j)
    (body body' : Fin lp.trips → Unit → Prog (TpuEff nD τ sig (Elt F) Λ .tc) Unit)
    (vC : Memref sig .tc .vmem ⟨2, ![1, D]⟩ .f32) (vX vY : Memref sig .tc .hbm ⟨2, ![1, D]⟩ .f32)
    (hbody : ∀ k u, body k u = startBody iM cM xM yM gx gy (fun k => Rect.unit (s := ⟨1, ![R]⟩) (oI k) ![1] (hoI k)) hI oC hC chk dec cx cy oX hX oY hY k)
    (hbody' : ∀ k u, body' k u = awaitBody iM gx gy (fun k => Rect.unit (s := ⟨1, ![R]⟩) (oI k) ![1] (hoI k)) hI cx cy vC vX vY k)
    (hN : ∀ k, credit cM oC hC k = vC.view.dmaCredit) (hN0 : 0 < vC.view.dmaCredit) (f₀ : Buf (Elt F) (cM.view.loc (c : Thread nD τ)))
    (O : CellTallies nD τ sig Unit) (W : Waits sig Unit) :
    iprop((iM.view.loc (c : Thread nD τ) ↦[iM.view.set]{fullShare} fI)
      ∗ (semVal ((c : Thread nD τ), SemLoc.dma gx) 0 ∗ semVal ((c : Thread nD τ), SemLoc.dma gy) 0)
      ∗ (cM.view.loc (c : Thread nD τ) ↦[cM.view.set]{fullShare} f₀)
      ∗ ((xM.view.loc (c : Thread nD τ) ↦[xM.view.set]{qx} fX) ∗ (yM.view.loc (c : Thread nD τ) ↦[yM.view.set]{qy} fY))
      ∗ owes (c : Thread nD τ) O W ∗ MayWait (c : Thread nD τ) (.dma gx) () O ∗ MayWait (c : Thread nD τ) (.dma gy) () O)
    ⊢ iprop((iprop((iM.view.loc (c : Thread nD τ) ↦[iM.view.set]{fullShare} fI)
          ∗ (semVal ((c : Thread nD τ), SemLoc.dma gx) 0 ∗ semVal ((c : Thread nD τ), SemLoc.dma gy) 0)
          ∗ (cM.view.loc (c : Thread nD τ) ↦[cM.view.set]{fullShare} G)
          ∗ ((xM.view.loc (c : Thread nD τ) ↦[xM.view.set]{qx} fX) ∗ (yM.view.loc (c : Thread nD τ) ↦[yM.view.set]{qy} fY))
          ∗ ∃ W', owes (c : Thread nD τ) O W')
        -∗ wp frame (wpE defs 𝒱 (c : Thread nD τ) none) Set.univ (kk ⟨⟩) Q)
      -∗ wp frame (wpE defs 𝒱 (c : Thread nD τ) none) Set.univ
          (Scf.Loop.for lp hok ⟨⟩ body >>= fun _ => Scf.Loop.for lp hok ⟨⟩ body' >>= kk) Q) := by
  have hkT : ∀ k : Fin lp.trips, k.val < T := fun k => hT ▸ k.isLt
  have hkR : ∀ k : Fin lp.trips, a + k.val < R := fun k => by have := hkT k; omega
  have hw := fun k => word_eq c iM oI hoI hI a fI k (hkR k) (eI k)
  have hnw : ∀ k, (0 : ℤ) ≤ (show BitVec 32 from word c iM (fun k => Rect.unit (s := ⟨1, ![R]⟩) (oI k) ![1] (hoI k)) hI fI k).toInt := fun k => by
    rw [hw k]; exact hnn _
  have hchk : ∀ k, chk (word c iM (fun k => Rect.unit (s := ⟨1, ![R]⟩) (oI k) ![1] (hoI k)) hI fI k) := fun k => by
    refine hchk0 _ (fun h b => ?_) (fun h b => ?_)
    · have hlt := (ecx _ (hnw k)).mp h
      rw [eX]
      match b with
      | ⟨0, _⟩ => exact hlt
      | ⟨1, _⟩ => exact (Nat.zero_add D).le
    · rw [eY _ (hnw k) ((ecy _ (hnw k)).mp h)]
      match b with
      | ⟨0, _⟩ => show min _ (Y - 1) + 1 ≤ Y; omega
      | ⟨1, _⟩ => exact (Nat.zero_add D).le
  have hxy : ∀ k, cy (word c iM (fun k => Rect.unit (s := ⟨1, ![R]⟩) (oI k) ![1] (hoI k)) hI fI k) = 1#1
      ↔ ¬ cx (word c iM (fun k => Rect.unit (s := ⟨1, ![R]⟩) (oI k) ![1] (hoI k)) hI fI k) = 1#1 := fun k => by
    rw [ecy _ (hnw k), ecx _ (hnw k)]
  have hd : ∀ k x, (dstRow cM oC hC k).view.read (Elt F) G x
      = rowOfTwo hY0 (xM.view.read (Elt F) fX) (yM.view.read (Elt F) fY) (word c iM (fun k => Rect.unit (s := ⟨1, ![R]⟩) (oI k) ![1] (hoI k)) hI fI k) (x 1) := fun k x => by
    rw [hw k]
    exact (slice_row_read cM (oC k) (hC k) k.val (hkT k) (eC k) G x).trans (hG ⟨k.val, hkT k⟩ (x 1))
  have hSC : (Finset.univ.biUnion fun k => (dstRow cM oC hC k).view.set) = cM.view.set := by
    have hch : ∀ b, (![0, 0] : Fin 2 → ℕ) b + (![T, D] : Fin 2 → ℕ) b ≤ (![T, D] : Fin 2 → ℕ) b := fun b =>
      match b with
      | ⟨0, _⟩ => (Nat.zero_add T).le
      | ⟨1, _⟩ => (Nat.zero_add D).le
    rw [rows_union cM oC hC 0 hT (fun k => by rw [eC, Nat.zero_add]) hch]
    ext i
    constructor
    · intro hi; exact View.set_slice_subset _ _ hi
    · intro hi
      obtain ⟨x, -, e⟩ := Finset.mem_map.mp hi
      refine mem_chunk.mpr ⟨x, fun b => ?_, e⟩
      match b with
      | ⟨0, _⟩ => exact ⟨Nat.zero_le _, (Nat.zero_add T).symm ▸ (x 0).isLt⟩
      | ⟨1, _⟩ => exact ⟨Nat.zero_le _, (Nat.zero_add D).symm ▸ (x 1).isLt⟩
  have hdis := rows_disjoint cM oC hC 0 (fun k => by rw [eC, Nat.zero_add])
  refine gather_two 𝒱 c iM cM xM yM gx gy hok (fun k => Rect.unit (s := ⟨1, ![R]⟩) (oI k) ![1] (hoI k)) hI oC hC chk dec cx cy oX hX oY hY fI hchk
    fX fY qx qy G hxy _ hdis hSC body body' vC vX vY hbody hbody' hN hN0 f₀ ?_ ?_ O W
  · intro k h
    have hlt := (ecx _ (hnw k)).mp h
    funext x
    rw [hd, slice_row_read xM _ _ _ hlt (eX _) fX x]
    exact dif_pos hlt
  · intro k h
    have hge := (ecy _ (hnw k)).mp h
    funext x
    rw [hd, slice_row_read yM _ _ _ (by omega) (eY _ (hnw k) hge) fY x]
    exact dif_neg hge

end Rows

end Cert.GatherProof
-- ==== Proof.Places.lean ====
/-
What the two uses of the gather out of two arrays share: the words that a row's place is compared and shifted with, one
grid point's block of rows, and the two arrays laid one after the other.
-/
module

public import proofs.«01_k».proof.Proof.TwoRows
public import Idealize.ShloMosaic.Lib.Pipeline.Frame
public import Idealize.ShloMosaic.Lib.Pipeline.Value

@[expose] public section

set_option maxRecDepth 16384

noncomputable section

namespace Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The words the body computes with -/

/-- A nonnegative word's number is its value. -/
theorem toInt_of_nonneg (v : BitVec 32) (hv : 0 ≤ v.toInt) : v.toInt = v.toNat ∧ v.toNat < 2147483648 := by
  rw [BitVec.toInt_eq_toNat_cond] at hv ⊢
  have := v.isLt
  split at hv <;> rename_i h
  · rw [if_pos h]; omega
  · omega

/-- A truth value widened and compared with zero is itself. -/
theorem widened (b : Bool) : Scalar.cmpi .ne (Scalar.extui (BitVec.ofBool b) : BitVec 32) 0#32 = 1#1 ↔ b = true := by
  cases b <;> decide

/-- The first branch is for the places below the first array's extent. -/
theorem place_below (v n : BitVec 32) (hv : 0 ≤ v.toInt) (hn : 0 ≤ n.toInt) :
    Scalar.cmpi .ne (Scalar.extui (Scalar.cmpi .slt v n) : BitVec 32) 0#32 = 1#1 ↔ v.toNat < n.toNat := by
  refine (widened (v.slt n)).trans ?_
  rw [BitVec.slt, decide_eq_true_iff, (toInt_of_nonneg v hv).1, (toInt_of_nonneg n hn).1]
  omega

/-- The second branch is for the others. -/
theorem place_past (v n : BitVec 32) (hv : 0 ≤ v.toInt) (hn : 0 ≤ n.toInt) :
    Scalar.cmpi .ne (Scalar.extui (Scalar.cmpi .sge v n) : BitVec 32) 0#32 = 1#1 ↔ ¬ v.toNat < n.toNat := by
  refine (widened (n.sle v)).trans ?_
  rw [BitVec.sle, decide_eq_true_iff, (toInt_of_nonneg v hv).1, (toInt_of_nonneg n hn).1]
  omega

/-- The row the second branch reads: the place less the first array's extent, clipped to the second's last row. -/
theorem place_rest (v n b : BitVec 32) (hv : 0 ≤ v.toInt) (h : ¬ v.toNat < n.toNat) (hb : b.toNat < 2147483648) :
    (Scalar.minsi (v - n) b).toNat = min (v.toNat - n.toNat) b.toNat := by
  have hlt := (toInt_of_nonneg v hv).2
  have hs : (v - n).toNat = v.toNat - n.toNat :=
    BitVec.toNat_sub_of_le (by rw [BitVec.le_def]; omega)
  have hs0 : 0 ≤ (v - n).toInt := by
    rw [BitVec.toInt_eq_toNat_cond, if_pos (by rw [hs]; omega)]; exact Int.natCast_nonneg _
  rw [minsi_toNat (v - n) b hs0 hb, hs]

/-! ## Rows out of two arrays, and one block of them -/

section Spec

variable {X Y D R T : ℕ} {α : Type}

/-- Row by row, what the places name in the first array followed by the second. -/
def rowsOfTwo (hY : 0 < Y) (x : (⟨2, ![X, D]⟩ : Shape).Idx → α) (y : (⟨2, ![Y, D]⟩ : Shape).Idx → α) (idx : (⟨1, ![R]⟩ : Shape).Idx → BitVec 32) :
    (⟨2, ![R, D]⟩ : Shape).Idx → α :=
  fun j => rowOfTwo hY x y (idx (at1 (j 0))) (j 1)

/-- `T` rows of them, from row `a` on. -/
def blockOfTwo (hY : 0 < Y) (a : ℕ) (ha : a + T ≤ R) (x : (⟨2, ![X, D]⟩ : Shape).Idx → α) (y : (⟨2, ![Y, D]⟩ : Shape).Idx → α)
    (idx : (⟨1, ![R]⟩ : Shape).Idx → BitVec 32) : (⟨2, ![T, D]⟩ : Shape).Idx → α :=
  fun j => rowsOfTwo hY x y idx (at2 ⟨a + (j 0).val, by have h : (j 0).val < T := (j 0).isLt; omega⟩ (j 1))

/-- The two arrays laid one after the other: the row a word names, clipped to the last, is the row that the two
    branches choose. -/
theorem laid_row {Z : ℕ} (hY : 0 < Y) (hXY : X + Y = Z) (hZ : 0 < Z) (x : (⟨2, ![X, D]⟩ : Shape).Idx → α) (y : (⟨2, ![Y, D]⟩ : Shape).Idx → α)
    (hc : Shape.Concatenates [(⟨2, ![X, D]⟩ : Shape), ⟨2, ![Y, D]⟩] ⟨2, ![Z, D]⟩ 0) (v : BitVec 32) (j : Fin D) :
    concatenate ⟨2, ![Z, D]⟩ 0 [⟨⟨2, ![X, D]⟩, x⟩, ⟨⟨2, ![Y, D]⟩, y⟩] hc (at2 (rowOf hZ v) j) = rowOfTwo hY x y v j := by
  unfold rowOfTwo
  by_cases h : v.toNat < X
  · rw [dif_pos h]
    refine concatenate_pair_apply_left (t := ⟨2, ![Z, D]⟩) (s₁ := ⟨2, ![X, D]⟩) (s₂ := ⟨2, ![Y, D]⟩) 0 x y _ _ rfl (at2 ⟨v.toNat, h⟩ j) fun b => ?_
    match b with
    | ⟨0, _⟩ => show v.toNat = min v.toNat (Z - 1); omega
    | ⟨1, _⟩ => rfl
  · rw [dif_neg h]
    refine concatenate_pair_apply_right (t := ⟨2, ![Z, D]⟩) (s₁ := ⟨2, ![X, D]⟩) (s₂ := ⟨2, ![Y, D]⟩) 0 x y _ _ rfl rfl (at2 _ j) (fun b hb => ?_) ?_
    · match b, hb with
      | ⟨0, _⟩, hb => exact absurd rfl hb
      | ⟨1, _⟩, _ => rfl
    · show min (v.toNat - X) (Y - 1) + X = min v.toNat (Z - 1)
      omega

end Spec

section Block

variable {nD : Nat} {τ : Topo} {sig : RefSig} {F : FTy → Type} {Λ : Labels} {defs : Defs nD τ sig (Elt F) Λ} (𝒱 : Variants)
variable {U : Type} [URA U] [CountersIn U]

local notation "𝕄" => MT nD τ sig Unit (Elt F) ℕ U ℕ

variable {R X Y D T : ℕ} (hY0 : 0 < Y)
variable (c : Dev nD)
variable (iM : Memref sig .tc .smem ⟨1, ![R]⟩ .i32) (cM : Memref sig .tc .vmem ⟨2, ![T, D]⟩ .f32)
variable (xM : Memref sig .tc .hbm ⟨2, ![X, D]⟩ .f32) (yM : Memref sig .tc .hbm ⟨2, ![Y, D]⟩ .f32)
variable (gx gy : DmaSem sig) {lp : Scf.Loop 32} (hok : lp.OK)
variable (oI : Fin lp.trips → Fin 1 → ℕ) (hoI : ∀ k b, oI k b + (![1] : Fin 1 → ℕ) b ≤ (![R] : Fin 1 → ℕ) b)
variable (hI : ∀ k, (Rect.unit (s := ⟨1, ![R]⟩) (oI k) ![1] (hoI k)).shape.numel = 1)
variable (oC : Fin lp.trips → Fin 2 → ℕ) (hC : ∀ k b, oC k b + (![1, D] : Fin 2 → ℕ) b ≤ (![T, D] : Fin 2 → ℕ) b)
variable (chk : Elt F .i32 → Prop) (dec : ∀ v, Decidable (chk v)) (cx cy : Elt F .i32 → BitVec 1)
variable (oX : Elt F .i32 → Fin 2 → ℕ) (hX : ∀ v, chk v → cx v = 1#1 → ∀ b, oX v b + (![1, D] : Fin 2 → ℕ) b ≤ (![X, D] : Fin 2 → ℕ) b)
variable (oY : Elt F .i32 → Fin 2 → ℕ) (hY : ∀ v, chk v → cy v = 1#1 → ∀ b, oY v b + (![1, D] : Fin 2 → ℕ) b ≤ (![Y, D] : Fin 2 → ℕ) b)
variable (a : ℕ) (hT : lp.trips = T) (haT : a + T ≤ R)
variable (eI : ∀ k, oI k = ![a + k.val]) (eC : ∀ k, oC k = ![k.val, 0])
variable (ecx : ∀ v : BitVec 32, 0 ≤ v.toInt → (cx v = 1#1 ↔ v.toNat < X)) (ecy : ∀ v : BitVec 32, 0 ≤ v.toInt → (cy v = 1#1 ↔ ¬ v.toNat < X))
variable (eX : ∀ v : BitVec 32, oX v = ![v.toNat, 0])
variable (eY : ∀ v : BitVec 32, 0 ≤ v.toInt → ¬ v.toNat < X → oY v = ![min (v.toNat - X) (Y - 1), 0])
variable (hchk0 : ∀ v, (cx v = 1#1 → ∀ b, oX v b + (![1, D] : Fin 2 → ℕ) b ≤ (![X, D] : Fin 2 → ℕ) b)
  → (cy v = 1#1 → ∀ b, oY v b + (![1, D] : Fin 2 → ℕ) b ≤ (![Y, D] : Fin 2 → ℕ) b) → chk v)
variable (sX : xM.view.set = Finset.univ) (sY : yM.view.set = Finset.univ) (hcM : cM.IsWhole)
variable (fX : Buf (Elt F) (xM.view.loc (c : Thread nD τ))) (fY : Buf (Elt F) (yM.view.loc (c : Thread nD τ)))
variable (idx : (⟨1, ![R]⟩ : Shape).Idx → BitVec 32) (hnn : ∀ i, (0 : ℤ) ≤ (idx i).toInt)

include hT haT eI eC ecx ecy eX eY hchk0 sX sY hcM hnn in
/-- A grid point: the two loops, and then nothing. The block ends holding its rows and all else is as it was. -/
theorem gather_two_block
    (body body' : Fin lp.trips → Unit → Prog (TpuEff nD τ sig (Elt F) Λ .tc) Unit)
    (vC : Memref sig .tc .vmem ⟨2, ![1, D]⟩ .f32) (vX vY : Memref sig .tc .hbm ⟨2, ![1, D]⟩ .f32)
    (hbody : ∀ k u, body k u = startBody iM cM xM yM gx gy (fun k => Rect.unit (s := ⟨1, ![R]⟩) (oI k) ![1] (hoI k)) hI oC hC chk dec cx cy oX hX oY hY k)
    (hbody' : ∀ k u, body' k u = awaitBody iM gx gy (fun k => Rect.unit (s := ⟨1, ![R]⟩) (oI k) ![1] (hoI k)) hI cx cy vC vX vY k)
    (hN : ∀ k, credit cM oC hC k = vC.view.dmaCredit) (hN0 : 0 < vC.view.dmaCredit)
    (W : Waits sig Unit) (K : PUnit → sProp (MT nD τ sig Unit (Elt F) ℕ U ℕ)) :
    iprop(owns (c : Thread nD τ) iM fullShare idx ∗ (∃ d, owns (c : Thread nD τ) cM fullShare d)
        ∗ (semVal ((c : Thread nD τ), SemLoc.dma gx) 0 ∗ semVal ((c : Thread nD τ), SemLoc.dma gy) 0)
        ∗ ((xM.view.loc (c : Thread nD τ) ↦{fullShare} fX) ∗ (yM.view.loc (c : Thread nD τ) ↦{fullShare} fY))
        ∗ owes (c : Thread nD τ) 0 W
        ∗ (iprop(owns (c : Thread nD τ) iM fullShare idx
            ∗ owns (c : Thread nD τ) cM fullShare (blockOfTwo hY0 a haT (xM.view.read (Elt F) fX) (yM.view.read (Elt F) fY) idx)
            ∗ (semVal ((c : Thread nD τ), SemLoc.dma gx) 0 ∗ semVal ((c : Thread nD τ), SemLoc.dma gy) 0)
            ∗ ((xM.view.loc (c : Thread nD τ) ↦{fullShare} fX) ∗ (yM.view.loc (c : Thread nD τ) ↦{fullShare} fY))
            ∗ ∃ W', owes (c : Thread nD τ) 0 W') -∗ K ⟨⟩))
    ⊢ wp frame (wpE defs 𝒱 (c : Thread nD τ) none) Set.univ
        (Scf.Loop.for lp hok ⟨⟩ body >>= fun _ => Scf.Loop.for lp hok ⟨⟩ body' >>= fun _ => pure ⟨⟩) K := by
  unfold owns
  iintro ⟨⟨%fI, %eI', HI⟩, ⟨%d, %f₀, -, HC⟩, Hsem, ⟨HX, HY⟩, HW, HK⟩
  have hrun := gather_two_rows (defs := defs) 𝒱 hY0 c iM cM xM yM gx gy hok oI hoI hI oC hC chk dec cx cy oX hX oY hY a hT haT eI eC
    ecx ecy eX eY hchk0 fI (by rw [eI']; exact hnn) fX fY fullShare fullShare
    (hcM.unread (blockOfTwo hY0 a haT (xM.view.read (Elt F) fX) (yM.view.read (Elt F) fY) idx)) (kk := fun _ => pure ⟨⟩) (Q := K)
    (fun k j => by rw [hcM.read_unread, eI']; rfl) body body' vC vX vY hbody hbody' hN hN0 f₀ 0 W
  rw [sX, sY] at hrun
  iapply hrun $$ [HI HC Hsem HX HY HW]
  · isplitl [HI]; · iexact HI
    isplitl [Hsem]; · iexact Hsem
    isplitl [HC]; · iexact HC
    isplitl [HX HY]
    · isplitl [HX]; · iexact HX
      iexact HY
    isplitl [HW]; · iexact HW
    rw [MayWait_zero, MayWait_zero]
    isplitl <;> iempintro
  iintro ⟨HI, Hsem, HC, ⟨HX, HY⟩, HW⟩
  rw [wp_pure]
  imodintro
  iapply HK
  isplitl [HI]
  · iexists fI; isplitr; · ipureintro; exact eI'
    iexact HI
  isplitl [HC]
  · iexists _; isplitr; swap; · iexact HC
    ipureintro; exact hcM.read_unread _
  isplitl [Hsem]; · iexact Hsem
  isplitl [HX HY]
  · isplitl [HX]; · iexact HX
    iexact HY
  iexact HW

end Block

end Cert.GatherProof

end
-- ==== Proof.GatherInBody.lean ====
/-
  One grid point of the first use of `_gather_two` (256 rows of the experts' rows): from the origins in scalar memory and the
  two arrays of rows, whole, to its block of the result filled with the rows the origins name.
-/
module

public import proofs.«01_k».proof.Proof.Places
public import proofs.«01_k».proof.Proof.Gen.GatherInIdeal.Skeleton
public import proofs.«01_k».proof.Proof.Gen.GatherInIdeal.Launch
public import Idealize.ShloMosaic.Lib.Pipeline.Frame

@[expose] public section

set_option maxRecDepth 16384

noncomputable section

namespace Cert.GatherInProof

open Cert.GatherInIdeal Cert.GatherInIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherProof

variable {F : FTy → Type} [FloatOps F]

local notation "𝕄" => MT nD τ sig Unit (Elt F) ℕ (Pipeline.UD sig nD τ) ℕ

/-! ## The words the body computes with -/

theorem first_side (v : BitVec 32) (hv : 0 ≤ v.toInt) : k0_cond1 v = 1#1 ↔ v.toNat < 4096 := place_below v 4096#32 hv (by decide)

theorem second_side (v : BitVec 32) (hv : 0 ≤ v.toInt) : k0_cond2 v = 1#1 ↔ ¬ v.toNat < 4096 := place_past v 4096#32 hv (by decide)

theorem second_row (v : BitVec 32) (hv : 0 ≤ v.toInt) (h : ¬ v.toNat < 4096) : k0_off5 v = ![min (v.toNat - 4096) (2304 - 1), 0] :=
  congrArg (fun r : ℕ => (![r, 0] : Fin 2 → ℕ)) (place_rest v 4096#32 2303#32 hv h (by decide))

/-! ## One grid point -/

/-- Row by row, the experts' rows: the row each origin names in the first array followed by the second. -/
abbrev merged (x : S4096x2048.Idx → Elt F .f32) (y : S2304x2048.Idx → Elt F .f32) (idx : S5120.Idx → BitVec 32) : S5120x2048.Idx → Elt F .f32 :=
  rowsOfTwo (by decide) x y idx

theorem rows_in (i : grid0.Coords) : 256 * (i 0).val + 256 ≤ 5120 := by
  have h0 : (i 0).val < 20 := (i 0).isLt
  omega

/-- The block of 256 rows that a grid point fills. -/
abbrev blockOf (i : grid0.Coords) (x : S4096x2048.Idx → Elt F .f32) (y : S2304x2048.Idx → Elt F .f32) (idx : S5120.Idx → BitVec 32) : S256x2048.Idx → Elt F .f32 :=
  blockOfTwo (by decide) (256 * (i 0).val) (rows_in i) x y idx

abbrev xM : Memref sig .tc .hbm S4096x2048 .f32 := Memref.whole main_arg0
abbrev yM : Memref sig .tc .hbm S2304x2048 .f32 := Memref.whole main_arg1

theorem trips_eq : k0_t1_loop.trips = 256 := by decide

/-- The body at grid point `i`: the block ends holding its rows, all else is as it was. -/
theorem body_run (c : Dev nD) (i : grid0.Coords) (arg3 : Memref sig .tc .smem S5120 .i32) (harg3 : arg3.IsWhole)
    (arg4 : Memref sig .tc .vmem S256x2048 .f32) (harg4 : arg4.IsWhole) (x : S4096x2048.Idx → Elt F .f32) (y : S2304x2048.Idx → Elt F .f32)
    (idx : S5120.Idx → BitVec 32) (hnn : ∀ j, (0 : ℤ) ≤ (idx j).toInt) (W : Waits sig Unit) (K : PUnit → sProp 𝕄) :
    iprop(owns (c : Thread nD τ) arg3 fullShare idx ∗ (∃ d, owns (c : Thread nD τ) arg4 fullShare d)
        ∗ (semVal ((c : Thread nD τ), SemLoc.dma cc0_scratch0.sem) 0 ∗ semVal ((c : Thread nD τ), SemLoc.dma cc0_scratch1.sem) 0)
        ∗ ((xM.view.loc (c : Thread nD τ) ↦{fullShare} x) ∗ (yM.view.loc (c : Thread nD τ) ↦{fullShare} y))
        ∗ owes (c : Thread nD τ) 0 W
        ∗ (iprop(owns (c : Thread nD τ) arg3 fullShare idx ∗ owns (c : Thread nD τ) arg4 fullShare (blockOf i x y idx)
            ∗ (semVal ((c : Thread nD τ), SemLoc.dma cc0_scratch0.sem) 0 ∗ semVal ((c : Thread nD τ), SemLoc.dma cc0_scratch1.sem) 0)
            ∗ ((xM.view.loc (c : Thread nD τ) ↦{fullShare} x) ∗ (yM.view.loc (c : Thread nD τ) ↦{fullShare} y))
            ∗ ∃ W', owes (c : Thread nD τ) 0 W') -∗ K ⟨⟩))
    ⊢ wp frame (wpE (defs₀ (F := F)) Variants.none (c : Thread nD τ) none) Set.univ
        (cc0_body i xM (Memref.isWhole_whole _) yM (Memref.isWhole_whole _) arg3 harg3 arg4 harg4 cc0_scratch0 cc0_scratch1) K := by
  rw [cc0_body_eq_skeleton]
  exact gather_two_block (defs := defs₀ (F := F)) (U := Pipeline.UD sig nD τ) (R := 5120) (X := 4096) (Y := 2304) (D := 2048) (T := 256) Variants.none (by decide) c arg3 arg4 xM yM
    cc0_scratch0.sem cc0_scratch1.sem k0_t1_ok (fun k => k0_off1 i k) (fun k => k0_off1_inb i k) (fun _ => numel1_S1) k0_off2 k0_off2_inb k0_chk1 k0_chk1.dec
    k0_cond1 k0_cond2 k0_off3 k0_off3_inb k0_off5 k0_off5_inb (256 * (i 0).val) trips_eq (rows_in i) (fun k => k0_off1_eq i k) k0_off2_eq
    first_side second_side (fun _ => rfl) second_row (fun _ h h' => ⟨h, h'⟩) (View.set_whole _) (View.set_whole _) harg4 x y idx hnn
    (k0_t1_body i xM (Memref.isWhole_whole _) yM (Memref.isWhole_whole _) arg3 harg3 arg4 harg4 cc0_scratch0 cc0_scratch1)
    (k0_t2_body i xM (Memref.isWhole_whole _) yM (Memref.isWhole_whole _) arg3 harg3 arg4 harg4 cc0_scratch0 cc0_scratch1)
    (arg4.slice (Rect.unit (s := S256x2048) ![0, 0] S1x2048.size inb_S256x2048_S1x2048_0_0) (fun _ => rfl))
    (xM.slice (Rect.unit (s := S4096x2048) ![0, 0] S1x2048.size inb_S4096x2048_S1x2048_0_0) (fun _ => rfl))
    (yM.slice (Rect.unit (s := S2304x2048) ![0, 0] S1x2048.size inb_S2304x2048_S1x2048_0_0) (fun _ => rfl))
    (fun _ _ => rfl) (fun _ _ => rfl) (fun _ => rfl) (View.dmaCredit_pos _ (by show 0 < (⟨2, ![1, 2048]⟩ : Shape).numel; decide)) W K

end Cert.GatherInProof

end
-- ==== Proof.GatherInRun.lean ====
/-
  The first use of `_gather_two`, whole: twenty grid points of 256 rows each, run by the pipeline, leave the experts' rows
  gathered out of the two arrays, the arguments as they were and every counter at zero.
-/
module

public import proofs.«01_k».proof.Proof.GatherInBody
public import proofs.«01_k».proof.Proof.Gen.GatherInIdeal.Points
public import Idealize.ShloMosaic.Lib.Pipeline.FrameBody
public import Idealize.ShloMosaic.Lib.Pipeline.Value

@[expose] public section

set_option maxRecDepth 16384

noncomputable section

namespace Cert.GatherInProof

open Cert.GatherInIdeal Cert.GatherInIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.GatherProof

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch starts from -/

/-- The buffers of device `c` when the kernel starts: those of the launch. -/
abbrev entry (c : Dev nD) (b : Ref sig .tc) : Buf (Elt F) ((c : Thread nD τ).loc b) := m ((c : Thread nD τ).loc b)

abbrev firsts (c : Dev nD) : S4096x2048.Idx → Elt F .f32 := entry m c main_arg0
abbrev seconds (c : Dev nD) : S2304x2048.Idx → Elt F .f32 := entry m c main_arg1
abbrev origins (c : Dev nD) : S5120.Idx → BitVec 32 := entry m c main_arg2

/-- The program is one launch of the kernel. -/
theorem one_launch (𝒱₀ : Variants) :
    Pipeline.HMain (Ix := Unit) (Name := ℕ) (U := Pipeline.UD sig nD τ) (Lvl := ℕ) cfgs 0 defs₀ 𝒱₀ m (main (F := F)) (entry m) :=
  Pipeline.hmain_region cfgs 0 defs₀ 𝒱₀ m main fun c => (main_chain c).trans rfl

/-- The body's own two semaphores. -/
abbrev ownSem : Fin 2 → SemLoc sig := ![SemLoc.dma 3, SemLoc.dma 4]

theorem ownSem_facts : Pipeline.OwnSemFacts spec0 ownSem := by decide

theorem ownSems_pair (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma cc0_scratch0.sem) 0 ∗ semVal ((c : Thread nD τ), SemLoc.dma cc0_scratch1.sem) 0) := by
  rw [Pipeline.ownSems0_eq_of_list c ownSem [0, 1] (by decide) (by decide)]; rfl

/-- The two arrays of rows, which the body's copies read where they lie. -/
def sources : Finset (Ref sig .tc) := {main_arg0, main_arg1}

theorem sources_sub : sources ⊆ Pipeline.restRefs sig spec0 := by decide

theorem sources_pair (c : Dev nD) :
    (bigSep sources (fun b => ((c : Thread nD τ).loc b) ↦{fullShare} entry m c b) : sProp 𝕄)
      = iprop((xM.view.loc (c : Thread nD τ) ↦{fullShare} firsts m c) ∗ (yM.view.loc (c : Thread nD τ) ↦{fullShare} seconds m c)) := by
  rw [BI.bigSep_eq_bigSepL_of_eq [main_arg0, main_arg1] (by decide) (by decide)]; rfl

/-- What is carried from one grid point to the next besides the blocks. -/
theorem carried_eq (c : Dev nD) :
    (Pipeline.ΦD ownSem spec0 sources (entry m) c : sProp 𝕄)
      = iprop(BI.emp ∗ (∃ r, prngReg c r)
          ∗ iprop(semVal ((c : Thread nD τ), SemLoc.dma cc0_scratch0.sem) 0 ∗ semVal ((c : Thread nD τ), SemLoc.dma cc0_scratch1.sem) 0)
          ∗ iprop((xM.view.loc (c : Thread nD τ) ↦{fullShare} firsts m c) ∗ (yM.view.loc (c : Thread nD τ) ↦{fullShare} seconds m c))) := by
  rw [Pipeline.ΦD_eq, scopedRest0_eq, ownSems_pair, sources_pair]

/-! ## The blocks -/

/-- Both index maps, over the grid: the origins are one block, the result's block is the grid point's. -/
theorem block_index : ∀ t : Fin cfg0.N, win0_0.index t (0 : Fin 1) = 0 ∧ win0_1.index t (0 : Fin 2) = t.val ∧ win0_1.index t (1 : Fin 2) = 0
    ∧ ((grid0.coords t) 0).val = t.val :=
  (by decide +kernel : ∀ t : Fin grid0.N, _)

/-- The one block of the origins is all of them. -/
theorem origins_block (c : Dev nD) (t : Fin cfg0.N) : ((cfg0.win 0).blk t).view.read (Elt F) (origins m c) = origins m c := by
  funext j
  refine congrArg (origins m c) (funext fun a => Fin.ext ?_)
  have e := (block_index t).1
  match a with
  | ⟨0, _⟩ =>
    show win0_0.index t (0 : Fin 1) * 5120 + 1 * (j 0).val = (j 0).val
    omega

/-- The experts' rows on device `c`. -/
abbrev result (c : Dev nD) : S5120x2048.Idx → Elt F .f32 := merged (firsts m c) (seconds m c) (origins m c)

/-- What each block holds after the body at point `t`: the origins still, and the point's 256 rows. -/
def dats (_ : Fin 1) (c : Dev nD) : Dat τ (Elt F) Unit ℕ (Pipeline.UD sig nD τ) ℕ cfg0 c where
  A w := entry m c (Pipeline.arrRef spec0 w)
  after w t := match w with
    | ⟨0, _⟩ => origins m c
    | ⟨1, _⟩ => blockOf (grid0.coords t) (firsts m c) (seconds m c) (origins m c)
  Φ _ := Pipeline.ΦD ownSem spec0 sources (entry m) c
  q _ := fullShare
  owed _ := 0

theorem array_eq (c : Dev nD) (w : Fin cfg0.W) : (dats m 0 c).A w = entry m c (Pipeline.arrRef spec0 w) := by
  dsimp only [dats]
theorem after_origins (c : Dev nD) (t : Fin cfg0.N) : (dats m 0 c).after 0 t = origins m c := by dsimp only [dats]
theorem after_rows (c : Dev nD) (t : Fin cfg0.N) :
    (dats m 0 c).after 1 t = blockOf (grid0.coords t) (firsts m c) (seconds m c) (origins m c) := by dsimp only [dats]

/-- The origins are in scalar memory at every point. -/
theorem before_origins (c : Dev nD) (t : Fin cfg0.N) (d) : (dats m 0 c).before 0 t d = origins m c :=
  ((dats m 0 c).before_in_eq_fetched 0 rfl (fun _ => rfl) (fun _ _ _ => rfl)
    (fun t => by rw [after_origins]; unfold Dat.blockOf; rw [array_eq]; exact (origins_block m c t).symm) t d).trans
    (by unfold Dat.fetched Dat.blockOf; rw [array_eq]; exact origins_block m c t)

/-! ## Every grid point -/

variable (hnn : ∀ c i, (0 : ℤ) ≤ (origins m c i).toInt)

include hnn in
/-- The body at point `t`, in the pipeline's terms. -/
theorem point_run (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none (c : Thread nD τ) none) Set.univ (bodyAt0 t)
        (fun _ => iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t))) := by
  rw [show (dats m 0 c).Φ t.castSucc = Pipeline.ΦD ownSem spec0 sources (entry m) c from rfl,
    show (dats m 0 c).Φ t.succ = Pipeline.ΦD ownSem spec0 sources (entry m) c from rfl, carried_eq, after_origins, after_rows]
  simp only [before_origins]
  unfold Dat.owesAt Pipeline.owesWithin
  rw [show (dats m 0 c).owed t.castSucc = 0 from rfl, show (dats m 0 c).owed t.succ = 0 from rfl]
  iintro ⟨⟨-, Hg, Hsem, Hsrc⟩, ⟨%W, -, HW⟩, ⟨%d0, HI⟩, ⟨%d1, HC⟩⟩
  iapply (body_run c (grid0.coords t) _ _ _ _ (firsts m c) (seconds m c) (origins m c) (hnn c) W _)
  isplitl [HI]; · iexact HI
  isplitl [HC]; · iexists _; iexact HC
  isplitl [Hsem]; · iexact Hsem
  isplitl [Hsrc]; · iexact Hsrc
  isplitl [HW]; · iexact HW
  iintro ⟨HI, HC, Hsem, Hsrc, ⟨%W', HW'⟩⟩
  isplitl [Hg Hsem Hsrc]
  · isplitl []; · iempintro
    isplitl [Hg]; · iexact Hg
    isplitl [Hsem]; · iexact Hsem
    iexact Hsrc
  isplitl [HW']
  · iexists W'; isplitr; · ipureintro; exact fun _ _ => Or.inl trivial
    iexact HW'
  isplitl [HI]; · iexact HI
  iexact HC

theorem body_at (t : Fin cfg0.N) : defs₀ (F := F) .tc cfg0.body (cfg0.bodyArgs t (cfg0.slots t)) = bodyAt0 t := by
  unfold defs₀; rw [Defs.onTc_tc]

include hnn in
theorem every_point (c : Dev nD) : BodyObligation (dats (F := F) m 0 c) (defs₀ (F := F)) Variants.none () Set.univ := fun t => by
  rw [bigSep_W0, bigSep_W0, body_at]
  exact triple_restated (point_run m hnn c t) rfl .rfl fun _ => .rfl

/-! ## The array the blocks make -/

/-- Each point writes back its block of the result. -/
theorem written (c : Dev nD) (t : Fin cfg0.N) : (dats m 0 c).flushed 1 t = ((cfg0.win 1).blk t).view.read (Elt F) (result m c) := by
  show (cfg0.win 1).cut (grid0.coords t) ((dats m 0 c).after 1 t) = _
  rw [after_rows]
  obtain ⟨-, e0, e1, ec⟩ := block_index t
  funext j
  show result m c (at2 _ _) = result m c (((cfg0.win 1).blk t).view.emb j)
  refine congrArg (result m c) (funext fun a => Fin.ext ?_)
  match a with
  | ⟨0, _⟩ =>
    show 256 * ((grid0.coords t) 0).val + (j 0).val = win0_1.index t (0 : Fin 2) * 256 + 1 * (j 0).val
    omega
  | ⟨1, _⟩ =>
    show (j 1).val = win0_1.index t (1 : Fin 2) * 2048 + 1 * (j 1).val
    omega

/-- Every row of the result lies in some point's block. -/
theorem all_rows (i : S5120x2048.Idx) : ∃ t : Fin cfg0.N, (cfg0.win 1).flush t = true ∧ i ∈ ((cfg0.win 1).blk t).view.set := by
  have h0 : (i 0).val < 5120 := (i 0).isLt
  have h1 : (i 1).val < 2048 := (i 1).isLt
  have hN : (i 0).val / 256 < cfg0.N := lt_of_lt_of_eq (by omega) N_0.symm
  refine ⟨⟨(i 0).val / 256, hN⟩, flush0_1 _, ?_⟩
  obtain ⟨-, e0, e1, -⟩ := block_index ⟨(i 0).val / 256, hN⟩
  show i ∈ ((View.whole main_v0).slice (win0_1.rect ⟨(i 0).val / 256, hN⟩)).set
  rw [View.set_slice_whole, Rect.mem_set_unit]
  intro a
  match a with
  | ⟨0, _⟩ =>
    show win0_1.index _ (0 : Fin 2) * 256 ≤ (i 0).val ∧ (i 0).val < win0_1.index _ (0 : Fin 2) * 256 + 256
    rw [e0]; dsimp only; omega
  | ⟨1, _⟩ =>
    show win0_1.index _ (1 : Fin 2) * 2048 ≤ (i 1).val ∧ (i 1).val < win0_1.index _ (1 : Fin 2) * 2048 + 2048
    rw [e1]; omega

/-- After the last point the result's array holds the rows gathered. -/
theorem whole_result (c : Dev nD) : (dats m 0 c).arrAt 1 cfg0.N = result m c :=
  (dats m 0 c).arrAt_eq_of_cover 1 _ (fun t _ => written m c t) all_rows

/-! ## The run -/

include hnn in
set_option backward.isDefEq.respectTransparency.types false in
theorem region_run : θ_run defs (onTc (τ := τ) (main (F := F))) (s₀ m ρ)
    (fun r => Pipeline.FramePost cfgs (dats m) 0 (entry m) r ∧ r.2.sem = fun _ => 0) :=
  Pipeline.θ_run_frame_dma (Q' := _) cfgs (dats m) (0 : Fin 1) launch0 ownSem defs₀ Variants.none ownSem_facts sources sources_sub m ρ main
    (hbody := fun c => (every_point m hnn c).loose) (hshare := fun c => (dats m 0 c).share_full fun _ => rfl)
    (howed := fun _ _ => rfl) (V := entry m) (hmain := one_launch m Variants.none) (hA := array_eq m)
    (hin := fun _ => .rfl) (hout := fun _ => .rfl)

include hnn in
/-- The whole program: the result gathered, the arguments unchanged, every counter at zero. -/
theorem run_main : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 1).trans (whole_result m c),
      (h.1 c).2 main_arg0 (Pipeline.mem_restRefs_of main_arg0 (by decide) (by decide)),
      (h.1 c).2 main_arg1 (Pipeline.mem_restRefs_of main_arg1 (by decide) (by decide)),
      ((h.1 c).1 0).trans (((dats m 0 c).arrAt_in 0 rfl _).trans (array_eq m c 0))⟩, h.2⟩) (region_run m ρ hnn)

end Cert.GatherInProof

end
-- ==== Proof.GatherInRef.lean ====
/-
  The reference of the first use of `_gather_two`: the rows taken, by origin, of the two arrays laid one after the other.
-/
module

public import proofs.«01_k».proof.Proof.GatherInBody
public import proofs.«01_k».proof.Proof.TakeRows
public import proofs.«01_k».proof.Proof.Gen.GatherInRefIdeal.Run
public import proofs.«01_k».proof.Proof.Gen.GatherInRefIdeal.Read
public import proofs.«01_k».proof.Proof.Gen.Pre_origins_nonneg
public import Idealize.ShloMosaic.Lib.Pipeline.Value

@[expose] public section

set_option maxRecDepth 16384

noncomputable section

namespace Cert.GatherInProof

open Idealize.ShloMosaic Cert.GatherProof Cert.TakeRows Cert.GatherInRefIdeal.Read
open Idealize.ShloMosaic.TcCoe

variable {F : FTy → Type} [FloatOps F]

/-! ## The precondition -/

instance : Subsingleton Cert.Pre_origins_nonneg.S_.Idx := ⟨fun a b => funext fun k => k.elim0⟩

/-- The precondition, read at a row of the result: its origin is not negative. -/
theorem origins_of_pre (x : FVec F Cert.Pre_origins_nonneg.S4096x2048 .f32) (y : FVec F Cert.Pre_origins_nonneg.S2304x2048 .f32)
    (idx : IVec Cert.Pre_origins_nonneg.S5120 32) (h : Cert.Pre_origins_nonneg.fn (F := F) x y idx = fun _ => 1#1)
    (i : Cert.Pre_origins_nonneg.S5120.Idx) : 0 ≤ (idx i).toInt :=
  nonneg_of_sge _ (Host.reduce_andi_all _ _ _ _ _ (congrFun h fun k => k.elim0) i)

/-! ## The reference's result -/

variable (x : (⟨Cert.GatherInRefIdeal.S4096x2048, .f32⟩ : BufTy).Contents (Elt F)) (y : (⟨Cert.GatherInRefIdeal.S2304x2048, .f32⟩ : BufTy).Contents (Elt F))
  (idx : (⟨Cert.GatherInRefIdeal.S5120, .i32⟩ : BufTy).Contents (Elt F))

/-- The host's gather, as rows named by the origins. -/
theorem taken (hnn : ∀ i, 0 ≤ (idx i : BitVec 32).toInt) :
    val_main_v7 (F := F) x y idx = rowsBy (R := 5120) (X := 6400) (D := 2048) (by decide) idx (val_main_v0 (F := F) x y) := by
  refine gather_rowsBy (by decide) _ _ _ _ (fun i => ?_) hnn
  have e : Cert.GatherInRefIdeal.Read.idx_main_v6 (at2 i (0 : Fin 1)) = at1 i := funext fun k => by
    match k with
    | ⟨0, _⟩ => rfl
  rw [val_main_v6_apply, e, val_main_v5_apply, val_main_v2_apply]
  exact unwrapped _ _ (hnn _)

/-- The reference leaves what the kernel leaves. -/
theorem reference_eq (hnn : ∀ i, 0 ≤ (idx i : BitVec 32).toInt) : val_main_v7 (F := F) x y idx = merged x y idx :=
  (taken x y idx hnn).trans (funext fun i => laid_row (X := 4096) (Y := 2304) (D := 2048) (by decide) rfl (by decide) x y
    Cert.GatherInRefIdeal.Gen.facts.concatenates_S4096x2048_S2304x2048_S6400x2048_d0 (idx (at1 (i 0))) (i 1))

end Cert.GatherInProof

end
-- ==== Proof.GatherInClaims.lean ====
/-
The claims about the first use of `_gather_two`.
-/
module

public import proofs.«01_k».proof.Defs
public import proofs.«01_k».proof.Proof.GatherInRun
public import proofs.«01_k».proof.Proof.GatherInRef
public import proofs.«01_k».proof.Proof.Gen.GatherIn

@[expose] public section

set_option maxRecDepth 16384

noncomputable section

namespace Cert.GatherInProof

open Idealize.ShloMosaic Idealize.SL.Sem

/-- The printed program and its reading with ideal numbers have one body table. -/
theorem bodies_eq {F : FTy → Type} [FloatOps F] : Cert.GatherIn.defs₀ (F := F) = Cert.GatherInIdeal.defs₀ (F := F) := by
  refine congrArg Defs.onTc (funext fun ℓ => funext fun a => ?_)
  match ℓ, a with
  | 0, (t, s) => rfl

theorem table_eq {F : FTy → Type} [FloatOps F] : Cert.GatherIn.defs (F := F) = Cert.GatherInIdeal.defs (F := F) :=
  congrArg (Pipeline.defs Cert.GatherInIdeal.pcfgs) bodies_eq

/-- The gather, at words: it runs, leaves its arguments and every counter as they were. -/
theorem quiescent_words : Cert.quiescent_GatherIn := by
  intro m ρ hp
  have hnn : ∀ c i, (0 : ℤ) ≤ (origins (F := Bits) m c i).toInt := fun c i => origins_of_pre (F := Bits) _ _ _ (hp c) i
  rw [table_eq]
  exact (θ_run Cert.GatherInIdeal.defs _ _).mono (fun r h => ⟨fun c => (h.1 c).2, h.2⟩) (run_main (F := Bits) m ρ hnn)

/-- The same with ideal numbers. -/
theorem quiescent_ideal : Cert.quiescent_GatherInIdeal := fun m ρ hp =>
  (θ_run Cert.GatherInIdeal.defs _ _).mono (fun _ h => ⟨fun c => (h.1 c).2, h.2⟩)
    (run_main (F := Ideal) m ρ fun c i => origins_of_pre _ _ _ (hp c) i)

/-- The reference's run leaves its arguments alone and has no semaphores. -/
theorem quiescent_ref : Cert.quiescent_GatherInRefIdeal := fun m ρ _ =>
  (θ_run Cert.GatherInRefIdeal.defs _ _).mono (fun r h => ⟨fun c => (h c).2, sem_eq_zero_of_no_sems (by decide) r.2⟩)
    (Cert.GatherInRefIdeal.Value.run (F := Ideal) m ρ)

theorem quiescent_ref_pre : Cert.quiescent_GatherInRefIdeal_pre_origins_nonneg := fun m ρ _ => quiescent_ref m ρ trivial

/-- From the same arguments the kernel and the reference leave the same array. -/
theorem algebraic : Cert.algebraic_GatherInIdeal_GatherInRefIdeal := by
  intro m ρ m' ρ' hp hb
  have hnn : ∀ c i, (0 : ℤ) ≤ (origins m c i).toInt := fun c i => origins_of_pre _ _ _ (hp c) i
  refine ⟨fun c => result m c, (θ_run Cert.GatherInIdeal.defs _ _).mono (fun r h => h.1) (run_main (F := Ideal) m ρ hnn), ?_⟩
  refine (θ_run Cert.GatherInRefIdeal.defs _ _).mono (fun r h c => ⟨?_, (h c).2⟩) (Cert.GatherInRefIdeal.Value.run (F := Ideal) m' ρ')
  refine (h c).1.trans ((Cert.GatherInRefIdeal.Read.val_main_v7_eq _ _ _).trans ?_)
  rw [(hb c).1, (hb c).2.1, (hb c).2.2]
  exact reference_eq _ _ _ (hnn c)

end Cert.GatherInProof

end
-- ==== Proof.GatherOutBody.lean ====
/-
  One grid point of the second use of `_gather_two` (256 rows of the layer's result): from the places in scalar memory and the
  two arrays of rows, whole, to its block of the result filled with the rows the places name.
-/
module

public import proofs.«01_k».proof.Proof.Places
public import proofs.«01_k».proof.Proof.Gen.GatherOutIdeal.Skeleton
public import proofs.«01_k».proof.Proof.Gen.GatherOutIdeal.Launch
public import Idealize.ShloMosaic.Lib.Pipeline.Frame

@[expose] public section

set_option maxRecDepth 16384

noncomputable section

namespace Cert.GatherOutProof

open Cert.GatherOutIdeal Cert.GatherOutIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherProof

variable {F : FTy → Type} [FloatOps F]

local notation "𝕄" => MT nD τ sig Unit (Elt F) ℕ (Pipeline.UD sig nD τ) ℕ

/-! ## The words the body computes with -/

theorem first_side (v : BitVec 32) (hv : 0 ≤ v.toInt) : k0_cond1 v = 1#1 ↔ v.toNat < 5120 := place_below v 5120#32 hv (by decide)

theorem second_side (v : BitVec 32) (hv : 0 ≤ v.toInt) : k0_cond2 v = 1#1 ↔ ¬ v.toNat < 5120 := place_past v 5120#32 hv (by decide)

theorem second_row (v : BitVec 32) (hv : 0 ≤ v.toInt) (h : ¬ v.toNat < 5120) : k0_off5 v = ![min (v.toNat - 5120) (2304 - 1), 0] :=
  congrArg (fun r : ℕ => (![r, 0] : Fin 2 → ℕ)) (place_rest v 5120#32 2303#32 hv h (by decide))

/-! ## One grid point -/

/-- Row by row, the layer's result: the row each place names in the first array followed by the second. -/
abbrev merged (x : S5120x2048.Idx → Elt F .f32) (y : S2304x2048.Idx → Elt F .f32) (idx : S4096.Idx → BitVec 32) : S4096x2048.Idx → Elt F .f32 :=
  rowsOfTwo (by decide) x y idx

theorem rows_in (i : grid0.Coords) : 256 * (i 0).val + 256 ≤ 4096 := by
  have h0 : (i 0).val < 16 := (i 0).isLt
  omega

/-- The block of 256 rows that a grid point fills. -/
abbrev blockOf (i : grid0.Coords) (x : S5120x2048.Idx → Elt F .f32) (y : S2304x2048.Idx → Elt F .f32) (idx : S4096.Idx → BitVec 32) : S256x2048.Idx → Elt F .f32 :=
  blockOfTwo (by decide) (256 * (i 0).val) (rows_in i) x y idx

abbrev xM : Memref sig .tc .hbm S5120x2048 .f32 := Memref.whole main_arg0
abbrev yM : Memref sig .tc .hbm S2304x2048 .f32 := Memref.whole main_arg1

theorem trips_eq : k0_t1_loop.trips = 256 := by decide

/-- The body at grid point `i`: the block ends holding its rows, all else is as it was. -/
theorem body_run (c : Dev nD) (i : grid0.Coords) (arg3 : Memref sig .tc .smem S4096 .i32) (harg3 : arg3.IsWhole)
    (arg4 : Memref sig .tc .vmem S256x2048 .f32) (harg4 : arg4.IsWhole) (x : S5120x2048.Idx → Elt F .f32) (y : S2304x2048.Idx → Elt F .f32)
    (idx : S4096.Idx → BitVec 32) (hnn : ∀ j, (0 : ℤ) ≤ (idx j).toInt) (W : Waits sig Unit) (K : PUnit → sProp 𝕄) :
    iprop(owns (c : Thread nD τ) arg3 fullShare idx ∗ (∃ d, owns (c : Thread nD τ) arg4 fullShare d)
        ∗ (semVal ((c : Thread nD τ), SemLoc.dma cc0_scratch0.sem) 0 ∗ semVal ((c : Thread nD τ), SemLoc.dma cc0_scratch1.sem) 0)
        ∗ ((xM.view.loc (c : Thread nD τ) ↦{fullShare} x) ∗ (yM.view.loc (c : Thread nD τ) ↦{fullShare} y))
        ∗ owes (c : Thread nD τ) 0 W
        ∗ (iprop(owns (c : Thread nD τ) arg3 fullShare idx ∗ owns (c : Thread nD τ) arg4 fullShare (blockOf i x y idx)
            ∗ (semVal ((c : Thread nD τ), SemLoc.dma cc0_scratch0.sem) 0 ∗ semVal ((c : Thread nD τ), SemLoc.dma cc0_scratch1.sem) 0)
            ∗ ((xM.view.loc (c : Thread nD τ) ↦{fullShare} x) ∗ (yM.view.loc (c : Thread nD τ) ↦{fullShare} y))
            ∗ ∃ W', owes (c : Thread nD τ) 0 W') -∗ K ⟨⟩))
    ⊢ wp frame (wpE (defs₀ (F := F)) Variants.none (c : Thread nD τ) none) Set.univ
        (cc0_body i xM (Memref.isWhole_whole _) yM (Memref.isWhole_whole _) arg3 harg3 arg4 harg4 cc0_scratch0 cc0_scratch1) K := by
  rw [cc0_body_eq_skeleton]
  exact gather_two_block (defs := defs₀ (F := F)) (U := Pipeline.UD sig nD τ) (R := 4096) (X := 5120) (Y := 2304) (D := 2048) (T := 256) Variants.none (by decide) c arg3 arg4 xM yM
    cc0_scratch0.sem cc0_scratch1.sem k0_t1_ok (fun k => k0_off1 i k) (fun k => k0_off1_inb i k) (fun _ => numel1_S1) k0_off2 k0_off2_inb k0_chk1 k0_chk1.dec
    k0_cond1 k0_cond2 k0_off3 k0_off3_inb k0_off5 k0_off5_inb (256 * (i 0).val) trips_eq (rows_in i) (fun k => k0_off1_eq i k) k0_off2_eq
    first_side second_side (fun _ => rfl) second_row (fun _ h h' => ⟨h, h'⟩) (View.set_whole _) (View.set_whole _) harg4 x y idx hnn
    (k0_t1_body i xM (Memref.isWhole_whole _) yM (Memref.isWhole_whole _) arg3 harg3 arg4 harg4 cc0_scratch0 cc0_scratch1)
    (k0_t2_body i xM (Memref.isWhole_whole _) yM (Memref.isWhole_whole _) arg3 harg3 arg4 harg4 cc0_scratch0 cc0_scratch1)
    (arg4.slice (Rect.unit (s := S256x2048) ![0, 0] S1x2048.size inb_S256x2048_S1x2048_0_0) (fun _ => rfl))
    (xM.slice (Rect.unit (s := S5120x2048) ![0, 0] S1x2048.size inb_S5120x2048_S1x2048_0_0) (fun _ => rfl))
    (yM.slice (Rect.unit (s := S2304x2048) ![0, 0] S1x2048.size inb_S2304x2048_S1x2048_0_0) (fun _ => rfl))
    (fun _ _ => rfl) (fun _ _ => rfl) (fun _ => rfl) (View.dmaCredit_pos _ (by show 0 < (⟨2, ![1, 2048]⟩ : Shape).numel; decide)) W K

end Cert.GatherOutProof

end
-- ==== Proof.GatherOutRun.lean ====
/-
  The second use of `_gather_two`, whole: sixteen grid points of 256 rows each, run by the pipeline, leave the layer's result
  gathered out of the two arrays, the arguments as they were and every counter at zero.
-/
module

public import proofs.«01_k».proof.Proof.GatherOutBody
public import proofs.«01_k».proof.Proof.Gen.GatherOutIdeal.Points
public import Idealize.ShloMosaic.Lib.Pipeline.FrameBody
public import Idealize.ShloMosaic.Lib.Pipeline.Value

@[expose] public section

set_option maxRecDepth 16384

noncomputable section

namespace Cert.GatherOutProof

open Cert.GatherOutIdeal Cert.GatherOutIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.GatherProof

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch starts from -/

/-- The buffers of device `c` when the kernel starts: those of the launch. -/
abbrev entry (c : Dev nD) (b : Ref sig .tc) : Buf (Elt F) ((c : Thread nD τ).loc b) := m ((c : Thread nD τ).loc b)

abbrev firsts (c : Dev nD) : S5120x2048.Idx → Elt F .f32 := entry m c main_arg0
abbrev seconds (c : Dev nD) : S2304x2048.Idx → Elt F .f32 := entry m c main_arg1
abbrev places (c : Dev nD) : S4096.Idx → BitVec 32 := entry m c main_arg2

/-- The program is one launch of the kernel. -/
theorem one_launch (𝒱₀ : Variants) :
    Pipeline.HMain (Ix := Unit) (Name := ℕ) (U := Pipeline.UD sig nD τ) (Lvl := ℕ) cfgs 0 defs₀ 𝒱₀ m (main (F := F)) (entry m) :=
  Pipeline.hmain_region cfgs 0 defs₀ 𝒱₀ m main fun c => (main_chain c).trans rfl

/-- The body's own two semaphores. -/
abbrev ownSem : Fin 2 → SemLoc sig := ![SemLoc.dma 3, SemLoc.dma 4]

theorem ownSem_facts : Pipeline.OwnSemFacts spec0 ownSem := by decide

theorem ownSems_pair (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma cc0_scratch0.sem) 0 ∗ semVal ((c : Thread nD τ), SemLoc.dma cc0_scratch1.sem) 0) := by
  rw [Pipeline.ownSems0_eq_of_list c ownSem [0, 1] (by decide) (by decide)]; rfl

/-- The two arrays of rows, which the body's copies read where they lie. -/
def sources : Finset (Ref sig .tc) := {main_arg0, main_arg1}

theorem sources_sub : sources ⊆ Pipeline.restRefs sig spec0 := by decide

theorem sources_pair (c : Dev nD) :
    (bigSep sources (fun b => ((c : Thread nD τ).loc b) ↦{fullShare} entry m c b) : sProp 𝕄)
      = iprop((xM.view.loc (c : Thread nD τ) ↦{fullShare} firsts m c) ∗ (yM.view.loc (c : Thread nD τ) ↦{fullShare} seconds m c)) := by
  rw [BI.bigSep_eq_bigSepL_of_eq [main_arg0, main_arg1] (by decide) (by decide)]; rfl

/-- What is carried from one grid point to the next besides the blocks. -/
theorem carried_eq (c : Dev nD) :
    (Pipeline.ΦD ownSem spec0 sources (entry m) c : sProp 𝕄)
      = iprop(BI.emp ∗ (∃ r, prngReg c r)
          ∗ iprop(semVal ((c : Thread nD τ), SemLoc.dma cc0_scratch0.sem) 0 ∗ semVal ((c : Thread nD τ), SemLoc.dma cc0_scratch1.sem) 0)
          ∗ iprop((xM.view.loc (c : Thread nD τ) ↦{fullShare} firsts m c) ∗ (yM.view.loc (c : Thread nD τ) ↦{fullShare} seconds m c))) := by
  rw [Pipeline.ΦD_eq, scopedRest0_eq, ownSems_pair, sources_pair]

/-! ## The blocks -/

/-- Both index maps, over the grid: the places are one block, the result's block is the grid point's. -/
theorem block_index : ∀ t : Fin cfg0.N, win0_0.index t (0 : Fin 1) = 0 ∧ win0_1.index t (0 : Fin 2) = t.val ∧ win0_1.index t (1 : Fin 2) = 0
    ∧ ((grid0.coords t) 0).val = t.val :=
  (by decide +kernel : ∀ t : Fin grid0.N, _)

/-- The one block of the places is all of them. -/
theorem places_block (c : Dev nD) (t : Fin cfg0.N) : ((cfg0.win 0).blk t).view.read (Elt F) (places m c) = places m c := by
  funext j
  refine congrArg (places m c) (funext fun a => Fin.ext ?_)
  have e := (block_index t).1
  match a with
  | ⟨0, _⟩ =>
    show win0_0.index t (0 : Fin 1) * 4096 + 1 * (j 0).val = (j 0).val
    omega

/-- The layer's result on device `c`. -/
abbrev result (c : Dev nD) : S4096x2048.Idx → Elt F .f32 := merged (firsts m c) (seconds m c) (places m c)

/-- What each block holds after the body at point `t`: the places still, and the point's 256 rows. -/
def dats (_ : Fin 1) (c : Dev nD) : Dat τ (Elt F) Unit ℕ (Pipeline.UD sig nD τ) ℕ cfg0 c where
  A w := entry m c (Pipeline.arrRef spec0 w)
  after w t := match w with
    | ⟨0, _⟩ => places m c
    | ⟨1, _⟩ => blockOf (grid0.coords t) (firsts m c) (seconds m c) (places m c)
  Φ _ := Pipeline.ΦD ownSem spec0 sources (entry m) c
  q _ := fullShare
  owed _ := 0

theorem array_eq (c : Dev nD) (w : Fin cfg0.W) : (dats m 0 c).A w = entry m c (Pipeline.arrRef spec0 w) := by
  dsimp only [dats]
theorem after_places (c : Dev nD) (t : Fin cfg0.N) : (dats m 0 c).after 0 t = places m c := by dsimp only [dats]
theorem after_rows (c : Dev nD) (t : Fin cfg0.N) :
    (dats m 0 c).after 1 t = blockOf (grid0.coords t) (firsts m c) (seconds m c) (places m c) := by dsimp only [dats]

/-- The places are in scalar memory at every point. -/
theorem before_places (c : Dev nD) (t : Fin cfg0.N) (d) : (dats m 0 c).before 0 t d = places m c :=
  ((dats m 0 c).before_in_eq_fetched 0 rfl (fun _ => rfl) (fun _ _ _ => rfl)
    (fun t => by rw [after_places]; unfold Dat.blockOf; rw [array_eq]; exact (places_block m c t).symm) t d).trans
    (by unfold Dat.fetched Dat.blockOf; rw [array_eq]; exact places_block m c t)

/-! ## Every grid point -/

variable (hnn : ∀ c i, (0 : ℤ) ≤ (places m c i).toInt)

include hnn in
/-- The body at point `t`, in the pipeline's terms. -/
theorem point_run (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none (c : Thread nD τ) none) Set.univ (bodyAt0 t)
        (fun _ => iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t))) := by
  rw [show (dats m 0 c).Φ t.castSucc = Pipeline.ΦD ownSem spec0 sources (entry m) c from rfl,
    show (dats m 0 c).Φ t.succ = Pipeline.ΦD ownSem spec0 sources (entry m) c from rfl, carried_eq, after_places, after_rows]
  simp only [before_places]
  unfold Dat.owesAt Pipeline.owesWithin
  rw [show (dats m 0 c).owed t.castSucc = 0 from rfl, show (dats m 0 c).owed t.succ = 0 from rfl]
  iintro ⟨⟨-, Hg, Hsem, Hsrc⟩, ⟨%W, -, HW⟩, ⟨%d0, HI⟩, ⟨%d1, HC⟩⟩
  iapply (body_run c (grid0.coords t) _ _ _ _ (firsts m c) (seconds m c) (places m c) (hnn c) W _)
  isplitl [HI]; · iexact HI
  isplitl [HC]; · iexists _; iexact HC
  isplitl [Hsem]; · iexact Hsem
  isplitl [Hsrc]; · iexact Hsrc
  isplitl [HW]; · iexact HW
  iintro ⟨HI, HC, Hsem, Hsrc, ⟨%W', HW'⟩⟩
  isplitl [Hg Hsem Hsrc]
  · isplitl []; · iempintro
    isplitl [Hg]; · iexact Hg
    isplitl [Hsem]; · iexact Hsem
    iexact Hsrc
  isplitl [HW']
  · iexists W'; isplitr; · ipureintro; exact fun _ _ => Or.inl trivial
    iexact HW'
  isplitl [HI]; · iexact HI
  iexact HC

theorem body_at (t : Fin cfg0.N) : defs₀ (F := F) .tc cfg0.body (cfg0.bodyArgs t (cfg0.slots t)) = bodyAt0 t := by
  unfold defs₀; rw [Defs.onTc_tc]

include hnn in
theorem every_point (c : Dev nD) : BodyObligation (dats (F := F) m 0 c) (defs₀ (F := F)) Variants.none () Set.univ := fun t => by
  rw [bigSep_W0, bigSep_W0, body_at]
  exact triple_restated (point_run m hnn c t) rfl .rfl fun _ => .rfl

/-! ## The array the blocks make -/

/-- Each point writes back its block of the result. -/
theorem written (c : Dev nD) (t : Fin cfg0.N) : (dats m 0 c).flushed 1 t = ((cfg0.win 1).blk t).view.read (Elt F) (result m c) := by
  show (cfg0.win 1).cut (grid0.coords t) ((dats m 0 c).after 1 t) = _
  rw [after_rows]
  obtain ⟨-, e0, e1, ec⟩ := block_index t
  funext j
  show result m c (at2 _ _) = result m c (((cfg0.win 1).blk t).view.emb j)
  refine congrArg (result m c) (funext fun a => Fin.ext ?_)
  match a with
  | ⟨0, _⟩ =>
    show 256 * ((grid0.coords t) 0).val + (j 0).val = win0_1.index t (0 : Fin 2) * 256 + 1 * (j 0).val
    omega
  | ⟨1, _⟩ =>
    show (j 1).val = win0_1.index t (1 : Fin 2) * 2048 + 1 * (j 1).val
    omega

/-- Every row of the result lies in some point's block. -/
theorem all_rows (i : S4096x2048.Idx) : ∃ t : Fin cfg0.N, (cfg0.win 1).flush t = true ∧ i ∈ ((cfg0.win 1).blk t).view.set := by
  have h0 : (i 0).val < 4096 := (i 0).isLt
  have h1 : (i 1).val < 2048 := (i 1).isLt
  have hN : (i 0).val / 256 < cfg0.N := lt_of_lt_of_eq (by omega) N_0.symm
  refine ⟨⟨(i 0).val / 256, hN⟩, flush0_1 _, ?_⟩
  obtain ⟨-, e0, e1, -⟩ := block_index ⟨(i 0).val / 256, hN⟩
  show i ∈ ((View.whole main_v0).slice (win0_1.rect ⟨(i 0).val / 256, hN⟩)).set
  rw [View.set_slice_whole, Rect.mem_set_unit]
  intro a
  match a with
  | ⟨0, _⟩ =>
    show win0_1.index _ (0 : Fin 2) * 256 ≤ (i 0).val ∧ (i 0).val < win0_1.index _ (0 : Fin 2) * 256 + 256
    rw [e0]; dsimp only; omega
  | ⟨1, _⟩ =>
    show win0_1.index _ (1 : Fin 2) * 2048 ≤ (i 1).val ∧ (i 1).val < win0_1.index _ (1 : Fin 2) * 2048 + 2048
    rw [e1]; omega

/-- After the last point the result's array holds the rows gathered. -/
theorem whole_result (c : Dev nD) : (dats m 0 c).arrAt 1 cfg0.N = result m c :=
  (dats m 0 c).arrAt_eq_of_cover 1 _ (fun t _ => written m c t) all_rows

/-! ## The run -/

include hnn in
set_option backward.isDefEq.respectTransparency.types false in
theorem region_run : θ_run defs (onTc (τ := τ) (main (F := F))) (s₀ m ρ)
    (fun r => Pipeline.FramePost cfgs (dats m) 0 (entry m) r ∧ r.2.sem = fun _ => 0) :=
  Pipeline.θ_run_frame_dma (Q' := _) cfgs (dats m) (0 : Fin 1) launch0 ownSem defs₀ Variants.none ownSem_facts sources sources_sub m ρ main
    (hbody := fun c => (every_point m hnn c).loose) (hshare := fun c => (dats m 0 c).share_full fun _ => rfl)
    (howed := fun _ _ => rfl) (V := entry m) (hmain := one_launch m Variants.none) (hA := array_eq m)
    (hin := fun _ => .rfl) (hout := fun _ => .rfl)

include hnn in
/-- The whole program: the result gathered, the arguments unchanged, every counter at zero. -/
theorem run_main : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 1).trans (whole_result m c),
      (h.1 c).2 main_arg0 (Pipeline.mem_restRefs_of main_arg0 (by decide) (by decide)),
      (h.1 c).2 main_arg1 (Pipeline.mem_restRefs_of main_arg1 (by decide) (by decide)),
      ((h.1 c).1 0).trans (((dats m 0 c).arrAt_in 0 rfl _).trans (array_eq m c 0))⟩, h.2⟩) (region_run m ρ hnn)

end Cert.GatherOutProof

end
-- ==== Proof.GatherOutRef.lean ====
/-
  The reference of the second use of `_gather_two`: the rows taken, by place, of the two arrays laid one after the other.
-/
module

public import proofs.«01_k».proof.Proof.GatherOutBody
public import proofs.«01_k».proof.Proof.TakeRows
public import proofs.«01_k».proof.Proof.Gen.GatherOutRefIdeal.Run
public import proofs.«01_k».proof.Proof.Gen.GatherOutRefIdeal.Read
public import proofs.«01_k».proof.Proof.Gen.Pre_places_nonneg
public import Idealize.ShloMosaic.Lib.Pipeline.Value

@[expose] public section

set_option maxRecDepth 16384

noncomputable section

namespace Cert.GatherOutProof

open Idealize.ShloMosaic Cert.GatherProof Cert.TakeRows Cert.GatherOutRefIdeal.Read
open Idealize.ShloMosaic.TcCoe

variable {F : FTy → Type} [FloatOps F]

/-! ## The precondition -/

instance : Subsingleton Cert.Pre_places_nonneg.S_.Idx := ⟨fun a b => funext fun k => k.elim0⟩

/-- The precondition, read at a row of the result: its place is not negative. -/
theorem places_of_pre (x : FVec F Cert.Pre_places_nonneg.S5120x2048 .f32) (y : FVec F Cert.Pre_places_nonneg.S2304x2048 .f32)
    (idx : IVec Cert.Pre_places_nonneg.S4096 32) (h : Cert.Pre_places_nonneg.fn (F := F) x y idx = fun _ => 1#1)
    (i : Cert.Pre_places_nonneg.S4096.Idx) : 0 ≤ (idx i).toInt :=
  nonneg_of_sge _ (Host.reduce_andi_all _ _ _ _ _ (congrFun h fun k => k.elim0) i)

/-! ## The reference's result -/

variable (x : (⟨Cert.GatherOutRefIdeal.S5120x2048, .f32⟩ : BufTy).Contents (Elt F)) (y : (⟨Cert.GatherOutRefIdeal.S2304x2048, .f32⟩ : BufTy).Contents (Elt F))
  (idx : (⟨Cert.GatherOutRefIdeal.S4096, .i32⟩ : BufTy).Contents (Elt F))

/-- The host's gather, as rows named by the places. -/
theorem taken (hnn : ∀ i, 0 ≤ (idx i : BitVec 32).toInt) :
    val_main_v7 (F := F) x y idx = rowsBy (R := 4096) (X := 7424) (D := 2048) (by decide) idx (val_main_v0 (F := F) x y) := by
  refine gather_rowsBy (by decide) _ _ _ _ (fun i => ?_) hnn
  have e : Cert.GatherOutRefIdeal.Read.idx_main_v6 (at2 i (0 : Fin 1)) = at1 i := funext fun k => by
    match k with
    | ⟨0, _⟩ => rfl
  rw [val_main_v6_apply, e, val_main_v5_apply, val_main_v2_apply]
  exact unwrapped _ _ (hnn _)

/-- The reference leaves what the kernel leaves. -/
theorem reference_eq (hnn : ∀ i, 0 ≤ (idx i : BitVec 32).toInt) : val_main_v7 (F := F) x y idx = merged x y idx :=
  (taken x y idx hnn).trans (funext fun i => laid_row (X := 5120) (Y := 2304) (D := 2048) (by decide) rfl (by decide) x y
    Cert.GatherOutRefIdeal.Gen.facts.concatenates_S5120x2048_S2304x2048_S7424x2048_d0 (idx (at1 (i 0))) (i 1))

end Cert.GatherOutProof

end
-- ==== Proof.GatherOutClaims.lean ====
/-
The claims about the second use of `_gather_two`.
-/
module

public import proofs.«01_k».proof.Defs
public import proofs.«01_k».proof.Proof.GatherOutRun
public import proofs.«01_k».proof.Proof.GatherOutRef
public import proofs.«01_k».proof.Proof.Gen.GatherOut

@[expose] public section

set_option maxRecDepth 16384

noncomputable section

namespace Cert.GatherOutProof

open Idealize.ShloMosaic Idealize.SL.Sem

/-- The printed program and its reading with ideal numbers have one body table. -/
theorem bodies_eq {F : FTy → Type} [FloatOps F] : Cert.GatherOut.defs₀ (F := F) = Cert.GatherOutIdeal.defs₀ (F := F) := by
  refine congrArg Defs.onTc (funext fun ℓ => funext fun a => ?_)
  match ℓ, a with
  | 0, (t, s) => rfl

theorem table_eq {F : FTy → Type} [FloatOps F] : Cert.GatherOut.defs (F := F) = Cert.GatherOutIdeal.defs (F := F) :=
  congrArg (Pipeline.defs Cert.GatherOutIdeal.pcfgs) bodies_eq

/-- The gather, at words: it runs, leaves its arguments and every counter as they were. -/
theorem quiescent_words : Cert.quiescent_GatherOut := by
  intro m ρ hp
  have hnn : ∀ c i, (0 : ℤ) ≤ (places (F := Bits) m c i).toInt := fun c i => places_of_pre (F := Bits) _ _ _ (hp c) i
  rw [table_eq]
  exact (θ_run Cert.GatherOutIdeal.defs _ _).mono (fun r h => ⟨fun c => (h.1 c).2, h.2⟩) (run_main (F := Bits) m ρ hnn)

/-- The same with ideal numbers. -/
theorem quiescent_ideal : Cert.quiescent_GatherOutIdeal := fun m ρ hp =>
  (θ_run Cert.GatherOutIdeal.defs _ _).mono (fun _ h => ⟨fun c => (h.1 c).2, h.2⟩)
    (run_main (F := Ideal) m ρ fun c i => places_of_pre _ _ _ (hp c) i)

/-- The reference's run leaves its arguments alone and has no semaphores. -/
theorem quiescent_ref : Cert.quiescent_GatherOutRefIdeal := fun m ρ _ =>
  (θ_run Cert.GatherOutRefIdeal.defs _ _).mono (fun r h => ⟨fun c => (h c).2, sem_eq_zero_of_no_sems (by decide) r.2⟩)
    (Cert.GatherOutRefIdeal.Value.run (F := Ideal) m ρ)

theorem quiescent_ref_pre : Cert.quiescent_GatherOutRefIdeal_pre_places_nonneg := fun m ρ _ => quiescent_ref m ρ trivial

/-- From the same arguments the kernel and the reference leave the same array. -/
theorem algebraic : Cert.algebraic_GatherOutIdeal_GatherOutRefIdeal := by
  intro m ρ m' ρ' hp hb
  have hnn : ∀ c i, (0 : ℤ) ≤ (places m c i).toInt := fun c i => places_of_pre _ _ _ (hp c) i
  refine ⟨fun c => result m c, (θ_run Cert.GatherOutIdeal.defs _ _).mono (fun r h => h.1) (run_main (F := Ideal) m ρ hnn), ?_⟩
  refine (θ_run Cert.GatherOutRefIdeal.defs _ _).mono (fun r h c => ⟨?_, (h c).2⟩) (Cert.GatherOutRefIdeal.Value.run (F := Ideal) m' ρ')
  refine (h c).1.trans ((Cert.GatherOutRefIdeal.Read.val_main_v7_eq _ _ _).trans ?_)
  rw [(hb c).1, (hb c).2.1, (hb c).2.2]
  exact reference_eq _ _ _ (hnn c)

end Cert.GatherOutProof

end
-- ==== Proof.lean ====
/-
The claims about the dispatch call, the combine call, the experts' products and the two gathers, of the experts'
rows and of the layer's result, put together: Proof/DispatchClaims.lean, Proof/CombineClaims.lean,
Proof/ExpertsClaims.lean, Proof/GatherInClaims.lean and Proof/GatherOutClaims.lean prove each of them.
-/
module

public import proofs.«01_k».proof.Defs
public import proofs.«01_k».proof.Proof.Gen.Dispatch
public import proofs.«01_k».proof.Proof.Gen.DispatchIdeal
public import proofs.«01_k».proof.Proof.Gen.DispatchIdeal.Skeleton
public import proofs.«01_k».proof.Proof.Gen.DispatchIdeal.Loops
public import proofs.«01_k».proof.Proof.Gen.DispatchIdeal.Launch
public import proofs.«01_k».proof.Proof.Gen.DispatchIdeal.Points
public import proofs.«01_k».proof.Proof.Gen.DispatchRefIdeal
public import proofs.«01_k».proof.Proof.Gen.DispatchRefIdeal.Run
public import proofs.«01_k».proof.Proof.Gen.DispatchRefIdeal.Read
public import proofs.«01_k».proof.Proof.Gen.Combine
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineIdeal.Points
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Experts
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.GatherIn
public import proofs.«01_k».proof.Proof.Gen.GatherInIdeal
public import proofs.«01_k».proof.Proof.Gen.GatherInIdeal.Skeleton
public import proofs.«01_k».proof.Proof.Gen.GatherInIdeal.Loops
public import proofs.«01_k».proof.Proof.Gen.GatherInIdeal.Launch
public import proofs.«01_k».proof.Proof.Gen.GatherInIdeal.Points
public import proofs.«01_k».proof.Proof.Gen.GatherInRefIdeal
public import proofs.«01_k».proof.Proof.Gen.GatherInRefIdeal.Run
public import proofs.«01_k».proof.Proof.Gen.GatherInRefIdeal.Read
public import proofs.«01_k».proof.Proof.Gen.Pre_origins_nonneg
public import proofs.«01_k».proof.Proof.Gen.GatherOut
public import proofs.«01_k».proof.Proof.Gen.GatherOutIdeal
public import proofs.«01_k».proof.Proof.Gen.GatherOutIdeal.Skeleton
public import proofs.«01_k».proof.Proof.Gen.GatherOutIdeal.Loops
public import proofs.«01_k».proof.Proof.Gen.GatherOutIdeal.Launch
public import proofs.«01_k».proof.Proof.Gen.GatherOutIdeal.Points
public import proofs.«01_k».proof.Proof.Gen.GatherOutRefIdeal
public import proofs.«01_k».proof.Proof.Gen.GatherOutRefIdeal.Run
public import proofs.«01_k».proof.Proof.Gen.GatherOutRefIdeal.Read
public import proofs.«01_k».proof.Proof.Gen.Pre_places_nonneg
public import proofs.«01_k».proof.Proof.DispatchClaims
public import proofs.«01_k».proof.Proof.CombineClaims
public import proofs.«01_k».proof.Proof.ExpertsClaims
public import proofs.«01_k».proof.Proof.GatherInClaims
public import proofs.«01_k».proof.Proof.GatherOutClaims

@[expose] public section

noncomputable section

namespace Cert.Proof

/-- Everything the certificate claims. -/
theorem claim : Cert.Claim :=
  ⟨Cert.Dispatch.Gen.facts, Cert.DispatchIdeal.Gen.facts, Cert.DispatchRefIdeal.Gen.facts,
    Cert.Combine.Gen.facts, Cert.CombineIdeal.Gen.facts, Cert.CombineRefIdeal.Gen.facts,
    Cert.Experts.Gen.facts, Cert.ExpertsIdeal.Gen.facts, Cert.ExpertsRefIdeal.Gen.facts,
    Cert.GatherIn.Gen.facts, Cert.GatherInIdeal.Gen.facts, Cert.GatherInRefIdeal.Gen.facts,
    Cert.GatherOut.Gen.facts, Cert.GatherOutIdeal.Gen.facts, Cert.GatherOutRefIdeal.Gen.facts,
    Cert.Pre_rows_nonneg_Dispatch.Gen.facts, Cert.Pre_rows_nonneg_DispatchRefIdeal.Gen.facts,
    Cert.Pre_slots_nonneg_Combine.Gen.facts, Cert.Pre_slots_nonneg_CombineRefIdeal.Gen.facts,
    Cert.Pre_origins_nonneg.Gen.facts, Cert.Pre_places_nonneg.Gen.facts,
    Cert.DispatchProof.quiescent_words, Cert.DispatchProof.quiescent_ideal, Cert.DispatchProof.quiescent_ref,
    Cert.DispatchProof.quiescent_ref_pre,
    Cert.CombineProof.quiescent_words, Cert.CombineProof.quiescent_ideal, Cert.CombineProof.quiescent_ref,
    Cert.CombineProof.quiescent_ref_pre,
    Cert.ExpertsProof.quiescent_words, Cert.ExpertsProof.quiescent_ideal, Cert.ExpertsProof.quiescent_ref,
    Cert.GatherInProof.quiescent_words, Cert.GatherInProof.quiescent_ideal, Cert.GatherInProof.quiescent_ref,
    Cert.GatherInProof.quiescent_ref_pre,
    Cert.GatherOutProof.quiescent_words, Cert.GatherOutProof.quiescent_ideal, Cert.GatherOutProof.quiescent_ref,
    Cert.GatherOutProof.quiescent_ref_pre,
    trivial, Cert.DispatchProof.algebraic, trivial, Cert.CombineProof.algebraic, trivial, Cert.ExpertsProof.algebraic,
    trivial, Cert.GatherInProof.algebraic, trivial, Cert.GatherOutProof.algebraic⟩

end Cert.Proof

end
